-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite [hPre_finite : Cert.Pre_finite.Facts] (m : (ℓ : Loc Cert.MixIdeal.nD Cert.MixIdeal.τ Cert.MixIdeal.sig) → Buf (Elt Ideal) ℓ) : Prop :=
  ∀ c : Dev Cert.MixIdeal.nD,
    (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).1 = (fun _ => 1#1)
    ∧ (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite [hPre_finite : Cert.Pre_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).1 = (fun _ => 1#1)
    ∧ (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_finite [hMixIdeal : Cert.MixIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_finite [hMixRefIdeal : Cert.MixRefIdeal.Facts] [hPre_finite : Cert.Pre_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v55) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Mix_MixIdeal : Prop :=
  True

def algebraic_MixIdeal_MixRefIdeal_pre_finite [hMixIdeal : Cert.MixIdeal.Facts] [hMixRefIdeal : Cert.MixRefIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v32_0)) (v1 : (c : Dev Cert.MixIdeal.nD) → Buf (Elt Ideal) ((c.tc : Thread Cert.MixIdeal.nD Cert.MixIdeal.τ).loc Cert.MixIdeal.main_v32_1)) (v2 : (c : Dev Cert.MixIdeal.nD) → Buf (Elt Ideal) ((c.tc : Thread Cert.MixIdeal.nD Cert.MixIdeal.τ).loc Cert.MixIdeal.main_v32_2)) (v3 : (c : Dev Cert.MixIdeal.nD) → Buf (Elt Ideal) ((c.tc : Thread Cert.MixIdeal.nD Cert.MixIdeal.τ).loc Cert.MixIdeal.main_v32_3)) (v4 : (c : Dev Cert.MixIdeal.nD) → Buf (Elt Ideal) ((c.tc : Thread Cert.MixIdeal.nD Cert.MixIdeal.τ).loc Cert.MixIdeal.main_v32_4)) (v5 : (c : Dev Cert.MixIdeal.nD) → Buf (Elt Ideal) ((c.tc : Thread Cert.MixIdeal.nD Cert.MixIdeal.τ).loc Cert.MixIdeal.main_v32_5)) (v6 : (c : Dev Cert.MixIdeal.nD) → Buf (Elt Ideal) ((c.tc : Thread Cert.MixIdeal.nD Cert.MixIdeal.τ).loc Cert.MixIdeal.main_v32_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v32_0) = v0 c
          ∧ r.2.mem ((c.tc : Thread Cert.MixIdeal.nD Cert.MixIdeal.τ).loc Cert.MixIdeal.main_v32_1) = v1 c
          ∧ r.2.mem ((c.tc : Thread Cert.MixIdeal.nD Cert.MixIdeal.τ).loc Cert.MixIdeal.main_v32_2) = v2 c
          ∧ r.2.mem ((c.tc : Thread Cert.MixIdeal.nD Cert.MixIdeal.τ).loc Cert.MixIdeal.main_v32_3) = v3 c
          ∧ r.2.mem ((c.tc : Thread Cert.MixIdeal.nD Cert.MixIdeal.τ).loc Cert.MixIdeal.main_v32_4) = v4 c
          ∧ r.2.mem ((c.tc : Thread Cert.MixIdeal.nD Cert.MixIdeal.τ).loc Cert.MixIdeal.main_v32_5) = v5 c
          ∧ r.2.mem ((c.tc : Thread Cert.MixIdeal.nD Cert.MixIdeal.τ).loc Cert.MixIdeal.main_v32_6) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v143) = v0 c
          ∧ r.2.mem ((c.tc : Thread Cert.MixRefIdeal.nD Cert.MixRefIdeal.τ).loc Cert.MixRefIdeal.main_v145) = v1 c
          ∧ r.2.mem ((c.tc : Thread Cert.MixRefIdeal.nD Cert.MixRefIdeal.τ).loc Cert.MixRefIdeal.main_v147) = v2 c
          ∧ r.2.mem ((c.tc : Thread Cert.MixRefIdeal.nD Cert.MixRefIdeal.τ).loc Cert.MixRefIdeal.main_v149) = v3 c
          ∧ r.2.mem ((c.tc : Thread Cert.MixRefIdeal.nD Cert.MixRefIdeal.τ).loc Cert.MixRefIdeal.main_v151) = v4 c
          ∧ r.2.mem ((c.tc : Thread Cert.MixRefIdeal.nD Cert.MixRefIdeal.τ).loc Cert.MixRefIdeal.main_v153) = v5 c
          ∧ r.2.mem ((c.tc : Thread Cert.MixRefIdeal.nD Cert.MixRefIdeal.τ).loc Cert.MixRefIdeal.main_v155) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMix : Cert.Mix.Facts) (hMixIdeal : Cert.MixIdeal.Facts) (hMixRefIdeal : Cert.MixRefIdeal.Facts) (hPre_finite : Cert.Pre_finite.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mix (hMix := hMix)
    ∧ quiescent_MixIdeal (hMixIdeal := hMixIdeal)
    ∧ quiescent_MixIdeal_pre_finite (hMixIdeal := hMixIdeal) (hPre_finite := hPre_finite)
    ∧ quiescent_MixRefIdeal (hMixRefIdeal := hMixRefIdeal)
    ∧ quiescent_MixRefIdeal_pre_finite (hMixRefIdeal := hMixRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Mix_MixIdeal
    ∧ algebraic_MixIdeal_MixRefIdeal_pre_finite (hMixIdeal := hMixIdeal) (hMixRefIdeal := hMixRefIdeal) (hPre_finite := hPre_finite)
-- ==== Pre_finite.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x1024 : S_.BroadcastsInDim S1x1024 (![] : Fin 0 → Fin S1x1024.rank)
  bcast_S_S1x1024x5632 : S_.BroadcastsInDim S1x1024x5632 (![] : Fin 0 → Fin S1x1024x5632.rank)

variable [Facts]

def fn {F : FTy → Type} [FloatOps F] (main_arg0 : FVec F S8x2048x1024 .f32) (main_arg1 : FVec F S1x1024 .f32) (main_arg2 : FVec F S1x1024x5632 .f32) (main_arg3 : FVec F S1x1024x4096 .f32) (main_arg4 : FVec F S1x1024x4096 .f32) (main_arg5 : FVec F S1x4096x1024 .f32) : IVec S1x1024 1 × IVec S1x1024x5632 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x5632 .f32 := Host.absf main_arg2
  let main_cst_0 : FVec F S_ .f32 := constant S_ .f32 0x7F800000#32
  let main_v4 : FVec F S1x1024x5632 .f32 := broadcastInDim S1x1024x5632 ![] bcast_S_S1x1024x5632 main_cst_0
  let main_v5 : IVec S1x1024x5632 1 := cmpf .olt main_v3 main_v4
  (main_v2, main_v5)
-- ==== Ffn.lean ====
abbrev S8x2048x1024 : Shape := ⟨3, ![8, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024, .f32⟩
  | .hbm, ⟨3, _⟩ => ⟨S1x1024x4096, .f32⟩
  | .hbm, ⟨4, _⟩ => ⟨S1x1024x4096, .f32⟩
  | .hbm, ⟨5, _⟩ => ⟨S1x4096x1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x4096, .f32⟩
  | .hbm, ⟨12, _⟩ => ⟨S1024x4096, .bf16⟩
  | .hbm, ⟨13, _⟩ => ⟨S1024x4096, .f32⟩
  | .hbm, ⟨14, _⟩ => ⟨S1024x4096, .bf16⟩
  | .hbm, ⟨15, _⟩ => ⟨S4096x1024, .f32⟩
  | .hbm, ⟨16, _⟩ => ⟨S4096x1024, .bf16⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S1024x4096, .bf16⟩
  | .local _ .vmem, ⟨6, _⟩ => ⟨S4096x1024, .bf16⟩
  | .local _ .vmem, ⟨7, _⟩ => ⟨S1024x1024, .f32⟩
  | .local _ .vmem, ⟨8, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S8x2048x1024 : Shape := ⟨3, ![8, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S4096x1024 : Shape := ⟨2, ![4096, 1024]⟩
abbrev S8x2048x4096 : Shape := ⟨3, ![8, 2048, 4096]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024, .f32⟩
  | .hbm, ⟨3, _⟩ => ⟨S1x1024x4096, .f32⟩
  | .hbm, ⟨4, _⟩ => ⟨S1x1024x4096, .f32⟩
  | .hbm, ⟨5, _⟩ => ⟨S1x4096x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x4096, .f32⟩
  | .hbm, ⟨24, _⟩ => ⟨S1024x4096, .f32⟩
  | .hbm, ⟨25, _⟩ => ⟨S4096x1024, .f32⟩
  | .hbm, ⟨26, _⟩ => ⟨S8x2048x4096, .f32⟩
  | .hbm, ⟨27, _⟩ => ⟨S8x2048x4096, .f32⟩
  | .hbm, ⟨28, _⟩ => ⟨S8x2048x4096, .f32⟩
  | .hbm, ⟨29, _⟩ => ⟨S_, .f32⟩
  | .hbm, ⟨30, _⟩ => ⟨S8x2048x4096, .f32⟩
  | .hbm, ⟨31, _⟩ => ⟨S8x2048x4096, .f32⟩
  | .hbm, ⟨32, _⟩ => ⟨S_, .f32⟩
  | .hbm, ⟨33, _⟩ => ⟨S8x2048x4096, .f32⟩
  | .hbm, ⟨34, _⟩ => ⟨S8x2048x4096, .f32⟩
  | .hbm, ⟨35, _⟩ => ⟨S8x2048x4096, .f32⟩
  | .hbm, ⟨36, _⟩ => ⟨S8x2048x4096, .f32⟩
  | .hbm, ⟨37, _⟩ => ⟨S8x2048x4096, .f32⟩
  | .hbm, ⟨38, _⟩ => ⟨S8x2048x1024, .f32⟩
  | .hbm, ⟨39, _⟩ => ⟨S1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x512 : Shape := ⟨3, ![8, 2048, 512]⟩
abbrev S1x1024 : Shape := ⟨2, ![1, 1024]⟩
abbrev S1x1024x5632 : Shape := ⟨3, ![1, 1024, 5632]⟩
abbrev S1x512x1024 : Shape := ⟨3, ![1, 512, 1024]⟩
abbrev S1x1024x1024 : Shape := ⟨3, ![1, 1024, 1024]⟩
abbrev S16384x1024 : Shape := ⟨2, ![16384, 1024]⟩
abbrev S16384x512 : Shape := ⟨2, ![16384, 512]⟩
abbrev S1024 : Shape := ⟨1, ![1024]⟩
abbrev S1024x5632 : Shape := ⟨2, ![1024, 5632]⟩
abbrev S512x1024 : Shape := ⟨2, ![512, 1024]⟩
abbrev S1024x1024 : Shape := ⟨2, ![1024, 1024]⟩
abbrev S1024x512 : Shape := ⟨2, ![1024, 512]⟩
abbrev S1024x2048 : Shape := ⟨2, ![1024, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 23
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1x1024, .f32⟩
  | .hbm, ⟨4, _⟩ => ⟨S1x1024x5632, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S16384x1024, .f32⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S1024, .f32⟩
  | .hbm, ⟨15, _⟩ => ⟨S1x1024, .f32⟩
  | .hbm, ⟨16, _⟩ => ⟨S1024x5632, .f32⟩
  | .hbm, ⟨17, _⟩ => ⟨S512x1024, .f32⟩
  | .hbm, ⟨18, _⟩ => ⟨S512x1024, .f32⟩
  | .hbm, ⟨19, _⟩ => ⟨S1024x1024, .f32⟩
  | .hbm, ⟨20, _⟩ => ⟨S1024, .f32⟩
  | .hbm, ⟨21, _⟩ => ⟨S1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S512x1024, .f32⟩
  | .local _ .vmem, ⟨12, _⟩ => ⟨S512x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x2048, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_6 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_7 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S8x2048x1024 : Shape := ⟨3, ![8, 2048, 1024]⟩
abbrev S8x2048x512 : Shape := ⟨3, ![8, 2048, 512]⟩
abbrev S1x1024 : Shape := ⟨2, ![1, 1024]⟩
abbrev S1x1024x5632 : Shape := ⟨3, ![1, 1024, 5632]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S8x2048x2048 : Shape := ⟨3, ![8, 2048, 2048]⟩
abbrev S512x1024 : Shape := ⟨2, ![512, 1024]⟩
abbrev S1024x1024 : Shape := ⟨2, ![1024, 1024]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1x1024, .f32⟩
  | .hbm, ⟨4, _⟩ => ⟨S1x1024x5632, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S1024x5632, .f32⟩
  | .hbm, ⟨27, _⟩ => ⟨S8x2048x5632, .f32⟩
  | .hbm, ⟨28, _⟩ => ⟨S8x2048x2048, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S512x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S512x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S1024x1024, .f32⟩
  | .hbm, ⟨55, _⟩ => ⟨S8x2048x1024, .f32⟩
  | .hbm, ⟨56, _⟩ => ⟨S1024, .f32⟩
  | .hbm, ⟨57, _⟩ => ⟨S8x2048x1024, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x1, .f32⟩
  | .hbm, ⟨68, _⟩ => ⟨S8x2048x1024, .f32⟩
  | .hbm, ⟨69, _⟩ => ⟨S8x2048x1024, .f32⟩
  | .hbm, ⟨70, _⟩ => ⟨S1x1x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Mix.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x1024x4096 : Shape := ⟨3, ![1, 1024, 4096]⟩
abbrev S1x4096x1024 : Shape := ⟨3, ![1, 4096, 1024]⟩
abbrev S4 : Shape := ⟨1, ![4]⟩
abbrev S_ : Shape := ⟨0, ![]⟩
abbrev S2048 : Shape := ⟨1, ![2048]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16384x1024 : Shape := ⟨2, ![16384, 1024]⟩
abbrev S1024 : Shape := ⟨1, ![1024]⟩
abbrev S1024x5632 : Shape := ⟨2, ![1024, 5632]⟩
abbrev S1024x4096 : Shape := ⟨2, ![1024, 4096]⟩
abbrev S4096x1024 : Shape := ⟨2, ![4096, 1024]⟩
abbrev S16384x512 : Shape := ⟨2, ![16384, 512]⟩
abbrev S1024x1024 : Shape := ⟨2, ![1024, 1024]⟩
abbrev S1024x3584 : Shape := ⟨2, ![1024, 3584]⟩
abbrev S1024x128 : Shape := ⟨2, ![1024, 128]⟩
abbrev S64x4096 : Shape := ⟨2, ![64, 4096]⟩
abbrev S256x1024 : Shape := ⟨2, ![256, 1024]⟩
abbrev S1024x512 : Shape := ⟨2, ![1024, 512]⟩
abbrev S4x256x256 : Shape := ⟨3, ![4, 256, 256]⟩
abbrev S4x256x128 : Shape := ⟨3, ![4, 256, 128]⟩
abbrev S4x128x128 : Shape := ⟨3, ![4, 128, 128]⟩
abbrev S256x256 : Shape := ⟨2, ![256, 256]⟩
abbrev S256x128 : Shape := ⟨2, ![256, 128]⟩
abbrev S1 : Shape := ⟨1, ![1]⟩
abbrev S1x256x256 : Shape := ⟨3, ![1, 256, 256]⟩
abbrev S1x256x128 : Shape := ⟨3, ![1, 256, 128]⟩
abbrev S256 : Shape := ⟨1, ![256]⟩
abbrev S256x1 : Shape := ⟨2, ![256, 1]⟩
abbrev S256x512 : Shape := ⟨2, ![256, 512]⟩
abbrev S1x128x128 : Shape := ⟨3, ![1, 128, 128]⟩
abbrev S128x128 : Shape := ⟨2, ![128, 128]⟩
abbrev S128x256 : Shape := ⟨2, ![128, 256]⟩
abbrev S1x128 : Shape := ⟨2, ![1, 128]⟩

abbrev nBuf : Space → Nat
  | .hbm => 50
  | .vmem => 33
  | .smem => 1
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5632, .f32⟩
  | .hbm, ⟨3, _⟩ => ⟨S1x1024x4096, .f32⟩
  | .hbm, ⟨4, _⟩ => ⟨S1x1024x4096, .f32⟩
  | .hbm, ⟨5, _⟩ => ⟨S1x4096x1024, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S2048, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S2048x1, .f32⟩
  | .hbm, ⟨27, _⟩ => ⟨S1x64, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S2048x64, .f32⟩
  | .hbm, ⟨33, _⟩ => ⟨S2048x128, .f32⟩
  | .hbm, ⟨34, _⟩ => ⟨S2048x64, .f32⟩
  | .hbm, ⟨35, _⟩ => ⟨S2048x128, .f32⟩
  | .hbm, ⟨36, _⟩ => ⟨S16384x1024, .f32⟩
  | .hbm, ⟨37, _⟩ => ⟨S1024, .f32⟩
  | .hbm, ⟨38, _⟩ => ⟨S1x1024, .f32⟩
  | .hbm, ⟨39, _⟩ => ⟨S1024x5632, .f32⟩
  | .hbm, ⟨40, _⟩ => ⟨S1024x4096, .f32⟩
  | .hbm, ⟨41, _⟩ => ⟨S1024x4096, .f32⟩
  | .hbm, ⟨42, _⟩ => ⟨S4096x1024, .f32⟩
  | .hbm, ⟨43, _⟩ => ⟨S16384x512, .bf16⟩
  | .hbm, ⟨44, _⟩ => ⟨S16384x512, .bf16⟩
  | .hbm, ⟨45, _⟩ => ⟨S16384x512, .bf16⟩
  | .hbm, ⟨46, _⟩ => ⟨S16384x512, .bf16⟩
  | .hbm, ⟨47, _⟩ => ⟨S1024x4096, .bf16⟩
  | .hbm, ⟨48, _⟩ => ⟨S1024x4096, .bf16⟩
  | .hbm, ⟨49, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S256x1024, .f32⟩
  | .local _ .vmem, ⟨13, _⟩ => ⟨S256x1024, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S64x4096, .bf16⟩
  | .local _ .vmem, ⟨23, _⟩ => ⟨S64x4096, .bf16⟩
  | .local _ .vmem, ⟨24, _⟩ => ⟨S64x4096, .bf16⟩
  | .local _ .vmem, ⟨25, _⟩ => ⟨S64x4096, .bf16⟩
  | .local _ .vmem, ⟨26, _⟩ => ⟨S256x1024, .bf16⟩
  | .local _ .vmem, ⟨27, _⟩ => ⟨S256x1024, .bf16⟩
  | .local _ .vmem, ⟨28, _⟩ => ⟨S1024x3584, .bf16⟩
  | .local _ .vmem, ⟨29, _⟩ => ⟨S4x256x256, .f32⟩
  | .local _ .vmem, ⟨30, _⟩ => ⟨S4x256x128, .f32⟩
  | .local _ .vmem, ⟨31, _⟩ => ⟨S4x256x128, .f32⟩
  | .local _ .vmem, ⟨32, _⟩ => ⟨S4x128x128, .f32⟩
  | .local _ .smem, ⟨0, _⟩ => ⟨S4, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev main_v32_3 : Ref sig .tc := ⟨.hbm, 46, rfl⟩
abbrev main_v32_4 : Ref sig .tc := ⟨.hbm, 47, rfl⟩
abbrev main_v32_5 : Ref sig .tc := ⟨.hbm, 48, rfl⟩
abbrev main_v32_6 : Ref sig .tc := ⟨.hbm, 49, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x1024x4096 : Shape := ⟨3, ![1, 1024, 4096]⟩
abbrev S1x4096x1024 : Shape := ⟨3, ![1, 4096, 1024]⟩
abbrev S2048 : Shape := ⟨1, ![2048]⟩
abbrev S4 : Shape := ⟨1, ![4]⟩
abbrev S_ : Shape := ⟨0, ![]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S8x2048x512 : Shape := ⟨3, ![8, 2048, 512]⟩
abbrev S8x2048x4x128 : Shape := ⟨4, ![8, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S8x2048x4x64 : Shape := ⟨4, ![8, 2048, 4, 64]⟩
abbrev S1x2048 : Shape := ⟨2, ![1, 2048]⟩
abbrev S2048x2048 : Shape := ⟨2, ![2048, 2048]⟩
abbrev S1x2048x2048 : Shape := ⟨3, ![1, 2048, 2048]⟩
abbrev S4x1x1 : Shape := ⟨3, ![4, 1, 1]⟩
abbrev S4x2048x2048 : Shape := ⟨3, ![4, 2048, 2048]⟩
abbrev S8x4x2048x2048 : Shape := ⟨4, ![8, 4, 2048, 2048]⟩
abbrev S1x4x2048x2048 : Shape := ⟨4, ![1, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S16384x512 : Shape := ⟨2, ![16384, 512]⟩
abbrev S1024x4096 : Shape := ⟨2, ![1024, 4096]⟩
abbrev S4096x1024 : Shape := ⟨2, ![4096, 1024]⟩

abbrev nBuf : Space → Nat
  | .hbm => 193
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x5632, .f32⟩
  | 3 => ⟨S1x1024x4096, .f32⟩
  | 4 => ⟨S1x1024x4096, .f32⟩
  | 5 => ⟨S1x4096x1024, .f32⟩
  | 6 => ⟨S2048, .f32⟩
  | 7 => ⟨S4, .f32⟩
  | 8 => ⟨S_, .f32⟩
  | 9 => ⟨S4, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S4, .f32⟩
  | 18 => ⟨S1024, .f32⟩
  | 19 => ⟨S8x2048x1024, .f32⟩
  | 20 => ⟨S_, .f32⟩
  | 21 => ⟨S8x2048, .f32⟩
  | 22 => ⟨S8x2048x1, .f32⟩
  | 23 => ⟨S_, .f32⟩
  | 24 => ⟨S8x2048x1, .f32⟩
  | 25 => ⟨S8x2048x1, .f32⟩
  | 26 => ⟨S_, .f32⟩
  | 27 => ⟨S8x2048x1, .f32⟩
  | 28 => ⟨S8x2048x1, .f32⟩
  | 29 => ⟨S8x2048x1, .f32⟩
  | 30 => ⟨S8x2048x1024, .f32⟩
  | 31 => ⟨S8x2048x1024, .f32⟩
  | 32 => ⟨S1x1x1024, .f32⟩
  | 33 => ⟨S8x2048x1024, .f32⟩
  | 34 => ⟨S8x2048x1024, .f32⟩
  | 35 => ⟨S1024x5632, .f32⟩
  | 36 => ⟨S8x2048x5632, .f32⟩
  | 37 => ⟨S8x2048x512, .f32⟩
  | 38 => ⟨S8x2048x512, .f32⟩
  | 39 => ⟨S8x2048x512, .f32⟩
  | 40 => ⟨S8x2048x512, .f32⟩
  | 41 => ⟨S8x2048x512, .f32⟩
  | 42 => ⟨S8x2048x512, .f32⟩
  | 43 => ⟨S8x2048x512, .f32⟩
  | 44 => ⟨S8x2048x1024, .f32⟩
  | 45 => ⟨S8x2048x1024, .f32⟩
  | 46 => ⟨S8x2048x4x128, .f32⟩
  | 47 => ⟨S64, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S2048x1, .f32⟩
  | 56 => ⟨S1x64, .f32⟩
  | 57 => ⟨S2048x64, .f32⟩
  | 58 => ⟨S2048x64, .f32⟩
  | 59 => ⟨S2048x64, .f32⟩
  | 60 => ⟨S2048x64, .f32⟩
  | 61 => ⟨S1x2048x1x64, .f32⟩
  | 62 => ⟨S2048x64, .f32⟩
  | 63 => ⟨S1x2048x1x64, .f32⟩
  | 64 => ⟨S8x2048x4x64, .f32⟩
  | 65 => ⟨S8x2048x4x64, .f32⟩
  | 66 => ⟨S8x2048x4x64, .f32⟩
  | 67 => ⟨S8x2048x4x64, .f32⟩
  | 68 => ⟨S8x2048x4x64, .f32⟩
  | 69 => ⟨S8x2048x4x64, .f32⟩
  | 70 => ⟨S8x2048x4x64, .f32⟩
  | 71 => ⟨S8x2048x4x64, .f32⟩
  | 72 => ⟨S8x2048x4x64, .f32⟩
  | 73 => ⟨S8x2048x4x64, .f32⟩
  | 74 => ⟨S8x2048x4x64, .f32⟩
  | 75 => ⟨S8x2048x4x64, .f32⟩
  | 76 => ⟨S8x2048x4x128, .f32⟩
  | 77 => ⟨S8x2048x4x128, .f32⟩
  | 78 => ⟨S64, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S2048x1, .f32⟩
  | 87 => ⟨S1x64, .f32⟩
  | 88 => ⟨S2048x64, .f32⟩
  | 89 => ⟨S2048x64, .f32⟩
  | 90 => ⟨S2048x64, .f32⟩
  | 91 => ⟨S2048x64, .f32⟩
  | 92 => ⟨S1x2048x1x64, .f32⟩
  | 93 => ⟨S2048x64, .f32⟩
  | 94 => ⟨S1x2048x1x64, .f32⟩
  | 95 => ⟨S8x2048x4x64, .f32⟩
  | 96 => ⟨S8x2048x4x64, .f32⟩
  | 97 => ⟨S8x2048x4x64, .f32⟩
  | 98 => ⟨S8x2048x4x64, .f32⟩
  | 99 => ⟨S8x2048x4x64, .f32⟩
  | 100 => ⟨S8x2048x4x64, .f32⟩
  | 101 => ⟨S8x2048x4x64, .f32⟩
  | 102 => ⟨S8x2048x4x64, .f32⟩
  | 103 => ⟨S8x2048x4x64, .f32⟩
  | 104 => ⟨S8x2048x4x64, .f32⟩
  | 105 => ⟨S8x2048x4x64, .f32⟩
  | 106 => ⟨S8x2048x4x64, .f32⟩
  | 107 => ⟨S8x2048x4x128, .f32⟩
  | 108 => ⟨S_, .f32⟩
  | 109 => ⟨S8x2048x4x128, .f32⟩
  | 110 => ⟨S8x2048x4x128, .f32⟩
  | 111 => ⟨S8x2048x4x128, .f32⟩
  | 112 => ⟨S2048, .f32⟩
  | 113 => ⟨S2048x1, .f32⟩
  | 114 => ⟨S1x2048, .f32⟩
  | 115 => ⟨S2048x2048, .f32⟩
  | 116 => ⟨S2048x2048, .f32⟩
  | 117 => ⟨S2048x2048, .f32⟩
  | 118 => ⟨S1x2048x2048, .f32⟩
  | 119 => ⟨S_, .f32⟩
  | 120 => ⟨S1x2048x2048, .f32⟩
  | 121 => ⟨S1x2048x2048, .i1⟩
  | 122 => ⟨S_, .f32⟩
  | 123 => ⟨S2048x2048, .f32⟩
  | 124 => ⟨S2048x2048, .f32⟩
  | 125 => ⟨S1x2048x2048, .f32⟩
  | 126 => ⟨S4x1x1, .f32⟩
  | 127 => ⟨S4x2048x2048, .f32⟩
  | _ => ⟨S8x2048x1024, .f32⟩

abbrev hbmTy0_1 (i : Nat) : BufTy := match i % 128 with
  | 0 => ⟨S4x2048x2048, .f32⟩
  | 1 => ⟨S4x2048x2048, .f32⟩
  | 2 => ⟨S4x2048x2048, .f32⟩
  | 3 => ⟨S_, .f32⟩
  | 4 => ⟨S_, .f32⟩
  | 5 => ⟨S4x2048x2048, .i1⟩
  | 6 => ⟨S4x2048x2048, .f32⟩
  | 7 => ⟨S4x2048x2048, .f32⟩
  | 8 => ⟨S8x4x2048x2048, .f32⟩
  | 9 => ⟨S1x4x2048x2048, .f32⟩
  | 10 => ⟨S8x4x2048x2048, .f32⟩
  | 11 => ⟨S8x4x2048x2048, .f32⟩
  | 12 => ⟨S8x4x128x2048, .f32⟩
  | 13 => ⟨S8x2048x4x128, .f32⟩
  | 14 => ⟨S_, .f32⟩
  | 15 => ⟨S8x2048x4, .f32⟩
  | 16 => ⟨S8x2048x4x1, .f32⟩
  | 17 => ⟨S_, .f32⟩
  | 18 => ⟨S8x2048x4x1, .f32⟩
  | 19 => ⟨S8x2048x4x1, .f32⟩
  | 20 => ⟨S8x2048x4x128, .f32⟩
  | 21 => ⟨S8x2048x4x128, .f32⟩
  | 22 => ⟨S8x2048x4x128, .f32⟩
  | 23 => ⟨S_, .f32⟩
  | 24 => ⟨S8x2048x4, .f32⟩
  | 25 => ⟨S8x2048x4x1, .f32⟩
  | 26 => ⟨S_, .f32⟩
  | 27 => ⟨S8x2048x4x1, .f32⟩
  | 28 => ⟨S8x2048x4x1, .f32⟩
  | 29 => ⟨S8x2048x4x128, .f32⟩
  | 30 => ⟨S8x2048x4x128, .f32⟩
  | 31 => ⟨S_, .f32⟩
  | 32 => ⟨S8x2048x4x1, .f32⟩
  | 33 => ⟨S8x2048x4x1, .f32⟩
  | 34 => ⟨S8x2048x4x1, .f32⟩
  | 35 => ⟨S8x2048x4x128, .f32⟩
  | 36 => ⟨S8x2048x4x128, .f32⟩
  | 37 => ⟨S8x2048x512, .f32⟩
  | 38 => ⟨S8x2048x512, .f32⟩
  | 39 => ⟨S8x2048x512, .f32⟩
  | 40 => ⟨S_, .f32⟩
  | 41 => ⟨S8x2048x512, .f32⟩
  | 42 => ⟨S8x2048x512, .f32⟩
  | 43 => ⟨S_, .f32⟩
  | 44 => ⟨S8x2048x512, .f32⟩
  | 45 => ⟨S8x2048x512, .f32⟩
  | 46 => ⟨S8x2048x512, .f32⟩
  | 47 => ⟨S8x2048x512, .f32⟩
  | 48 => ⟨S_, .f32⟩
  | 49 => ⟨S8x2048x512, .f32⟩
  | 50 => ⟨S8x2048x512, .f32⟩
  | 51 => ⟨S16384x512, .f32⟩
  | 52 => ⟨S16384x512, .bf16⟩
  | 53 => ⟨S16384x512, .f32⟩
  | 54 => ⟨S16384x512, .bf16⟩
  | 55 => ⟨S16384x512, .f32⟩
  | 56 => ⟨S16384x512, .bf16⟩
  | 57 => ⟨S16384x512, .f32⟩
  | 58 => ⟨S16384x512, .bf16⟩
  | 59 => ⟨S1024x4096, .f32⟩
  | 60 => ⟨S1024x4096, .bf16⟩
  | 61 => ⟨S1024x4096, .f32⟩
  | 62 => ⟨S1024x4096, .bf16⟩
  | 63 => ⟨S4096x1024, .f32⟩
  | 64 => ⟨S4096x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_9 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_10 : Ref sig .tc := ⟨.hbm, 119, rfl⟩
abbrev main_v102 : Ref sig .tc := ⟨.hbm, 120, rfl⟩
abbrev main_v103 : Ref sig .tc := ⟨.hbm, 121, rfl⟩
abbrev main_cst_11 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_12 : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_13 : Ref sig .tc := ⟨.hbm, 142, rfl⟩
abbrev main_v119 : Ref sig .tc := ⟨.hbm, 143, rfl⟩
abbrev main_v120 : Ref sig .tc := ⟨.hbm, 144, rfl⟩
abbrev main_cst_14 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_15 : Ref sig .tc := ⟨.hbm, 151, rfl⟩
abbrev main_v126 : Ref sig .tc := ⟨.hbm, 152, rfl⟩
abbrev main_v127 : Ref sig .tc := ⟨.hbm, 153, rfl⟩
abbrev main_cst_16 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_17 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_call1_v0 : Ref sig .tc := ⟨.hbm, 166, rfl⟩
abbrev main_call1_v1 : Ref sig .tc := ⟨.hbm, 167, rfl⟩
abbrev main_call1_cst : Ref sig .tc := ⟨.hbm, 168, rfl⟩
abbrev main_call1_v2 : Ref sig .tc := ⟨.hbm, 169, rfl⟩
abbrev main_call1_v3 : Ref sig .tc := ⟨.hbm, 170, rfl⟩
abbrev main_call1_cst_0 : Ref sig .tc := ⟨.hbm, 171, rfl⟩
abbrev main_call1_v4 : Ref sig .tc := ⟨.hbm, 172, rfl⟩
abbrev main_call1_v5 : Ref sig .tc := ⟨.hbm, 173, rfl⟩
abbrev main_v138 : Ref sig .tc := ⟨.hbm, 174, rfl⟩
abbrev main_v139 : Ref sig .tc := ⟨.hbm, 175, rfl⟩
abbrev main_cst_18 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩

abbrev nD : Nat := 1
abbrev τ : Topo := Topo.v7x

variable {F : FTy → Type} [FloatOps F]
-- ==== Proof.Rows.lean ====
/-
  The row functions of the layer on the extended reals — the root-mean-square norm of a row, the swish gate, the
  gated feed-forward network — and the reading of a kernel's norm chain at an index.
-/
module

public import Idealize.ShloMosaic.PureOps.Ideal.Laws
public import Idealize.ShloMosaic.Lib.MatmulPlain
public import Idealize.ShloMosaic.Lib.Pipeline.Value
public import Idealize.ShloMosaic.Lib.ValueIdx
public import Idealize.ShloMosaic.Lib.IdealHost

@[expose] public section

noncomputable section

namespace Layer

open Idealize.ShloMosaic Idealize.ShloMosaic.ValueIdx
open scoped BigOperators

/-- The epsilon of every norm. -/
abbrev eps : EReal := Ideal.ofBits .f32 0x358637BD#32
/-- The factor of the half-step residual. -/
abbrev half : EReal := Ideal.ofBits .f32 0x3F000000#32
/-- The width 1024 of a row, as the programs' constant. -/
abbrev w1024 : EReal := Ideal.ofBits .f32 0x44800000#32

/-- The reciprocal root of a row's mean square. -/
def inv {K : ℕ} (c : EReal) (x : Fin K → EReal) : EReal := Ideal.rsqrt (Ideal.div (∑ k, x k * x k) c + eps)

/-- A row divided by the root of its mean square and scaled by the gain `g`. -/
def rmsRow {K : ℕ} (c : EReal) (x g : Fin K → EReal) (n : Fin K) : EReal := x n * inv c x * g n

/-- `x · σ(x)`. -/
def swish (a : EReal) : EReal := a * Ideal.logistic a

/-- One hidden coordinate of the gated network: the swish of the gate product times the up product. -/
def gated {K J : ℕ} (h : Fin K → EReal) (wg wu : Fin K → Fin J → EReal) (j : Fin J) : EReal :=
  swish (∑ k, h k * wg k j) * ∑ k, h k * wu k j

/-- A row of the half-step feed-forward block: the row plus half the norm of the gated network of its norm. -/
def ffnRow {K J : ℕ} (c : EReal) (x gp gq : Fin K → EReal) (wg wu : Fin K → Fin J → EReal) (wd : Fin J → Fin K → EReal)
    (n : Fin K) : EReal :=
  x n + half * rmsRow c (fun n => ∑ j, gated (rmsRow c x gp) wg wu j * wd j n) gq n

/-- A sum over 4096 coordinates is the sum of its four runs of 1024, added from the left. -/
theorem sum4 (f : Fin 4096 → EReal) :
    ∑ j, f j = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  rw [← Equiv.sum_comp (finProdFinEquiv : Fin 4 × Fin 1024 ≃ Fin 4096), Fintype.sum_prod_type, Fin.sum_univ_four]
  have e : ∀ (b : Fin 4) (k : Fin 1024) (h : 1024 * b.val + k.val < 4096),
      (finProdFinEquiv (b, k) : Fin (4 * 1024)) = ⟨1024 * b.val + k.val, h⟩ := fun b k h => by
    apply Fin.ext; simp [finProdFinEquiv]; omega
  refine congrArg₂ (· + ·) (congrArg₂ (· + ·) (congrArg₂ (· + ·) ?_ ?_) ?_) ?_ <;>
    refine Finset.sum_congr rfl fun k _ => congrArg f ?_
  · rw [e 0 k (by have := k.isLt; simp; omega)]; apply Fin.ext; simp
  · rw [e 1 k (by have := k.isLt; simp; omega)]; apply Fin.ext; simp
  · rw [e 2 k (by have := k.isLt; simp; omega)]; apply Fin.ext; simp
  · rw [e 3 k (by have := k.isLt; simp; omega)]; apply Fin.ext; simp

/-- The feed-forward block of a batch of 8 sequences of 2048 rows, its result laid out as 16384 rows. -/
def ffnArr (x : (⟨3, ![8, 2048, 1024]⟩ : Shape).Idx → EReal) (gp gq : (⟨2, ![1, 1024]⟩ : Shape).Idx → EReal)
    (wg wu : (⟨3, ![1, 1024, 4096]⟩ : Shape).Idx → EReal) (wd : (⟨3, ![1, 4096, 1024]⟩ : Shape).Idx → EReal) :
    (⟨2, ![16384, 1024]⟩ : Shape).Idx → EReal := fun i =>
  have h : (i 0).val < 16384 := (i 0).isLt
  ffnRow w1024 (fun k => x (ix3 ⟨(i 0).val / 2048, by omega⟩ ⟨(i 0).val % 2048, by omega⟩ k)) (fun k => gp (ix2 0 k)) (fun k => gq (ix2 0 k))
    (fun k j => wg (ix3 0 k j)) (fun k j => wu (ix3 0 k j)) (fun j k => wd (ix3 0 j k)) (i 1)

section Vec
variable {M K : ℕ}

/-- The column of reciprocal roots of the mean squares of the rows of `x`, as a kernel computes it. -/
def invCol (c : EReal) (x : FVec Ideal ⟨2, ![M, K]⟩ .f32) (hr : (⟨2, ![M, K]⟩ : Shape).Reduces [1] ⟨1, ![M]⟩)
    (hs : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf x x) 0x00000000#32 hr (.inl rfl) rfl) hs)
    (broadcast ⟨2, ![M, 1]⟩ c)) (broadcast ⟨2, ![M, 1]⟩ eps))

/-- The norm of every row of `x`, scaled by the one row `g`, as a kernel computes it. -/
def rms (c : EReal) (x : FVec Ideal ⟨2, ![M, K]⟩ .f32) (g : FVec Ideal ⟨2, ![1, K]⟩ .f32)
    (hr : (⟨2, ![M, K]⟩ : Shape).Reduces [1] ⟨1, ![M]⟩) (hs : (⟨1, ![M]⟩ : Shape).ShapeCasts ⟨2, ![M, 1]⟩)
    (hb : (⟨2, ![M, 1]⟩ : Shape).Broadcasts ⟨2, ![M, K]⟩) (hg : (⟨2, ![1, K]⟩ : Shape).Broadcasts ⟨2, ![M, K]⟩) :
    FVec Ideal ⟨2, ![M, K]⟩ .f32 :=
  mulf (mulf x (broadcastTo ⟨2, ![M, K]⟩ (invCol c x hr hs) hb)) (broadcastTo ⟨2, ![M, K]⟩ g hg)

/-- The column at row `p` is the reciprocal root of that row. -/
theorem invCol_apply (c : EReal) (x : FVec Ideal ⟨2, ![M, K]⟩ .f32) (hr : (⟨2, ![M, K]⟩ : Shape).Reduces [1] ⟨1, ![M]⟩)
    (hs : (⟨1, ![M]⟩ : Shape).ShapeCasts ⟨2, ![M, 1]⟩) (p : Fin M) (q : Fin 1) :
    invCol c x hr hs (ix2 p q) = inv c (fun k => x (ix2 p k)) := by
  show Ideal.rsqrt (Ideal.div (shapeCast ⟨2, ![M, 1]⟩ (multiReduction .add [1] ⟨1, ![M]⟩ (mulf x x) 0x00000000#32 hr (.inl rfl) rfl) hs (ix2 p q)) c + eps) = _
  rw [shapeCast_apply _ hs (ix2 p q) (ix1 p) (by
    rw [Shape.rowMajor_val_one, Shape.rowMajor_val_two]
    show p.val = p.val * 1 + q.val
    omega)]
  unfold inv
  refine congrArg (fun s => Ideal.rsqrt (Ideal.div s c + eps)) ?_
  refine (Ideal.multiReduction_add_single (mulf x x) _ hr _ _ (ix1 p)).trans (Finset.sum_congr rfl fun k _ => ?_)
  have e : hr.lift (ix1 p) k = ix2 p k := by
    funext a; apply Fin.ext
    match a with
    | ⟨0, _⟩ => rfl
    | ⟨1, _⟩ => rfl
  rw [e]; rfl

/-- The norm at row `p` is the row function of that row. -/
theorem rms_apply (c : EReal) (x : FVec Ideal ⟨2, ![M, K]⟩ .f32) (g : FVec Ideal ⟨2, ![1, K]⟩ .f32)
    (hr : (⟨2, ![M, K]⟩ : Shape).Reduces [1] ⟨1, ![M]⟩) (hs : (⟨1, ![M]⟩ : Shape).ShapeCasts ⟨2, ![M, 1]⟩)
    (hb : (⟨2, ![M, 1]⟩ : Shape).Broadcasts ⟨2, ![M, K]⟩) (hg : (⟨2, ![1, K]⟩ : Shape).Broadcasts ⟨2, ![M, K]⟩)
    (hM : M ≠ 1) (hK : K ≠ 1) (p : Fin M) (n : Fin K) :
    rms c x g hr hs hb hg (ix2 p n) = rmsRow c (fun k => x (ix2 p k)) (fun k => g (ix2 0 k)) n := by
  show x (ix2 p n) * broadcastTo ⟨2, ![M, K]⟩ (invCol c x hr hs) hb (ix2 p n) * broadcastTo ⟨2, ![M, K]⟩ g hg (ix2 p n) = _
  rw [broadcastTo_apply _ hb (ix2 p n) (ix2 p 0) (fun a => by
      match a with
      | ⟨0, _⟩ => show p.val = if M = 1 then 0 else p.val; rw [if_neg hM]
      | ⟨1, _⟩ => show 0 = if (1 : ℕ) = 1 then 0 else n.val; rw [if_pos rfl]),
    broadcastTo_apply _ hg (ix2 p n) (ix2 0 n) (fun a => by
      match a with
      | ⟨0, _⟩ => show 0 = if (1 : ℕ) = 1 then 0 else p.val; rw [if_pos rfl]
      | ⟨1, _⟩ => show n.val = if K = 1 then 0 else n.val; rw [if_neg hK]), invCol_apply]
  rfl

/-- A product onto a zero accumulator is the sum over the contracted coordinate. -/
theorem mm_apply {N : ℕ} {φ₁ φ₂ : FTy} (lhs : FVec Ideal ⟨2, ![M, K]⟩ φ₁) (rhs : FVec Ideal ⟨2, ![K, N]⟩ φ₂) (p : Fin M) (n : Fin N) :
    matmul (DotDims.plain M K N) none lhs rhs (constant ⟨2, ![M, N]⟩ .f32 0x00000000#32) (ix2 p n)
      = ∑ k : Fin K, lhs (ix2 p k) * rhs (ix2 k n) := by
  show FloatOps.matmul (DotDims.plain M K N) none lhs rhs _ (ix2 p n) = _
  rw [Ideal.matmul_plain_apply]
  show Ideal.ofBits .f32 0x00000000#32 + _ = _
  rw [Ideal.ofBits_zero_f32, zero_add]

end Vec

end Layer

end
-- ==== Proof.MixVoc.lean ====
/-
  One block of the mixer's input kernel: every group of 256 rows that the body stores is the same function of its rows and of
  the recurrent state, whether the body has just filled the scratch or finds it filled.
-/
module

public import proofs.«01_k».proof.Proof.Rows
public import proofs.«01_k».proof.Proof.Gen.MixIdeal.Value
public import Idealize.ShloMosaic.Lib.Pointwise.Tactic
public import Idealize.ShloMosaic.Lib.Pipeline.ValueKit
public import Idealize.ShloMosaic.Lib.Pipeline.ReadBack

@[expose] public section

set_option maxRecDepth 16384

noncomputable section

namespace Cert.MixIdeal.Blk

open Idealize.ShloMosaic hiding ix1 ix2 ix3 ix4
open Cert.MixIdeal Cert.MixIdeal.Gen Idealize.ShloMosaic.TcCoe Idealize.ShloMosaic.ValueIdx Layer Idealize.SL.Sem
open Idealize.ShloMosaic.Tactic
open scoped BigOperators

/-- The norm of 256 rows, as the products take it. -/
def HN (x : FVec Ideal S256x1024 .f32) (g : FVec Ideal S1x1024 .f32) : FVec Ideal S256x1024 .bf16 :=
  truncf .bf16 (rms w1024 x g reduces_S256x1024_S256 shapeCasts_S256_S256x1 broadcasts_S256x1_S256x1024 broadcasts_S1x1024_S256x1024) bitsLt_bf16_f32

/-- Rows divided by the root of their mean squares. -/
def XI (x : FVec Ideal S256x1024 .f32) : FVec Ideal S256x1024 .f32 :=
  mulf x (broadcastTo S256x1024 (invCol w1024 x reduces_S256x1024_S256 shapeCasts_S256_S256x1) broadcasts_S256x1_S256x1024)

/-- The gain on every row. -/
def GB (g : FVec Ideal S1x1024 .f32) : FVec Ideal S256x1024 .f32 := broadcastTo S256x1024 g broadcasts_S1x1024_S256x1024

/-- A product of 256 rows with 512 columns of the projection. -/
def MM (h : FVec Ideal S256x1024 .bf16) (w : FVec Ideal S1024x512 .bf16) : FVec Ideal S256x512 .f32 :=
  matmul dot_S256x1024_S1024x512_S256x512_1_0_0_1_n_n none h w (constant S256x512 .f32 0x00000000#32)

/-- The columns of one head. -/
def HD {φ : FTy} (v : FVec Ideal S256x512 φ) : Fin 4 → FVec Ideal S256x128 φ
  | 0 => extractStridedSlice S256x128 ![0, 0] v slices_S256x512_o0_0_S256x128
  | 1 => extractStridedSlice S256x128 ![0, 128] v slices_S256x512_o0_128_S256x128
  | 2 => extractStridedSlice S256x128 ![0, 256] v slices_S256x512_o0_256_S256x128
  | 3 => extractStridedSlice S256x128 ![0, 384] v slices_S256x512_o0_384_S256x128

/-- Four heads side by side. -/
def CAT {φ : FTy} (f : Fin 4 → FVec Ideal S256x128 φ) : FVec Ideal S256x512 φ :=
  concatenate S256x512 1 [⟨S256x128, f 0⟩, ⟨S256x128, f 1⟩, ⟨S256x128, f 2⟩, ⟨S256x128, f 3⟩] concatenates_S256x128_S256x128_S256x128_S256x128_S256x512_d1

/-- The rotary phases applied to one head. -/
def RH (t cs sn : FVec Ideal S256x128 .f32) : FVec Ideal S256x128 .f32 :=
  addf (mulf t cs) (mulf (dynamicRotate 1 64#32 none t rotates_S256x128_d1) sn)

/-- The rotary phases applied to the four heads. -/
def ROT (v : FVec Ideal S256x512 .f32) (cs sn : FVec Ideal S256x128 .f32) : FVec Ideal S256x512 .f32 := CAT fun h => RH (HD v h) cs sn

/-- The queries of 256 rows. -/
def QQ (h : FVec Ideal S256x1024 .bf16) (w : FVec Ideal S1024x512 .bf16) (cs sn : FVec Ideal S256x128 .f32) : FVec Ideal S256x512 .bf16 :=
  truncf .bf16 (ROT (MM h w) cs sn) bitsLt_bf16_f32

/-- The keys of 256 rows, scaled. -/
def KK (h : FVec Ideal S256x1024 .bf16) (w : FVec Ideal S1024x512 .bf16) (cs sn : FVec Ideal S256x128 .f32) : FVec Ideal S256x512 .bf16 :=
  truncf .bf16 (mulf (ROT (MM h w) cs sn) (broadcast S256x512 (Scalar.ofBits (F := Ideal) .f32 0x3DB504F3#32))) bitsLt_bf16_f32

/-- A product of 256 rows, cast. -/
def VV (h : FVec Ideal S256x1024 .bf16) (w : FVec Ideal S1024x512 .bf16) : FVec Ideal S256x512 .bf16 := truncf .bf16 (MM h w) bitsLt_bf16_f32

/-- A product of 256 rows with the scale of the attention's queries, cast. -/
def SQ (h : FVec Ideal S256x1024 .bf16) (w : FVec Ideal S1024x512 .bf16) : FVec Ideal S256x512 .bf16 :=
  truncf .bf16 (mulf (MM h w) (broadcast S256x512 (Scalar.ofBits (F := Ideal) .f32 0x3E38AA3B#32))) bitsLt_bf16_f32

/-- The part of a head's result that comes from the state. -/
def CRS (q : FVec Ideal S256x128 .bf16) (Q : FVec Ideal S1x256x128 .f32) (s : FVec Ideal S1x128x128 .f32) : FVec Ideal S256x128 .f32 :=
  matmul dot_S256x128_S128x128_S256x128_1_0_0_1_n_n none (truncf .bf16 (mulf (extf .f32 q bitsLt_bf16_f32) (shapeCast S256x128 Q shapeCasts_S1x256x128_S256x128)) bitsLt_bf16_f32)
    (truncf .bf16 (shapeCast S128x128 s shapeCasts_S1x128x128_S128x128) bitsLt_bf16_f32) (constant S256x128 .f32 0x00000000#32)

/-- The part of a head's result that comes from the group's own rows. -/
def INN (q k v : FVec Ideal S256x128 .bf16) (D : FVec Ideal S1x256x256 .f32) : FVec Ideal S256x128 .f32 :=
  matmul dot_S256x256_S256x128_S256x128_1_0_0_1_n_n none
    (truncf .bf16 (mulf (matmul dot_S256x128_S256x128_S256x256_1_1_0_0_n_n none q k (constant S256x256 .f32 0x00000000#32)) (shapeCast S256x256 D shapeCasts_S1x256x256_S256x256)) bitsLt_bf16_f32)
    v (constant S256x128 .f32 0x00000000#32)

/-- What a group adds to the state of a head. -/
def KV (k v : FVec Ideal S256x128 .bf16) (K : FVec Ideal S1x256x128 .f32) : FVec Ideal S128x128 .f32 :=
  matmul dot_S128x256_S256x128_S128x128_1_0_0_1_n_n none
    (truncf .bf16 (transpose S128x256 [1, 0] (mulf (extf .f32 k bitsLt_bf16_f32) (shapeCast S256x128 K shapeCasts_S1x256x128_S256x128)) transposes_S256x128_p1_0_S128x256) bitsLt_bf16_f32)
    v (constant S128x128 .f32 0x00000000#32)

/-- The state of a head after a group. -/
def NST (k v : FVec Ideal S256x128 .bf16) (K : FVec Ideal S1x256x128 .f32) (l : EReal) (s : FVec Ideal S1x128x128 .f32) : FVec Ideal S1x128x128 .f32 :=
  shapeCast S1x128x128 (addf (mulf (broadcastTo S128x128 (exp (mulf (broadcast S1x128 (Scalar.ofBits (F := Ideal) .f32 0x43800000#32)) (broadcast S1x128 (l : Ideal .f32)))) broadcasts_S1x128_S128x128)
    (shapeCast S128x128 s shapeCasts_S1x128x128_S128x128)) (KV k v K)) shapeCasts_S128x128_S1x128x128

/-- The mean of every row of a head, as a column. -/
def MEAN (o : FVec Ideal S256x128 .f32) : FVec Ideal S256x1 .f32 :=
  divf (shapeCast S256x1 (multiReduction .add [1] S256 o 0x00000000#32 reduces_S256x128_S256 (.inl rfl) rfl) shapeCasts_S256_S256x1) (broadcast S256x1 (Scalar.ofBits (F := Ideal) .f32 0x43000000#32))

/-- A head's rows less their means. -/
def CTR (o : FVec Ideal S256x128 .f32) : FVec Ideal S256x128 .f32 := subf o (broadcastTo S256x128 (MEAN o) broadcasts_S256x1_S256x128)

/-- The group norm of a head's rows, gated. -/
def GN (o g : FVec Ideal S256x128 .f32) : FVec Ideal S256x128 .bf16 :=
  truncf .bf16 (mulf (mulf (CTR o) (broadcastTo S256x128 (rsqrt (addf (MEAN (mulf (CTR o) (CTR o))) (broadcast S256x1 (Scalar.ofBits (F := Ideal) .f32 0x3727C5AC#32)))) broadcasts_S256x1_S256x128))
    (mulf g (logistic g))) bitsLt_bf16_f32

/-- The state of a head after a group of rows. -/
def GST (x : FVec Ideal S256x1024 .f32) (g : FVec Ideal S1x1024 .f32) (wk wv : FVec Ideal S1024x512 .bf16) (cs sn : FVec Ideal S256x128 .f32)
    (K : Fin 4 → FVec Ideal S1x256x128 .f32) (lg : Fin 4 → EReal) (s : Fin 4 → FVec Ideal S1x128x128 .f32) (h : Fin 4) : FVec Ideal S1x128x128 .f32 :=
  NST (HD (KK (HN x g) wk cs sn) h) (HD (VV (HN x g) wv) h) (K h) (lg h) (s h)

/-- The retention's rows of a group. -/
def GOR (x : FVec Ideal S256x1024 .f32) (g : FVec Ideal S1x1024 .f32) (wq wk wv wg : FVec Ideal S1024x512 .bf16) (cs sn : FVec Ideal S256x128 .f32)
    (D : Fin 4 → FVec Ideal S1x256x256 .f32) (Q : Fin 4 → FVec Ideal S1x256x128 .f32) (s : Fin 4 → FVec Ideal S1x128x128 .f32) : FVec Ideal S256x512 .bf16 :=
  CAT fun h => GN (addf (INN (HD (QQ (HN x g) wq cs sn) h) (HD (KK (HN x g) wk cs sn) h) (HD (VV (HN x g) wv) h) (D h))
    (CRS (HD (QQ (HN x g) wq cs sn) h) (Q h) (s h))) (HD (MM (HN x g) wg) h)

/-- The heads of the decay table. -/
def LDD (S : Vec Ideal S4x256x256 .f32) : Fin 4 → FVec Ideal S1x256x256 .f32
  | 0 => View.ld S (Rect.unit ![0, 0, 0] ![1, 256, 256] inb_S4x256x256_S1x256x256_0_0_0)
  | 1 => View.ld S (Rect.unit ![1, 0, 0] ![1, 256, 256] inb_S4x256x256_S1x256x256_1_0_0)
  | 2 => View.ld S (Rect.unit ![2, 0, 0] ![1, 256, 256] inb_S4x256x256_S1x256x256_2_0_0)
  | 3 => View.ld S (Rect.unit ![3, 0, 0] ![1, 256, 256] inb_S4x256x256_S1x256x256_3_0_0)

/-- The heads of a row table. -/
def LDQ (S : Vec Ideal S4x256x128 .f32) : Fin 4 → FVec Ideal S1x256x128 .f32
  | 0 => View.ld S (Rect.unit ![0, 0, 0] ![1, 256, 128] inb_S4x256x128_S1x256x128_0_0_0)
  | 1 => View.ld S (Rect.unit ![1, 0, 0] ![1, 256, 128] inb_S4x256x128_S1x256x128_1_0_0)
  | 2 => View.ld S (Rect.unit ![2, 0, 0] ![1, 256, 128] inb_S4x256x128_S1x256x128_2_0_0)
  | 3 => View.ld S (Rect.unit ![3, 0, 0] ![1, 256, 128] inb_S4x256x128_S1x256x128_3_0_0)

/-- The heads of the state. -/
def LDS (S : Vec Ideal S4x128x128 .f32) : Fin 4 → FVec Ideal S1x128x128 .f32
  | 0 => View.ld S (Rect.unit ![0, 0, 0] ![1, 128, 128] inb_S4x128x128_S1x128x128_0_0_0)
  | 1 => View.ld S (Rect.unit ![1, 0, 0] ![1, 128, 128] inb_S4x128x128_S1x128x128_1_0_0)
  | 2 => View.ld S (Rect.unit ![2, 0, 0] ![1, 128, 128] inb_S4x128x128_S1x128x128_2_0_0)
  | 3 => View.ld S (Rect.unit ![3, 0, 0] ![1, 128, 128] inb_S4x128x128_S1x128x128_3_0_0)

/-- The heads of the decay's logarithm. -/
def LDL (S : Vec Ideal S4 .f32) : Fin 4 → EReal
  | 0 => View.ld S (Rect.unit ![0] ![1] inb_S4_S1_0) (Shape.Idx.first (by decide))
  | 1 => View.ld S (Rect.unit ![1] ![1] inb_S4_S1_1) (Shape.Idx.first (by decide))
  | 2 => View.ld S (Rect.unit ![2] ![1] inb_S4_S1_2) (Shape.Idx.first (by decide))
  | 3 => View.ld S (Rect.unit ![3] ![1] inb_S4_S1_3) (Shape.Idx.first (by decide))

/-- The states of the heads after the groups of a block, from the states before the block. -/
def ST1 (x : Vec Ideal S1024x1024 .f32) (g : Vec Ideal S1x1024 .f32) (w : Vec Ideal S1024x3584 .bf16) (cs sn : Vec Ideal S1024x128 .f32)
    (K : Fin 4 → FVec Ideal S1x256x128 .f32) (lg : Fin 4 → EReal) (s : Fin 4 → FVec Ideal S1x128x128 .f32) : Fin 4 → FVec Ideal S1x128x128 .f32 :=
  GST (View.ld x (Rect.unit ![0, 0] ![256, 1024] inb_S1024x1024_S256x1024_0_0)) g (View.ld w (Rect.unit ![0, 2048] ![1024, 512] inb_S1024x3584_S1024x512_0_2048)) (View.ld w (Rect.unit ![0, 2560] ![1024, 512] inb_S1024x3584_S1024x512_0_2560)) (View.ld cs (Rect.unit ![0, 0] ![256, 128] inb_S1024x128_S256x128_0_0)) (View.ld sn (Rect.unit ![0, 0] ![256, 128] inb_S1024x128_S256x128_0_0)) K lg s
def ST2 (x : Vec Ideal S1024x1024 .f32) (g : Vec Ideal S1x1024 .f32) (w : Vec Ideal S1024x3584 .bf16) (cs sn : Vec Ideal S1024x128 .f32)
    (K : Fin 4 → FVec Ideal S1x256x128 .f32) (lg : Fin 4 → EReal) (s : Fin 4 → FVec Ideal S1x128x128 .f32) : Fin 4 → FVec Ideal S1x128x128 .f32 :=
  GST (View.ld x (Rect.unit ![256, 0] ![256, 1024] inb_S1024x1024_S256x1024_256_0)) g (View.ld w (Rect.unit ![0, 2048] ![1024, 512] inb_S1024x3584_S1024x512_0_2048)) (View.ld w (Rect.unit ![0, 2560] ![1024, 512] inb_S1024x3584_S1024x512_0_2560)) (View.ld cs (Rect.unit ![256, 0] ![256, 128] inb_S1024x128_S256x128_256_0)) (View.ld sn (Rect.unit ![256, 0] ![256, 128] inb_S1024x128_S256x128_256_0)) K lg (ST1 x g w cs sn K lg s)
def ST3 (x : Vec Ideal S1024x1024 .f32) (g : Vec Ideal S1x1024 .f32) (w : Vec Ideal S1024x3584 .bf16) (cs sn : Vec Ideal S1024x128 .f32)
    (K : Fin 4 → FVec Ideal S1x256x128 .f32) (lg : Fin 4 → EReal) (s : Fin 4 → FVec Ideal S1x128x128 .f32) : Fin 4 → FVec Ideal S1x128x128 .f32 :=
  GST (View.ld x (Rect.unit ![512, 0] ![256, 1024] inb_S1024x1024_S256x1024_512_0)) g (View.ld w (Rect.unit ![0, 2048] ![1024, 512] inb_S1024x3584_S1024x512_0_2048)) (View.ld w (Rect.unit ![0, 2560] ![1024, 512] inb_S1024x3584_S1024x512_0_2560)) (View.ld cs (Rect.unit ![512, 0] ![256, 128] inb_S1024x128_S256x128_512_0)) (View.ld sn (Rect.unit ![512, 0] ![256, 128] inb_S1024x128_S256x128_512_0)) K lg (ST2 x g w cs sn K lg s)
def ST4 (x : Vec Ideal S1024x1024 .f32) (g : Vec Ideal S1x1024 .f32) (w : Vec Ideal S1024x3584 .bf16) (cs sn : Vec Ideal S1024x128 .f32)
    (K : Fin 4 → FVec Ideal S1x256x128 .f32) (lg : Fin 4 → EReal) (s : Fin 4 → FVec Ideal S1x128x128 .f32) : Fin 4 → FVec Ideal S1x128x128 .f32 :=
  GST (View.ld x (Rect.unit ![768, 0] ![256, 1024] inb_S1024x1024_S256x1024_768_0)) g (View.ld w (Rect.unit ![0, 2048] ![1024, 512] inb_S1024x3584_S1024x512_0_2048)) (View.ld w (Rect.unit ![0, 2560] ![1024, 512] inb_S1024x3584_S1024x512_0_2560)) (View.ld cs (Rect.unit ![768, 0] ![256, 128] inb_S1024x128_S256x128_768_0)) (View.ld sn (Rect.unit ![768, 0] ![256, 128] inb_S1024x128_S256x128_768_0)) K lg (ST3 x g w cs sn K lg s)

/-- The retention's block: the rows of its four groups. -/
def OOR (x : Vec Ideal S1024x1024 .f32) (g : Vec Ideal S1x1024 .f32) (w : Vec Ideal S1024x3584 .bf16) (cs sn : Vec Ideal S1024x128 .f32)
    (D : Fin 4 → FVec Ideal S1x256x256 .f32) (Q K : Fin 4 → FVec Ideal S1x256x128 .f32) (lg : Fin 4 → EReal) (s : Fin 4 → FVec Ideal S1x128x128 .f32) : Vec Ideal S1024x512 .bf16 :=
  View.canon (Val := Elt Ideal) (e := .bf16)
    [⟨Rect.unit ![768, 0] ![256, 512] inb_S1024x512_S256x512_768_0, GOR (View.ld x (Rect.unit ![768, 0] ![256, 1024] inb_S1024x1024_S256x1024_768_0)) g (View.ld w (Rect.unit ![0, 1536] ![1024, 512] inb_S1024x3584_S1024x512_0_1536)) (View.ld w (Rect.unit ![0, 2048] ![1024, 512] inb_S1024x3584_S1024x512_0_2048)) (View.ld w (Rect.unit ![0, 2560] ![1024, 512] inb_S1024x3584_S1024x512_0_2560)) (View.ld w (Rect.unit ![0, 3072] ![1024, 512] inb_S1024x3584_S1024x512_0_3072)) (View.ld cs (Rect.unit ![768, 0] ![256, 128] inb_S1024x128_S256x128_768_0)) (View.ld sn (Rect.unit ![768, 0] ![256, 128] inb_S1024x128_S256x128_768_0)) D Q (ST3 x g w cs sn K lg s)⟩,
    ⟨Rect.unit ![512, 0] ![256, 512] inb_S1024x512_S256x512_512_0, GOR (View.ld x (Rect.unit ![512, 0] ![256, 1024] inb_S1024x1024_S256x1024_512_0)) g (View.ld w (Rect.unit ![0, 1536] ![1024, 512] inb_S1024x3584_S1024x512_0_1536)) (View.ld w (Rect.unit ![0, 2048] ![1024, 512] inb_S1024x3584_S1024x512_0_2048)) (View.ld w (Rect.unit ![0, 2560] ![1024, 512] inb_S1024x3584_S1024x512_0_2560)) (View.ld w (Rect.unit ![0, 3072] ![1024, 512] inb_S1024x3584_S1024x512_0_3072)) (View.ld cs (Rect.unit ![512, 0] ![256, 128] inb_S1024x128_S256x128_512_0)) (View.ld sn (Rect.unit ![512, 0] ![256, 128] inb_S1024x128_S256x128_512_0)) D Q (ST2 x g w cs sn K lg s)⟩,
    ⟨Rect.unit ![256, 0] ![256, 512] inb_S1024x512_S256x512_256_0, GOR (View.ld x (Rect.unit ![256, 0] ![256, 1024] inb_S1024x1024_S256x1024_256_0)) g (View.ld w (Rect.unit ![0, 1536] ![1024, 512] inb_S1024x3584_S1024x512_0_1536)) (View.ld w (Rect.unit ![0, 2048] ![1024, 512] inb_S1024x3584_S1024x512_0_2048)) (View.ld w (Rect.unit ![0, 2560] ![1024, 512] inb_S1024x3584_S1024x512_0_2560)) (View.ld w (Rect.unit ![0, 3072] ![1024, 512] inb_S1024x3584_S1024x512_0_3072)) (View.ld cs (Rect.unit ![256, 0] ![256, 128] inb_S1024x128_S256x128_256_0)) (View.ld sn (Rect.unit ![256, 0] ![256, 128] inb_S1024x128_S256x128_256_0)) D Q (ST1 x g w cs sn K lg s)⟩,
    ⟨Rect.unit ![0, 0] ![256, 512] inb_S1024x512_S256x512_0_0, GOR (View.ld x (Rect.unit ![0, 0] ![256, 1024] inb_S1024x1024_S256x1024_0_0)) g (View.ld w (Rect.unit ![0, 1536] ![1024, 512] inb_S1024x3584_S1024x512_0_1536)) (View.ld w (Rect.unit ![0, 2048] ![1024, 512] inb_S1024x3584_S1024x512_0_2048)) (View.ld w (Rect.unit ![0, 2560] ![1024, 512] inb_S1024x3584_S1024x512_0_2560)) (View.ld w (Rect.unit ![0, 3072] ![1024, 512] inb_S1024x3584_S1024x512_0_3072)) (View.ld cs (Rect.unit ![0, 0] ![256, 128] inb_S1024x128_S256x128_0_0)) (View.ld sn (Rect.unit ![0, 0] ![256, 128] inb_S1024x128_S256x128_0_0)) D Q s⟩]

/-- The state after a block, whatever the earlier writes. -/
def OST (x : Vec Ideal S1024x1024 .f32) (g : Vec Ideal S1x1024 .f32) (w : Vec Ideal S1024x3584 .bf16) (cs sn : Vec Ideal S1024x128 .f32)
    (K : Fin 4 → FVec Ideal S1x256x128 .f32) (lg : Fin 4 → EReal) (s : Fin 4 → FVec Ideal S1x128x128 .f32) (L : List (View.Piece (Elt Ideal) S4x128x128 .f32)) : Vec Ideal S4x128x128 .f32 :=
  View.canon (Val := Elt Ideal) (e := .f32)
    (⟨Rect.unit ![3, 0, 0] ![1, 128, 128] inb_S4x128x128_S1x128x128_3_0_0, ST4 x g w cs sn K lg s 3⟩ ::
    ⟨Rect.unit ![2, 0, 0] ![1, 128, 128] inb_S4x128x128_S1x128x128_2_0_0, ST4 x g w cs sn K lg s 2⟩ ::
    ⟨Rect.unit ![1, 0, 0] ![1, 128, 128] inb_S4x128x128_S1x128x128_1_0_0, ST4 x g w cs sn K lg s 1⟩ ::
    ⟨Rect.unit ![0, 0, 0] ![1, 128, 128] inb_S4x128x128_S1x128x128_0_0_0, ST4 x g w cs sn K lg s 0⟩ :: L)

/-- The attention's queries of a block. -/
def OQ (x : Vec Ideal S1024x1024 .f32) (g : Vec Ideal S1x1024 .f32) (w : Vec Ideal S1024x3584 .bf16) : Vec Ideal S1024x512 .bf16 :=
  View.canon (Val := Elt Ideal) (e := .bf16)
    [⟨Rect.unit ![768, 0] ![256, 512] inb_S1024x512_S256x512_768_0, SQ (HN (View.ld x (Rect.unit ![768, 0] ![256, 1024] inb_S1024x1024_S256x1024_768_0)) g) (View.ld w (Rect.unit ![0, 0] ![1024, 512] inb_S1024x3584_S1024x512_0_0))⟩,
    ⟨Rect.unit ![512, 0] ![256, 512] inb_S1024x512_S256x512_512_0, SQ (HN (View.ld x (Rect.unit ![512, 0] ![256, 1024] inb_S1024x1024_S256x1024_512_0)) g) (View.ld w (Rect.unit ![0, 0] ![1024, 512] inb_S1024x3584_S1024x512_0_0))⟩,
    ⟨Rect.unit ![256, 0] ![256, 512] inb_S1024x512_S256x512_256_0, SQ (HN (View.ld x (Rect.unit ![256, 0] ![256, 1024] inb_S1024x1024_S256x1024_256_0)) g) (View.ld w (Rect.unit ![0, 0] ![1024, 512] inb_S1024x3584_S1024x512_0_0))⟩,
    ⟨Rect.unit ![0, 0] ![256, 512] inb_S1024x512_S256x512_0_0, SQ (HN (View.ld x (Rect.unit ![0, 0] ![256, 1024] inb_S1024x1024_S256x1024_0_0)) g) (View.ld w (Rect.unit ![0, 0] ![1024, 512] inb_S1024x3584_S1024x512_0_0))⟩]

/-- The attention's keys of a block. -/
def OK (x : Vec Ideal S1024x1024 .f32) (g : Vec Ideal S1x1024 .f32) (w : Vec Ideal S1024x3584 .bf16) : Vec Ideal S1024x512 .bf16 :=
  View.canon (Val := Elt Ideal) (e := .bf16)
    [⟨Rect.unit ![768, 0] ![256, 512] inb_S1024x512_S256x512_768_0, VV (HN (View.ld x (Rect.unit ![768, 0] ![256, 1024] inb_S1024x1024_S256x1024_768_0)) g) (View.ld w (Rect.unit ![0, 512] ![1024, 512] inb_S1024x3584_S1024x512_0_512))⟩,
    ⟨Rect.unit ![512, 0] ![256, 512] inb_S1024x512_S256x512_512_0, VV (HN (View.ld x (Rect.unit ![512, 0] ![256, 1024] inb_S1024x1024_S256x1024_512_0)) g) (View.ld w (Rect.unit ![0, 512] ![1024, 512] inb_S1024x3584_S1024x512_0_512))⟩,
    ⟨Rect.unit ![256, 0] ![256, 512] inb_S1024x512_S256x512_256_0, VV (HN (View.ld x (Rect.unit ![256, 0] ![256, 1024] inb_S1024x1024_S256x1024_256_0)) g) (View.ld w (Rect.unit ![0, 512] ![1024, 512] inb_S1024x3584_S1024x512_0_512))⟩,
    ⟨Rect.unit ![0, 0] ![256, 512] inb_S1024x512_S256x512_0_0, VV (HN (View.ld x (Rect.unit ![0, 0] ![256, 1024] inb_S1024x1024_S256x1024_0_0)) g) (View.ld w (Rect.unit ![0, 512] ![1024, 512] inb_S1024x3584_S1024x512_0_512))⟩]

/-- The attention's values of a block. -/
def OV (x : Vec Ideal S1024x1024 .f32) (g : Vec Ideal S1x1024 .f32) (w : Vec Ideal S1024x3584 .bf16) : Vec Ideal S1024x512 .bf16 :=
  View.canon (Val := Elt Ideal) (e := .bf16)
    [⟨Rect.unit ![768, 0] ![256, 512] inb_S1024x512_S256x512_768_0, VV (HN (View.ld x (Rect.unit ![768, 0] ![256, 1024] inb_S1024x1024_S256x1024_768_0)) g) (View.ld w (Rect.unit ![0, 1024] ![1024, 512] inb_S1024x3584_S1024x512_0_1024))⟩,
    ⟨Rect.unit ![512, 0] ![256, 512] inb_S1024x512_S256x512_512_0, VV (HN (View.ld x (Rect.unit ![512, 0] ![256, 1024] inb_S1024x1024_S256x1024_512_0)) g) (View.ld w (Rect.unit ![0, 1024] ![1024, 512] inb_S1024x3584_S1024x512_0_1024))⟩,
    ⟨Rect.unit ![256, 0] ![256, 512] inb_S1024x512_S256x512_256_0, VV (HN (View.ld x (Rect.unit ![256, 0] ![256, 1024] inb_S1024x1024_S256x1024_256_0)) g) (View.ld w (Rect.unit ![0, 1024] ![1024, 512] inb_S1024x3584_S1024x512_0_1024))⟩,
    ⟨Rect.unit ![0, 0] ![256, 512] inb_S1024x512_S256x512_0_0, VV (HN (View.ld x (Rect.unit ![0, 0] ![256, 1024] inb_S1024x1024_S256x1024_0_0)) g) (View.ld w (Rect.unit ![0, 1024] ![1024, 512] inb_S1024x3584_S1024x512_0_1024))⟩]

/-- The difference of the row and the column index. -/
def DIF : FVec Ideal S256x256 .f32 := sitofp .f32 (subi (iota .tc S256x256 32 [0] iota_S256x256_d0_w32) (iota .tc S256x256 32 [1] iota_S256x256_d1_w32))

/-- The row index. -/
def IDX : FVec Ideal S256x128 .f32 := sitofp .f32 (iota .tc S256x128 32 [0] iota_S256x128_d0_w32)

/-- The decay table of a head. -/
def TD (l : EReal) : FVec Ideal S1x256x256 .f32 :=
  shapeCast S1x256x256 (select (cmpf .oge DIF (broadcast S256x256 (Scalar.ofBits (F := Ideal) .f32 0x00000000#32)))
    (exp (mulf (maximumf DIF (broadcast S256x256 (Scalar.ofBits (F := Ideal) .f32 0x00000000#32))) (broadcast S256x256 (l : Ideal .f32))))
    (broadcast S256x256 (Scalar.ofBits (F := Ideal) .f32 0x00000000#32))) shapeCasts_S256x256_S1x256x256

/-- The query table of a head. -/
def TQ (l : EReal) : FVec Ideal S1x256x128 .f32 :=
  shapeCast S1x256x128 (exp (mulf (addf IDX (broadcast S256x128 (Scalar.ofBits (F := Ideal) .f32 0x3F800000#32))) (broadcast S256x128 (l : Ideal .f32)))) shapeCasts_S256x128_S1x256x128

/-- The key table of a head. -/
def TK (l : EReal) : FVec Ideal S1x256x128 .f32 :=
  shapeCast S1x256x128 (exp (mulf (subf (broadcast S256x128 (Scalar.ofBits (F := Ideal) .f32 0x437F0000#32)) IDX) (broadcast S256x128 (l : Ideal .f32)))) shapeCasts_S256x128_S1x256x128

/-- The projection, cast. -/
def CW (X : Vec Ideal S1024x3584 .f32) : Vec Ideal S1024x3584 .bf16 := fun i => X i

/-- The state at the start of a sequence. -/
def ZS : Vec Ideal S4x128x128 .f32 := broadcast S4x128x128 (Scalar.ofBits (F := Ideal) .f32 0x00000000#32)

/-- The decay table the first point fills. -/
def WD (lg : Fin 4 → EReal) : Vec Ideal S4x256x256 .f32 :=
  View.canon (Val := Elt Ideal) (e := .f32)
    [⟨Rect.unit ![3, 0, 0] ![1, 256, 256] inb_S4x256x256_S1x256x256_3_0_0, TD (lg 3)⟩,
    ⟨Rect.unit ![2, 0, 0] ![1, 256, 256] inb_S4x256x256_S1x256x256_2_0_0, TD (lg 2)⟩,
    ⟨Rect.unit ![1, 0, 0] ![1, 256, 256] inb_S4x256x256_S1x256x256_1_0_0, TD (lg 1)⟩,
    ⟨Rect.unit ![0, 0, 0] ![1, 256, 256] inb_S4x256x256_S1x256x256_0_0_0, TD (lg 0)⟩]

/-- The query table the first point fills. -/
def WQ (lg : Fin 4 → EReal) : Vec Ideal S4x256x128 .f32 :=
  View.canon (Val := Elt Ideal) (e := .f32)
    [⟨Rect.unit ![3, 0, 0] ![1, 256, 128] inb_S4x256x128_S1x256x128_3_0_0, TQ (lg 3)⟩,
    ⟨Rect.unit ![2, 0, 0] ![1, 256, 128] inb_S4x256x128_S1x256x128_2_0_0, TQ (lg 2)⟩,
    ⟨Rect.unit ![1, 0, 0] ![1, 256, 128] inb_S4x256x128_S1x256x128_1_0_0, TQ (lg 1)⟩,
    ⟨Rect.unit ![0, 0, 0] ![1, 256, 128] inb_S4x256x128_S1x256x128_0_0_0, TQ (lg 0)⟩]

/-- The key table the first point fills. -/
def WK (lg : Fin 4 → EReal) : Vec Ideal S4x256x128 .f32 :=
  View.canon (Val := Elt Ideal) (e := .f32)
    [⟨Rect.unit ![3, 0, 0] ![1, 256, 128] inb_S4x256x128_S1x256x128_3_0_0, TK (lg 3)⟩,
    ⟨Rect.unit ![2, 0, 0] ![1, 256, 128] inb_S4x256x128_S1x256x128_2_0_0, TK (lg 2)⟩,
    ⟨Rect.unit ![1, 0, 0] ![1, 256, 128] inb_S4x256x128_S1x256x128_1_0_0, TK (lg 1)⟩,
    ⟨Rect.unit ![0, 0, 0] ![1, 256, 128] inb_S4x256x128_S1x256x128_0_0_0, TK (lg 0)⟩]

end Cert.MixIdeal.Blk
-- ==== Proof.MixPay.lean ====
/-
  The stored values of the mixer's input kernel, one after another, in the vocabulary of a group of rows.
-/
module

public import proofs.«01_k».proof.Proof.MixVoc
public import Idealize.ShloMosaic.Lib.Pointwise.Tactic
public import Idealize.ShloMosaic.Lib.Pipeline.ValueKit
public import Idealize.ShloMosaic.Lib.Pipeline.ReadBack

@[expose] public section

set_option maxRecDepth 16384

noncomputable section

namespace Cert.MixIdeal.Blk

open Idealize.ShloMosaic hiding ix1 ix2 ix3 ix4
open Cert.MixIdeal Cert.MixIdeal.Gen Idealize.ShloMosaic.TcCoe Idealize.ShloMosaic.ValueIdx Layer Idealize.SL.Sem
open Idealize.ShloMosaic.Tactic
open scoped BigOperators

variable (x : Vec Ideal S256x1024 .f32) (g : Vec Ideal S1x1024 .f32) (wq wk wv wg w1 w2 w3 : Vec Ideal S1024x512 .bf16) (cs sn : Vec Ideal S256x128 .f32)
  (s0 s1 s2 s3 : Vec Ideal S1x128x128 .f32) (Q0 Q1 Q2 Q3 K0 K1 K2 K3 : Vec Ideal S1x256x128 .f32) (D0 D1 D2 D3 : Vec Ideal S1x256x256 .f32) (l0 l1 l2 l3 : Elt Ideal .f32)

theorem p4 (X : Vec Ideal S1024x3584 .f32) : k0_pay4 X = CW X := by unfold k0_pay4; simp only [shapeCast_self]; rfl

theorem p5 : (k0_pay5 : FVec Ideal S256x256 .f32) = DIF := rfl

theorem p6 : (k0_pay6 : FVec Ideal S256x128 .f32) = IDX := rfl

theorem p7 : k0_pay7 l0 = TD l0 := rfl

theorem p8 : k0_pay8 l0 = TQ l0 := rfl

theorem p10 : k0_pay10 (k0_pay9 l0) = TK l0 := rfl

theorem p11 : k0_pay11 DIF l0 = TD l0 := rfl

theorem p12 : k0_pay12 IDX l0 = TQ l0 := rfl

theorem p13 : k0_pay13 IDX l0 = TK l0 := rfl

theorem p17 : k0_pay17 (k0_pay14 DIF) (k0_pay15 DIF) (k0_pay16 l0) = TD l0 := rfl

theorem p18 : k0_pay18 IDX l0 = TQ l0 := rfl

theorem p19 : k0_pay19 IDX l0 = TK l0 := rfl

theorem p20 : k0_pay20 DIF l0 = TD l0 := rfl

theorem p21 : k0_pay21 IDX l0 (Scalar.ofBits (F := Ideal) .f32 0x3F800000#32) = TQ l0 := rfl

theorem p22 : k0_pay22 IDX l0 = TK l0 := rfl

theorem p23 : (k0_pay23 : FVec Ideal S4x128x128 .f32) = ZS := by unfold k0_pay23; simp only [shapeCast_self]; rfl

theorem p27 : k0_pay27 x = x := by unfold k0_pay27; try (first | rfl | (simp only [shapeCast_self] <;> rfl))

theorem p28 : k0_pay28 x g = (HN x g) := by unfold k0_pay28; try (first | rfl | (simp only [shapeCast_self] <;> rfl))

theorem p29 : k0_pay29 x g wq cs sn = (QQ (HN x g) wq cs sn) := by unfold k0_pay29; rw [p28]; first | (rw [shapeCast_self cs, shapeCast_self sn]; rfl) | (rw [shapeCast_self cs]; rfl) | (rw [shapeCast_self sn]; rfl)

theorem p30 : k0_pay30 (HN x g) wk cs sn = (KK (HN x g) wk cs sn) := by unfold k0_pay30; first | (rw [shapeCast_self cs, shapeCast_self sn]; rfl) | (rw [shapeCast_self cs]; rfl) | (rw [shapeCast_self sn]; rfl)

theorem p31 : k0_pay31 (HN x g) wv = (VV (HN x g) wv) := by unfold k0_pay31; try (first | rfl | (simp only [shapeCast_self] <;> rfl))

theorem p32 : k0_pay32 (HN x g) wg = (MM (HN x g) wg) := by unfold k0_pay32; try (first | rfl | (simp only [shapeCast_self] <;> rfl))

theorem p33 : k0_pay33 (QQ (HN x g) wq cs sn) = (HD (QQ (HN x g) wq cs sn) 0) := by unfold k0_pay33; try (first | rfl | (simp only [shapeCast_self] <;> rfl))

theorem p34 : k0_pay34 (QQ (HN x g) wq cs sn) = (HD (QQ (HN x g) wq cs sn) 1) := by unfold k0_pay34; try (first | rfl | (simp only [shapeCast_self] <;> rfl))

theorem p35 : k0_pay35 (QQ (HN x g) wq cs sn) = (HD (QQ (HN x g) wq cs sn) 2) := by unfold k0_pay35; try (first | rfl | (simp only [shapeCast_self] <;> rfl))

theorem p36 : k0_pay36 (QQ (HN x g) wq cs sn) = (HD (QQ (HN x g) wq cs sn) 3) := by unfold k0_pay36; try (first | rfl | (simp only [shapeCast_self] <;> rfl))

theorem p37 : k0_pay37 (HN x g) wk cs sn = (HD (KK (HN x g) wk cs sn) 0) := by unfold k0_pay37; rw [p30]; try (first | rfl | (simp only [shapeCast_self] <;> rfl))

theorem p38 : k0_pay38 (HN x g) wk cs sn = (HD (KK (HN x g) wk cs sn) 1) := by unfold k0_pay38; rw [p30]; try (first | rfl | (simp only [shapeCast_self] <;> rfl))

theorem p39 : k0_pay39 (HN x g) wk cs sn = (HD (KK (HN x g) wk cs sn) 2) := by unfold k0_pay39; rw [p30]; try (first | rfl | (simp only [shapeCast_self] <;> rfl))

theorem p40 : k0_pay40 (HN x g) wk cs sn = (HD (KK (HN x g) wk cs sn) 3) := by unfold k0_pay40; rw [p30]; try (first | rfl | (simp only [shapeCast_self] <;> rfl))

theorem p41 : k0_pay41 (VV (HN x g) wv) = (HD (VV (HN x g) wv) 0) := by unfold k0_pay41; try (first | rfl | (simp only [shapeCast_self] <;> rfl))

theorem p42 : k0_pay42 (VV (HN x g) wv) = (HD (VV (HN x g) wv) 1) := by unfold k0_pay42; try (first | rfl | (simp only [shapeCast_self] <;> rfl))

theorem p43 : k0_pay43 (VV (HN x g) wv) = (HD (VV (HN x g) wv) 2) := by unfold k0_pay43; try (first | rfl | (simp only [shapeCast_self] <;> rfl))

theorem p44 : k0_pay44 (VV (HN x g) wv) = (HD (VV (HN x g) wv) 3) := by unfold k0_pay44; try (first | rfl | (simp only [shapeCast_self] <;> rfl))

theorem p45 : k0_pay45 s0 = (shapeCast S128x128 s0 shapeCasts_S1x128x128_S128x128) := by unfold k0_pay45; try (first | rfl | (simp only [shapeCast_self] <;> rfl))

theorem p46 : k0_pay46 s1 = (shapeCast S128x128 s1 shapeCasts_S1x128x128_S128x128) := by unfold k0_pay46; try (first | rfl | (simp only [shapeCast_self] <;> rfl))

theorem p47 : k0_pay47 s2 = (shapeCast S128x128 s2 shapeCasts_S1x128x128_S128x128) := by unfold k0_pay47; try (first | rfl | (simp only [shapeCast_self] <;> rfl))

theorem p48 : k0_pay48 s3 = (shapeCast S128x128 s3 shapeCasts_S1x128x128_S128x128) := by unfold k0_pay48; try (first | rfl | (simp only [shapeCast_self] <;> rfl))

theorem p49 : k0_pay49 (HD (QQ (HN x g) wq cs sn) 0) (HD (KK (HN x g) wk cs sn) 0) = (matmul dot_S256x128_S256x128_S256x256_1_1_0_0_n_n none (HD (QQ (HN x g) wq cs sn) 0) (HD (KK (HN x g) wk cs sn) 0) (constant (F := Ideal) S256x256 .f32 0x00000000#32)) := by unfold k0_pay49; try (first | rfl | (simp only [shapeCast_self] <;> rfl))

theorem p50 : k0_pay50 (HD (QQ (HN x g) wq cs sn) 1) (HD (KK (HN x g) wk cs sn) 1) = (matmul dot_S256x128_S256x128_S256x256_1_1_0_0_n_n none (HD (QQ (HN x g) wq cs sn) 1) (HD (KK (HN x g) wk cs sn) 1) (constant (F := Ideal) S256x256 .f32 0x00000000#32)) := by unfold k0_pay50; try (first | rfl | (simp only [shapeCast_self] <;> rfl))

theorem p51 : k0_pay51 (HD (QQ (HN x g) wq cs sn) 2) (HD (KK (HN x g) wk cs sn) 2) = (matmul dot_S256x128_S256x128_S256x256_1_1_0_0_n_n none (HD (QQ (HN x g) wq cs sn) 2) (HD (KK (HN x g) wk cs sn) 2) (constant (F := Ideal) S256x256 .f32 0x00000000#32)) := by unfold k0_pay51; try (first | rfl | (simp only [shapeCast_self] <;> rfl))

theorem p52 : k0_pay52 (HD (QQ (HN x g) wq cs sn) 3) (HD (KK (HN x g) wk cs sn) 3) = (matmul dot_S256x128_S256x128_S256x256_1_1_0_0_n_n none (HD (QQ (HN x g) wq cs sn) 3) (HD (KK (HN x g) wk cs sn) 3) (constant (F := Ideal) S256x256 .f32 0x00000000#32)) := by unfold k0_pay52; try (first | rfl | (simp only [shapeCast_self] <;> rfl))

theorem p53 : k0_pay53 (HD (QQ (HN x g) wq cs sn) 0) s0 Q0 = (CRS (HD (QQ (HN x g) wq cs sn) 0) Q0 s0) := by unfold k0_pay53; rw [p45]; try (first | rfl | (simp only [shapeCast_self] <;> rfl))

theorem p54 : k0_pay54 (HD (QQ (HN x g) wq cs sn) 1) s1 Q1 = (CRS (HD (QQ (HN x g) wq cs sn) 1) Q1 s1) := by unfold k0_pay54; rw [p46]; try (first | rfl | (simp only [shapeCast_self] <;> rfl))

theorem p55 : k0_pay55 (HD (QQ (HN x g) wq cs sn) 2) = (extf .f32 (HD (QQ (HN x g) wq cs sn) 2) bitsLt_bf16_f32) := by unfold k0_pay55; try (first | rfl | (simp only [shapeCast_self] <;> rfl))

theorem p56 : k0_pay56 Q2 = (shapeCast S256x128 Q2 shapeCasts_S1x256x128_S256x128) := by unfold k0_pay56; try (first | rfl | (simp only [shapeCast_self] <;> rfl))

theorem p57 : k0_pay57 (shapeCast S128x128 s2 shapeCasts_S1x128x128_S128x128) (extf .f32 (HD (QQ (HN x g) wq cs sn) 2) bitsLt_bf16_f32) (shapeCast S256x128 Q2 shapeCasts_S1x256x128_S256x128) = (CRS (HD (QQ (HN x g) wq cs sn) 2) Q2 s2) := by unfold k0_pay57; try (first | rfl | (simp only [shapeCast_self] <;> rfl))

theorem p58 : k0_pay58 (HD (QQ (HN x g) wq cs sn) 3) (shapeCast S128x128 s3 shapeCasts_S1x128x128_S128x128) Q3 = (CRS (HD (QQ (HN x g) wq cs sn) 3) Q3 s3) := by unfold k0_pay58; try (first | rfl | (simp only [shapeCast_self] <;> rfl))

theorem p59 : k0_pay59 (HD (KK (HN x g) wk cs sn) 0) (HD (VV (HN x g) wv) 0) K0 = (KV (HD (KK (HN x g) wk cs sn) 0) (HD (VV (HN x g) wv) 0) K0) := by unfold k0_pay59; try (first | rfl | (simp only [shapeCast_self] <;> rfl))

theorem p60 : k0_pay60 (HD (KK (HN x g) wk cs sn) 1) (HD (VV (HN x g) wv) 1) K1 = (KV (HD (KK (HN x g) wk cs sn) 1) (HD (VV (HN x g) wv) 1) K1) := by unfold k0_pay60; try (first | rfl | (simp only [shapeCast_self] <;> rfl))

theorem p61 : k0_pay61 (HD (KK (HN x g) wk cs sn) 2) (HD (VV (HN x g) wv) 2) K2 = (KV (HD (KK (HN x g) wk cs sn) 2) (HD (VV (HN x g) wv) 2) K2) := by unfold k0_pay61; try (first | rfl | (simp only [shapeCast_self] <;> rfl))

theorem p62 : k0_pay62 (HD (KK (HN x g) wk cs sn) 3) (HD (VV (HN x g) wv) 3) K3 = (KV (HD (KK (HN x g) wk cs sn) 3) (HD (VV (HN x g) wv) 3) K3) := by unfold k0_pay62; try (first | rfl | (simp only [shapeCast_self] <;> rfl))

theorem p63 : k0_pay63 (HD (VV (HN x g) wv) 0) (matmul dot_S256x128_S256x128_S256x256_1_1_0_0_n_n none (HD (QQ (HN x g) wq cs sn) 0) (HD (KK (HN x g) wk cs sn) 0) (constant (F := Ideal) S256x256 .f32 0x00000000#32)) D0 = (INN (HD (QQ (HN x g) wq cs sn) 0) (HD (KK (HN x g) wk cs sn) 0) (HD (VV (HN x g) wv) 0) D0) := by unfold k0_pay63; try (first | rfl | (simp only [shapeCast_self] <;> rfl))

theorem p64 : k0_pay64 (HD (VV (HN x g) wv) 1) (matmul dot_S256x128_S256x128_S256x256_1_1_0_0_n_n none (HD (QQ (HN x g) wq cs sn) 1) (HD (KK (HN x g) wk cs sn) 1) (constant (F := Ideal) S256x256 .f32 0x00000000#32)) D1 = (INN (HD (QQ (HN x g) wq cs sn) 1) (HD (KK (HN x g) wk cs sn) 1) (HD (VV (HN x g) wv) 1) D1) := by unfold k0_pay64; try (first | rfl | (simp only [shapeCast_self] <;> rfl))

theorem p65 : k0_pay65 (HD (VV (HN x g) wv) 2) (matmul dot_S256x128_S256x128_S256x256_1_1_0_0_n_n none (HD (QQ (HN x g) wq cs sn) 2) (HD (KK (HN x g) wk cs sn) 2) (constant (F := Ideal) S256x256 .f32 0x00000000#32)) D2 = (INN (HD (QQ (HN x g) wq cs sn) 2) (HD (KK (HN x g) wk cs sn) 2) (HD (VV (HN x g) wv) 2) D2) := by unfold k0_pay65; try (first | rfl | (simp only [shapeCast_self] <;> rfl))

theorem p66 : k0_pay66 (HD (VV (HN x g) wv) 3) (matmul dot_S256x128_S256x128_S256x256_1_1_0_0_n_n none (HD (QQ (HN x g) wq cs sn) 3) (HD (KK (HN x g) wk cs sn) 3) (constant (F := Ideal) S256x256 .f32 0x00000000#32)) D3 = (INN (HD (QQ (HN x g) wq cs sn) 3) (HD (KK (HN x g) wk cs sn) 3) (HD (VV (HN x g) wv) 3) D3) := by unfold k0_pay66; try (first | rfl | (simp only [shapeCast_self] <;> rfl))

theorem p67 : k0_pay67 (shapeCast S128x128 s0 shapeCasts_S1x128x128_S128x128) (KV (HD (KK (HN x g) wk cs sn) 0) (HD (VV (HN x g) wv) 0) K0) l0 = (NST (HD (KK (HN x g) wk cs sn) 0) (HD (VV (HN x g) wv) 0) K0 l0 s0) := by unfold k0_pay67; try (first | rfl | (simp only [shapeCast_self] <;> rfl))

theorem p68 : k0_pay68 l1 = (exp (mulf (broadcast S1x128 (Scalar.ofBits (F := Ideal) .f32 0x43800000#32)) (broadcast S1x128 l1))) := by unfold k0_pay68; try (first | rfl | (simp only [shapeCast_self] <;> rfl))

theorem p69 : k0_pay69 (shapeCast S128x128 s1 shapeCasts_S1x128x128_S128x128) (KV (HD (KK (HN x g) wk cs sn) 1) (HD (VV (HN x g) wv) 1) K1) (exp (mulf (broadcast S1x128 (Scalar.ofBits (F := Ideal) .f32 0x43800000#32)) (broadcast S1x128 l1))) = (NST (HD (KK (HN x g) wk cs sn) 1) (HD (VV (HN x g) wv) 1) K1 l1 s1) := by unfold k0_pay69; try (first | rfl | (simp only [shapeCast_self] <;> rfl))

theorem p70 : k0_pay70 (shapeCast S128x128 s2 shapeCasts_S1x128x128_S128x128) (KV (HD (KK (HN x g) wk cs sn) 2) (HD (VV (HN x g) wv) 2) K2) l2 = (NST (HD (KK (HN x g) wk cs sn) 2) (HD (VV (HN x g) wv) 2) K2 l2 s2) := by unfold k0_pay70; try (first | rfl | (simp only [shapeCast_self] <;> rfl))

theorem p71 : k0_pay71 (shapeCast S128x128 s3 shapeCasts_S1x128x128_S128x128) (KV (HD (KK (HN x g) wk cs sn) 3) (HD (VV (HN x g) wv) 3) K3) l3 = (NST (HD (KK (HN x g) wk cs sn) 3) (HD (VV (HN x g) wv) 3) K3 l3 s3) := by unfold k0_pay71; try (first | rfl | (simp only [shapeCast_self] <;> rfl))

theorem p72 : k0_pay72 (CRS (HD (QQ (HN x g) wq cs sn) 0) Q0 s0) (INN (HD (QQ (HN x g) wq cs sn) 0) (HD (KK (HN x g) wk cs sn) 0) (HD (VV (HN x g) wv) 0) D0) = (CTR (addf (INN (HD (QQ (HN x g) wq cs sn) 0) (HD (KK (HN x g) wk cs sn) 0) (HD (VV (HN x g) wv) 0) D0) (CRS (HD (QQ (HN x g) wq cs sn) 0) Q0 s0))) := by unfold k0_pay72; try (first | rfl | (simp only [shapeCast_self] <;> rfl))

theorem p73 : k0_pay73 (CRS (HD (QQ (HN x g) wq cs sn) 0) Q0 s0) (INN (HD (QQ (HN x g) wq cs sn) 0) (HD (KK (HN x g) wk cs sn) 0) (HD (VV (HN x g) wv) 0) D0) = (MEAN (mulf (CTR (addf (INN (HD (QQ (HN x g) wq cs sn) 0) (HD (KK (HN x g) wk cs sn) 0) (HD (VV (HN x g) wv) 0) D0) (CRS (HD (QQ (HN x g) wq cs sn) 0) Q0 s0))) (CTR (addf (INN (HD (QQ (HN x g) wq cs sn) 0) (HD (KK (HN x g) wk cs sn) 0) (HD (VV (HN x g) wv) 0) D0) (CRS (HD (QQ (HN x g) wq cs sn) 0) Q0 s0))))) := by unfold k0_pay73; rw [p72]; try (first | rfl | (simp only [shapeCast_self] <;> rfl))

theorem p74 : k0_pay74 (MM (HN x g) wg) (CTR (addf (INN (HD (QQ (HN x g) wq cs sn) 0) (HD (KK (HN x g) wk cs sn) 0) (HD (VV (HN x g) wv) 0) D0) (CRS (HD (QQ (HN x g) wq cs sn) 0) Q0 s0))) (MEAN (mulf (CTR (addf (INN (HD (QQ (HN x g) wq cs sn) 0) (HD (KK (HN x g) wk cs sn) 0) (HD (VV (HN x g) wv) 0) D0) (CRS (HD (QQ (HN x g) wq cs sn) 0) Q0 s0))) (CTR (addf (INN (HD (QQ (HN x g) wq cs sn) 0) (HD (KK (HN x g) wk cs sn) 0) (HD (VV (HN x g) wv) 0) D0) (CRS (HD (QQ (HN x g) wq cs sn) 0) Q0 s0))))) = (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0)) := by unfold k0_pay74; try (first | rfl | (simp only [shapeCast_self] <;> rfl))

theorem p75 : k0_pay75 (MM (HN x g) wg) (CRS (HD (QQ (HN x g) wq cs sn) 1) Q1 s1) (INN (HD (QQ (HN x g) wq cs sn) 1) (HD (KK (HN x g) wk cs sn) 1) (HD (VV (HN x g) wv) 1) D1) = (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1)) := by unfold k0_pay75; try (first | rfl | (simp only [shapeCast_self] <;> rfl))

theorem p76 : k0_pay76 (CRS (HD (QQ (HN x g) wq cs sn) 2) Q2 s2) (INN (HD (QQ (HN x g) wq cs sn) 2) (HD (KK (HN x g) wk cs sn) 2) (HD (VV (HN x g) wv) 2) D2) = (CTR (addf (INN (HD (QQ (HN x g) wq cs sn) 2) (HD (KK (HN x g) wk cs sn) 2) (HD (VV (HN x g) wv) 2) D2) (CRS (HD (QQ (HN x g) wq cs sn) 2) Q2 s2))) := by unfold k0_pay76; try (first | rfl | (simp only [shapeCast_self] <;> rfl))

theorem p77 : k0_pay77 (MM (HN x g) wg) = (HD (MM (HN x g) wg) 2) := by unfold k0_pay77; try (first | rfl | (simp only [shapeCast_self] <;> rfl))

theorem p78 : k0_pay78 (CRS (HD (QQ (HN x g) wq cs sn) 2) Q2 s2) (INN (HD (QQ (HN x g) wq cs sn) 2) (HD (KK (HN x g) wk cs sn) 2) (HD (VV (HN x g) wv) 2) D2) = (broadcastTo S256x128 (rsqrt (addf (MEAN (mulf (CTR (addf (INN (HD (QQ (HN x g) wq cs sn) 2) (HD (KK (HN x g) wk cs sn) 2) (HD (VV (HN x g) wv) 2) D2) (CRS (HD (QQ (HN x g) wq cs sn) 2) Q2 s2))) (CTR (addf (INN (HD (QQ (HN x g) wq cs sn) 2) (HD (KK (HN x g) wk cs sn) 2) (HD (VV (HN x g) wv) 2) D2) (CRS (HD (QQ (HN x g) wq cs sn) 2) Q2 s2))))) (broadcast S256x1 (Scalar.ofBits (F := Ideal) .f32 0x3727C5AC#32)))) broadcasts_S256x1_S256x128) := by unfold k0_pay78; rw [p76]; try (first | rfl | (simp only [shapeCast_self] <;> rfl))

theorem p79 : k0_pay79 (MM (HN x g) wg) (CRS (HD (QQ (HN x g) wq cs sn) 3) Q3 s3) (INN (HD (QQ (HN x g) wq cs sn) 3) (HD (KK (HN x g) wk cs sn) 3) (HD (VV (HN x g) wv) 3) D3) (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0)) (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1)) (CTR (addf (INN (HD (QQ (HN x g) wq cs sn) 2) (HD (KK (HN x g) wk cs sn) 2) (HD (VV (HN x g) wv) 2) D2) (CRS (HD (QQ (HN x g) wq cs sn) 2) Q2 s2))) (HD (MM (HN x g) wg) 2) (broadcastTo S256x128 (rsqrt (addf (MEAN (mulf (CTR (addf (INN (HD (QQ (HN x g) wq cs sn) 2) (HD (KK (HN x g) wk cs sn) 2) (HD (VV (HN x g) wv) 2) D2) (CRS (HD (QQ (HN x g) wq cs sn) 2) Q2 s2))) (CTR (addf (INN (HD (QQ (HN x g) wq cs sn) 2) (HD (KK (HN x g) wk cs sn) 2) (HD (VV (HN x g) wv) 2) D2) (CRS (HD (QQ (HN x g) wq cs sn) 2) Q2 s2))))) (broadcast S256x1 (Scalar.ofBits (F := Ideal) .f32 0x3727C5AC#32)))) broadcasts_S256x1_S256x128) = (concatenate S256x512 1 [⟨S256x128, (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0))⟩, ⟨S256x128, (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1))⟩, ⟨S256x128, (GN (addf (INN (HD (QQ (HN x g) wq cs sn) 2) (HD (KK (HN x g) wk cs sn) 2) (HD (VV (HN x g) wv) 2) D2) (CRS (HD (QQ (HN x g) wq cs sn) 2) Q2 s2)) (HD (MM (HN x g) wg) 2))⟩, ⟨S256x128, (GN (addf (INN (HD (QQ (HN x g) wq cs sn) 3) (HD (KK (HN x g) wk cs sn) 3) (HD (VV (HN x g) wv) 3) D3) (CRS (HD (QQ (HN x g) wq cs sn) 3) Q3 s3)) (HD (MM (HN x g) wg) 3))⟩] concatenates_S256x128_S256x128_S256x128_S256x128_S256x512_d1) := by unfold k0_pay79; try (first | rfl | (simp only [shapeCast_self] <;> rfl))

theorem p80 : k0_pay80 (HN x g) w1 = (SQ (HN x g) w1) := by unfold k0_pay80; try (first | rfl | (simp only [shapeCast_self] <;> rfl))

theorem p81 : k0_pay81 (HN x g) w2 = (VV (HN x g) w2) := by unfold k0_pay81; try (first | rfl | (simp only [shapeCast_self] <;> rfl))

theorem p82 : k0_pay82 (HN x g) w3 = (VV (HN x g) w3) := by unfold k0_pay82; try (first | rfl | (simp only [shapeCast_self] <;> rfl))

theorem p83 : k0_pay83 x g = (HN x g) := by unfold k0_pay83; try (first | rfl | (simp only [shapeCast_self] <;> rfl))

theorem p84 : k0_pay84 x g wq = (MM (HN x g) wq) := by unfold k0_pay84; rw [p83]; try (first | rfl | (simp only [shapeCast_self] <;> rfl))

theorem p85 : k0_pay85 cs = cs := by unfold k0_pay85; try (first | rfl | (simp only [shapeCast_self] <;> rfl))

theorem p86 : k0_pay86 sn = sn := by unfold k0_pay86; try (first | rfl | (simp only [shapeCast_self] <;> rfl))

theorem p87 : k0_pay87 x g wq cs sn = (RH (HD (MM (HN x g) wq) 0) cs sn) := by unfold k0_pay87; rw [p84]; rw [p85]; rw [p86]; try (first | rfl | (simp only [shapeCast_self] <;> rfl))

theorem p88 : k0_pay88 x g wq cs sn = (RH (HD (MM (HN x g) wq) 1) cs sn) := by unfold k0_pay88; rw [p84]; rw [p85]; rw [p86]; try (first | rfl | (simp only [shapeCast_self] <;> rfl))

theorem p89 : k0_pay89 x g wq = (HD (MM (HN x g) wq) 2) := by unfold k0_pay89; rw [p84]; try (first | rfl | (simp only [shapeCast_self] <;> rfl))

theorem p90 : k0_pay90 (MM (HN x g) wq) cs sn (RH (HD (MM (HN x g) wq) 0) cs sn) (RH (HD (MM (HN x g) wq) 1) cs sn) (HD (MM (HN x g) wq) 2) = (QQ (HN x g) wq cs sn) := by unfold k0_pay90; try (first | rfl | (simp only [shapeCast_self] <;> rfl))

theorem p91 : k0_pay91 (HN x g) wk cs sn = (KK (HN x g) wk cs sn) := by unfold k0_pay91; first | (rw [shapeCast_self cs, shapeCast_self sn]; rfl) | (rw [shapeCast_self cs]; rfl) | (rw [shapeCast_self sn]; rfl)

theorem p92 : k0_pay92 (HN x g) wv = (MM (HN x g) wv) := by unfold k0_pay92; try (first | rfl | (simp only [shapeCast_self] <;> rfl))

theorem p93 : k0_pay93 (MM (HN x g) wv) = (VV (HN x g) wv) := by unfold k0_pay93; try (first | rfl | (simp only [shapeCast_self] <;> rfl))

theorem p94 : k0_pay94 (HN x g) wg = (MM (HN x g) wg) := by unfold k0_pay94; try (first | rfl | (simp only [shapeCast_self] <;> rfl))

theorem p95 : k0_pay95 (QQ (HN x g) wq cs sn) = (HD (QQ (HN x g) wq cs sn) 0) := by unfold k0_pay95; try (first | rfl | (simp only [shapeCast_self] <;> rfl))

theorem p96 : k0_pay96 (QQ (HN x g) wq cs sn) = (HD (QQ (HN x g) wq cs sn) 1) := by unfold k0_pay96; try (first | rfl | (simp only [shapeCast_self] <;> rfl))

theorem p97 : k0_pay97 (QQ (HN x g) wq cs sn) = (HD (QQ (HN x g) wq cs sn) 2) := by unfold k0_pay97; try (first | rfl | (simp only [shapeCast_self] <;> rfl))

theorem p98 : k0_pay98 (QQ (HN x g) wq cs sn) = (HD (QQ (HN x g) wq cs sn) 3) := by unfold k0_pay98; try (first | rfl | (simp only [shapeCast_self] <;> rfl))

theorem p99 : k0_pay99 (KK (HN x g) wk cs sn) = (HD (KK (HN x g) wk cs sn) 0) := by unfold k0_pay99; try (first | rfl | (simp only [shapeCast_self] <;> rfl))

theorem p100 : k0_pay100 (KK (HN x g) wk cs sn) = (HD (KK (HN x g) wk cs sn) 1) := by unfold k0_pay100; try (first | rfl | (simp only [shapeCast_self] <;> rfl))

theorem p101 : k0_pay101 (KK (HN x g) wk cs sn) = (HD (KK (HN x g) wk cs sn) 2) := by unfold k0_pay101; try (first | rfl | (simp only [shapeCast_self] <;> rfl))

theorem p102 : k0_pay102 (KK (HN x g) wk cs sn) = (HD (KK (HN x g) wk cs sn) 3) := by unfold k0_pay102; try (first | rfl | (simp only [shapeCast_self] <;> rfl))

theorem p103 : k0_pay103 (MM (HN x g) wv) = (HD (VV (HN x g) wv) 0) := by unfold k0_pay103; rw [p93]; try (first | rfl | (simp only [shapeCast_self] <;> rfl))

theorem p104 : k0_pay104 (MM (HN x g) wv) = (HD (VV (HN x g) wv) 1) := by unfold k0_pay104; rw [p93]; try (first | rfl | (simp only [shapeCast_self] <;> rfl))

theorem p105 : k0_pay105 (MM (HN x g) wv) = (HD (VV (HN x g) wv) 2) := by unfold k0_pay105; rw [p93]; try (first | rfl | (simp only [shapeCast_self] <;> rfl))

theorem p106 : k0_pay106 (MM (HN x g) wv) = (HD (VV (HN x g) wv) 3) := by unfold k0_pay106; rw [p93]; try (first | rfl | (simp only [shapeCast_self] <;> rfl))

theorem p107 : k0_pay107 s0 = (shapeCast S128x128 s0 shapeCasts_S1x128x128_S128x128) := by unfold k0_pay107; try (first | rfl | (simp only [shapeCast_self] <;> rfl))

theorem p108 : k0_pay108 s1 = (shapeCast S128x128 s1 shapeCasts_S1x128x128_S128x128) := by unfold k0_pay108; try (first | rfl | (simp only [shapeCast_self] <;> rfl))

theorem p109 : k0_pay109 s2 = (shapeCast S128x128 s2 shapeCasts_S1x128x128_S128x128) := by unfold k0_pay109; try (first | rfl | (simp only [shapeCast_self] <;> rfl))

theorem p110 : k0_pay110 s3 = (shapeCast S128x128 s3 shapeCasts_S1x128x128_S128x128) := by unfold k0_pay110; try (first | rfl | (simp only [shapeCast_self] <;> rfl))

theorem p111 : k0_pay111 (QQ (HN x g) wq cs sn) (KK (HN x g) wk cs sn) = (matmul dot_S256x128_S256x128_S256x256_1_1_0_0_n_n none (HD (QQ (HN x g) wq cs sn) 0) (HD (KK (HN x g) wk cs sn) 0) (constant (F := Ideal) S256x256 .f32 0x00000000#32)) := by unfold k0_pay111; rw [p95]; rw [p99]; try (first | rfl | (simp only [shapeCast_self] <;> rfl))

theorem p112 : k0_pay112 (QQ (HN x g) wq cs sn) (KK (HN x g) wk cs sn) = (matmul dot_S256x128_S256x128_S256x256_1_1_0_0_n_n none (HD (QQ (HN x g) wq cs sn) 1) (HD (KK (HN x g) wk cs sn) 1) (constant (F := Ideal) S256x256 .f32 0x00000000#32)) := by unfold k0_pay112; rw [p96]; rw [p100]; try (first | rfl | (simp only [shapeCast_self] <;> rfl))

theorem p113 : k0_pay113 (QQ (HN x g) wq cs sn) (KK (HN x g) wk cs sn) = (matmul dot_S256x128_S256x128_S256x256_1_1_0_0_n_n none (HD (QQ (HN x g) wq cs sn) 2) (HD (KK (HN x g) wk cs sn) 2) (constant (F := Ideal) S256x256 .f32 0x00000000#32)) := by unfold k0_pay113; rw [p97]; rw [p101]; try (first | rfl | (simp only [shapeCast_self] <;> rfl))

theorem p114 : k0_pay114 (QQ (HN x g) wq cs sn) (KK (HN x g) wk cs sn) = (matmul dot_S256x128_S256x128_S256x256_1_1_0_0_n_n none (HD (QQ (HN x g) wq cs sn) 3) (HD (KK (HN x g) wk cs sn) 3) (constant (F := Ideal) S256x256 .f32 0x00000000#32)) := by unfold k0_pay114; rw [p98]; rw [p102]; try (first | rfl | (simp only [shapeCast_self] <;> rfl))

theorem p115 : k0_pay115 (QQ (HN x g) wq cs sn) s0 Q0 = (CRS (HD (QQ (HN x g) wq cs sn) 0) Q0 s0) := by unfold k0_pay115; rw [p95]; rw [p107]; try (first | rfl | (simp only [shapeCast_self] <;> rfl))

theorem p116 : k0_pay116 (QQ (HN x g) wq cs sn) = (extf .f32 (HD (QQ (HN x g) wq cs sn) 1) bitsLt_bf16_f32) := by unfold k0_pay116; rw [p96]; try (first | rfl | (simp only [shapeCast_self] <;> rfl))

theorem p117 : k0_pay117 (shapeCast S128x128 s1 shapeCasts_S1x128x128_S128x128) (extf .f32 (HD (QQ (HN x g) wq cs sn) 1) bitsLt_bf16_f32) Q1 = (CRS (HD (QQ (HN x g) wq cs sn) 1) Q1 s1) := by unfold k0_pay117; try (first | rfl | (simp only [shapeCast_self] <;> rfl))

theorem p118 : k0_pay118 (HD (QQ (HN x g) wq cs sn) 2) (shapeCast S128x128 s2 shapeCasts_S1x128x128_S128x128) Q2 = (CRS (HD (QQ (HN x g) wq cs sn) 2) Q2 s2) := by unfold k0_pay118; try (first | rfl | (simp only [shapeCast_self] <;> rfl))

theorem p119 : k0_pay119 (HD (QQ (HN x g) wq cs sn) 3) (shapeCast S128x128 s3 shapeCasts_S1x128x128_S128x128) Q3 = (CRS (HD (QQ (HN x g) wq cs sn) 3) Q3 s3) := by unfold k0_pay119; try (first | rfl | (simp only [shapeCast_self] <;> rfl))

theorem p120 : k0_pay120 (HD (KK (HN x g) wk cs sn) 0) K0 = (truncf .bf16 (transpose S128x256 [1, 0] (mulf (extf .f32 (HD (KK (HN x g) wk cs sn) 0) bitsLt_bf16_f32) (shapeCast S256x128 K0 shapeCasts_S1x256x128_S256x128)) transposes_S256x128_p1_0_S128x256) bitsLt_bf16_f32) := by unfold k0_pay120; try (first | rfl | (simp only [shapeCast_self] <;> rfl))

theorem p121 : k0_pay121 (HD (KK (HN x g) wk cs sn) 1) K1 = (truncf .bf16 (transpose S128x256 [1, 0] (mulf (extf .f32 (HD (KK (HN x g) wk cs sn) 1) bitsLt_bf16_f32) (shapeCast S256x128 K1 shapeCasts_S1x256x128_S256x128)) transposes_S256x128_p1_0_S128x256) bitsLt_bf16_f32) := by unfold k0_pay121; try (first | rfl | (simp only [shapeCast_self] <;> rfl))

theorem p122 : k0_pay122 (HD (KK (HN x g) wk cs sn) 2) K2 = (truncf .bf16 (transpose S128x256 [1, 0] (mulf (extf .f32 (HD (KK (HN x g) wk cs sn) 2) bitsLt_bf16_f32) (shapeCast S256x128 K2 shapeCasts_S1x256x128_S256x128)) transposes_S256x128_p1_0_S128x256) bitsLt_bf16_f32) := by unfold k0_pay122; try (first | rfl | (simp only [shapeCast_self] <;> rfl))

theorem p123 : k0_pay123 (HD (KK (HN x g) wk cs sn) 3) = (extf .f32 (HD (KK (HN x g) wk cs sn) 3) bitsLt_bf16_f32) := by unfold k0_pay123; try (first | rfl | (simp only [shapeCast_self] <;> rfl))

theorem p124 : k0_pay124 (HD (VV (HN x g) wv) 1) (truncf .bf16 (transpose S128x256 [1, 0] (mulf (extf .f32 (HD (KK (HN x g) wk cs sn) 1) bitsLt_bf16_f32) (shapeCast S256x128 K1 shapeCasts_S1x256x128_S256x128)) transposes_S256x128_p1_0_S128x256) bitsLt_bf16_f32) = (KV (HD (KK (HN x g) wk cs sn) 1) (HD (VV (HN x g) wv) 1) K1) := by unfold k0_pay124; try (first | rfl | (simp only [shapeCast_self] <;> rfl))

theorem p125 : k0_pay125 (HD (VV (HN x g) wv) 2) (truncf .bf16 (transpose S128x256 [1, 0] (mulf (extf .f32 (HD (KK (HN x g) wk cs sn) 2) bitsLt_bf16_f32) (shapeCast S256x128 K2 shapeCasts_S1x256x128_S256x128)) transposes_S256x128_p1_0_S128x256) bitsLt_bf16_f32) = (KV (HD (KK (HN x g) wk cs sn) 2) (HD (VV (HN x g) wv) 2) K2) := by unfold k0_pay125; try (first | rfl | (simp only [shapeCast_self] <;> rfl))

theorem p126 : k0_pay126 (HD (VV (HN x g) wv) 3) (extf .f32 (HD (KK (HN x g) wk cs sn) 3) bitsLt_bf16_f32) K3 = (KV (HD (KK (HN x g) wk cs sn) 3) (HD (VV (HN x g) wv) 3) K3) := by unfold k0_pay126; try (first | rfl | (simp only [shapeCast_self] <;> rfl))

theorem p127 : k0_pay127 (HD (VV (HN x g) wv) 0) (matmul dot_S256x128_S256x128_S256x256_1_1_0_0_n_n none (HD (QQ (HN x g) wq cs sn) 0) (HD (KK (HN x g) wk cs sn) 0) (constant (F := Ideal) S256x256 .f32 0x00000000#32)) D0 = (INN (HD (QQ (HN x g) wq cs sn) 0) (HD (KK (HN x g) wk cs sn) 0) (HD (VV (HN x g) wv) 0) D0) := by unfold k0_pay127; try (first | rfl | (simp only [shapeCast_self] <;> rfl))

theorem p128 : k0_pay128 (HD (VV (HN x g) wv) 1) (matmul dot_S256x128_S256x128_S256x256_1_1_0_0_n_n none (HD (QQ (HN x g) wq cs sn) 1) (HD (KK (HN x g) wk cs sn) 1) (constant (F := Ideal) S256x256 .f32 0x00000000#32)) D1 = (INN (HD (QQ (HN x g) wq cs sn) 1) (HD (KK (HN x g) wk cs sn) 1) (HD (VV (HN x g) wv) 1) D1) := by unfold k0_pay128; try (first | rfl | (simp only [shapeCast_self] <;> rfl))

theorem p129 : k0_pay129 (HD (VV (HN x g) wv) 2) (matmul dot_S256x128_S256x128_S256x256_1_1_0_0_n_n none (HD (QQ (HN x g) wq cs sn) 2) (HD (KK (HN x g) wk cs sn) 2) (constant (F := Ideal) S256x256 .f32 0x00000000#32)) D2 = (INN (HD (QQ (HN x g) wq cs sn) 2) (HD (KK (HN x g) wk cs sn) 2) (HD (VV (HN x g) wv) 2) D2) := by unfold k0_pay129; try (first | rfl | (simp only [shapeCast_self] <;> rfl))

theorem p130 : k0_pay130 (HD (VV (HN x g) wv) 3) (matmul dot_S256x128_S256x128_S256x256_1_1_0_0_n_n none (HD (QQ (HN x g) wq cs sn) 3) (HD (KK (HN x g) wk cs sn) 3) (constant (F := Ideal) S256x256 .f32 0x00000000#32)) D3 = (INN (HD (QQ (HN x g) wq cs sn) 3) (HD (KK (HN x g) wk cs sn) 3) (HD (VV (HN x g) wv) 3) D3) := by unfold k0_pay130; try (first | rfl | (simp only [shapeCast_self] <;> rfl))

theorem p131 : k0_pay131 (HD (VV (HN x g) wv) 0) (shapeCast S128x128 s0 shapeCasts_S1x128x128_S128x128) (truncf .bf16 (transpose S128x256 [1, 0] (mulf (extf .f32 (HD (KK (HN x g) wk cs sn) 0) bitsLt_bf16_f32) (shapeCast S256x128 K0 shapeCasts_S1x256x128_S256x128)) transposes_S256x128_p1_0_S128x256) bitsLt_bf16_f32) l0 = (addf (mulf (broadcastTo S128x128 (exp (mulf (broadcast S1x128 (Scalar.ofBits (F := Ideal) .f32 0x43800000#32)) (broadcast S1x128 l0))) broadcasts_S1x128_S128x128) (shapeCast S128x128 s0 shapeCasts_S1x128x128_S128x128)) (KV (HD (KK (HN x g) wk cs sn) 0) (HD (VV (HN x g) wv) 0) K0)) := by unfold k0_pay131; try (first | rfl | (simp only [shapeCast_self] <;> rfl))

theorem p132 : k0_pay132 (addf (mulf (broadcastTo S128x128 (exp (mulf (broadcast S1x128 (Scalar.ofBits (F := Ideal) .f32 0x43800000#32)) (broadcast S1x128 l0))) broadcasts_S1x128_S128x128) (shapeCast S128x128 s0 shapeCasts_S1x128x128_S128x128)) (KV (HD (KK (HN x g) wk cs sn) 0) (HD (VV (HN x g) wv) 0) K0)) = (NST (HD (KK (HN x g) wk cs sn) 0) (HD (VV (HN x g) wv) 0) K0 l0 s0) := by unfold k0_pay132; try (first | rfl | (simp only [shapeCast_self] <;> rfl))

theorem p133 : k0_pay133 (shapeCast S128x128 s1 shapeCasts_S1x128x128_S128x128) (KV (HD (KK (HN x g) wk cs sn) 1) (HD (VV (HN x g) wv) 1) K1) l1 = (NST (HD (KK (HN x g) wk cs sn) 1) (HD (VV (HN x g) wv) 1) K1 l1 s1) := by unfold k0_pay133; try (first | rfl | (simp only [shapeCast_self] <;> rfl))

theorem p134 : k0_pay134 (shapeCast S128x128 s2 shapeCasts_S1x128x128_S128x128) (KV (HD (KK (HN x g) wk cs sn) 2) (HD (VV (HN x g) wv) 2) K2) l2 = (NST (HD (KK (HN x g) wk cs sn) 2) (HD (VV (HN x g) wv) 2) K2 l2 s2) := by unfold k0_pay134; try (first | rfl | (simp only [shapeCast_self] <;> rfl))

theorem p135 : k0_pay135 (shapeCast S128x128 s3 shapeCasts_S1x128x128_S128x128) (KV (HD (KK (HN x g) wk cs sn) 3) (HD (VV (HN x g) wv) 3) K3) l3 = (NST (HD (KK (HN x g) wk cs sn) 3) (HD (VV (HN x g) wv) 3) K3 l3 s3) := by unfold k0_pay135; try (first | rfl | (simp only [shapeCast_self] <;> rfl))

theorem p136 : k0_pay136 (CRS (HD (QQ (HN x g) wq cs sn) 0) Q0 s0) (INN (HD (QQ (HN x g) wq cs sn) 0) (HD (KK (HN x g) wk cs sn) 0) (HD (VV (HN x g) wv) 0) D0) = (addf (INN (HD (QQ (HN x g) wq cs sn) 0) (HD (KK (HN x g) wk cs sn) 0) (HD (VV (HN x g) wv) 0) D0) (CRS (HD (QQ (HN x g) wq cs sn) 0) Q0 s0)) := by unfold k0_pay136; try (first | rfl | (simp only [shapeCast_self] <;> rfl))

theorem p137 : k0_pay137 (MM (HN x g) wg) (addf (INN (HD (QQ (HN x g) wq cs sn) 0) (HD (KK (HN x g) wk cs sn) 0) (HD (VV (HN x g) wv) 0) D0) (CRS (HD (QQ (HN x g) wq cs sn) 0) Q0 s0)) = (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0)) := by unfold k0_pay137; try (first | rfl | (simp only [shapeCast_self] <;> rfl))

theorem p138 : k0_pay138 (MM (HN x g) wg) (CRS (HD (QQ (HN x g) wq cs sn) 1) Q1 s1) (INN (HD (QQ (HN x g) wq cs sn) 1) (HD (KK (HN x g) wk cs sn) 1) (HD (VV (HN x g) wv) 1) D1) = (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1)) := by unfold k0_pay138; try (first | rfl | (simp only [shapeCast_self] <;> rfl))

theorem p139 : k0_pay139 (CRS (HD (QQ (HN x g) wq cs sn) 2) Q2 s2) (INN (HD (QQ (HN x g) wq cs sn) 2) (HD (KK (HN x g) wk cs sn) 2) (HD (VV (HN x g) wv) 2) D2) = (addf (INN (HD (QQ (HN x g) wq cs sn) 2) (HD (KK (HN x g) wk cs sn) 2) (HD (VV (HN x g) wv) 2) D2) (CRS (HD (QQ (HN x g) wq cs sn) 2) Q2 s2)) := by unfold k0_pay139; try (first | rfl | (simp only [shapeCast_self] <;> rfl))

theorem p140 : k0_pay140 (CRS (HD (QQ (HN x g) wq cs sn) 2) Q2 s2) (INN (HD (QQ (HN x g) wq cs sn) 2) (HD (KK (HN x g) wk cs sn) 2) (HD (VV (HN x g) wv) 2) D2) = (broadcastTo S256x128 (MEAN (addf (INN (HD (QQ (HN x g) wq cs sn) 2) (HD (KK (HN x g) wk cs sn) 2) (HD (VV (HN x g) wv) 2) D2) (CRS (HD (QQ (HN x g) wq cs sn) 2) Q2 s2))) broadcasts_S256x1_S256x128) := by unfold k0_pay140; rw [p139]; try (first | rfl | (simp only [shapeCast_self] <;> rfl))

theorem p141 : k0_pay141 (MM (HN x g) wg) (CRS (HD (QQ (HN x g) wq cs sn) 3) Q3 s3) (INN (HD (QQ (HN x g) wq cs sn) 3) (HD (KK (HN x g) wk cs sn) 3) (HD (VV (HN x g) wv) 3) D3) (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0)) (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1)) (addf (INN (HD (QQ (HN x g) wq cs sn) 2) (HD (KK (HN x g) wk cs sn) 2) (HD (VV (HN x g) wv) 2) D2) (CRS (HD (QQ (HN x g) wq cs sn) 2) Q2 s2)) (broadcastTo S256x128 (MEAN (addf (INN (HD (QQ (HN x g) wq cs sn) 2) (HD (KK (HN x g) wk cs sn) 2) (HD (VV (HN x g) wv) 2) D2) (CRS (HD (QQ (HN x g) wq cs sn) 2) Q2 s2))) broadcasts_S256x1_S256x128) = (concatenate S256x512 1 [⟨S256x128, (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0))⟩, ⟨S256x128, (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1))⟩, ⟨S256x128, (GN (addf (INN (HD (QQ (HN x g) wq cs sn) 2) (HD (KK (HN x g) wk cs sn) 2) (HD (VV (HN x g) wv) 2) D2) (CRS (HD (QQ (HN x g) wq cs sn) 2) Q2 s2)) (HD (MM (HN x g) wg) 2))⟩, ⟨S256x128, (GN (addf (INN (HD (QQ (HN x g) wq cs sn) 3) (HD (KK (HN x g) wk cs sn) 3) (HD (VV (HN x g) wv) 3) D3) (CRS (HD (QQ (HN x g) wq cs sn) 3) Q3 s3)) (HD (MM (HN x g) wg) 3))⟩] concatenates_S256x128_S256x128_S256x128_S256x128_S256x512_d1) := by unfold k0_pay141; try (first | rfl | (simp only [shapeCast_self] <;> rfl))

theorem p142 : k0_pay142 (HN x g) w1 = (SQ (HN x g) w1) := by unfold k0_pay142; try (first | rfl | (simp only [shapeCast_self] <;> rfl))

theorem p143 : k0_pay143 (HN x g) w2 = (VV (HN x g) w2) := by unfold k0_pay143; try (first | rfl | (simp only [shapeCast_self] <;> rfl))

theorem p144 : k0_pay144 (HN x g) w3 = (VV (HN x g) w3) := by unfold k0_pay144; try (first | rfl | (simp only [shapeCast_self] <;> rfl))

theorem p145 : k0_pay145 x g = (HN x g) := by unfold k0_pay145; try (first | rfl | (simp only [shapeCast_self] <;> rfl))

theorem p146 : k0_pay146 x g wq = (MM (HN x g) wq) := by unfold k0_pay146; rw [p145]; try (first | rfl | (simp only [shapeCast_self] <;> rfl))

theorem p147 : k0_pay147 cs = cs := by unfold k0_pay147; try (first | rfl | (simp only [shapeCast_self] <;> rfl))

theorem p148 : k0_pay148 (MM (HN x g) wq) cs sn = (QQ (HN x g) wq cs sn) := by unfold k0_pay148; rw [shapeCast_self sn]; rfl

theorem p149 : k0_pay149 (HN x g) wk = (MM (HN x g) wk) := by unfold k0_pay149; try (first | rfl | (simp only [shapeCast_self] <;> rfl))

theorem p150 : k0_pay150 cs = cs := by unfold k0_pay150; try (first | rfl | (simp only [shapeCast_self] <;> rfl))

theorem p151 : k0_pay151 sn = sn := by unfold k0_pay151; try (first | rfl | (simp only [shapeCast_self] <;> rfl))

theorem p152 : k0_pay152 (HN x g) wk cs sn = (RH (HD (MM (HN x g) wk) 0) cs sn) := by unfold k0_pay152; rw [p149]; rw [p150]; rw [p151]; try (first | rfl | (simp only [shapeCast_self] <;> rfl))

theorem p153 : k0_pay153 (HN x g) wk cs sn = (RH (HD (MM (HN x g) wk) 1) cs sn) := by unfold k0_pay153; rw [p149]; rw [p150]; rw [p151]; try (first | rfl | (simp only [shapeCast_self] <;> rfl))

theorem p154 : k0_pay154 (HN x g) wk cs sn = (RH (HD (MM (HN x g) wk) 2) cs sn) := by unfold k0_pay154; rw [p149]; rw [p150]; rw [p151]; try (first | rfl | (simp only [shapeCast_self] <;> rfl))

theorem p155 : k0_pay155 (HN x g) wk = (HD (MM (HN x g) wk) 3) := by unfold k0_pay155; rw [p149]; try (first | rfl | (simp only [shapeCast_self] <;> rfl))

theorem p156 : k0_pay156 (HN x g) wk cs = (mulf (HD (MM (HN x g) wk) 3) cs) := by unfold k0_pay156; rw [p150]; rw [p155]; try (first | rfl | (simp only [shapeCast_self] <;> rfl))

theorem p157 : k0_pay157 sn (RH (HD (MM (HN x g) wk) 0) cs sn) (RH (HD (MM (HN x g) wk) 1) cs sn) (RH (HD (MM (HN x g) wk) 2) cs sn) (HD (MM (HN x g) wk) 3) (mulf (HD (MM (HN x g) wk) 3) cs) = (KK (HN x g) wk cs sn) := by unfold k0_pay157; try (first | rfl | (simp only [shapeCast_self] <;> rfl))

theorem p158 : k0_pay158 (HN x g) wv = (VV (HN x g) wv) := by unfold k0_pay158; try (first | rfl | (simp only [shapeCast_self] <;> rfl))

theorem p159 : k0_pay159 (HN x g) wg = (MM (HN x g) wg) := by unfold k0_pay159; try (first | rfl | (simp only [shapeCast_self] <;> rfl))

theorem p160 : k0_pay160 (QQ (HN x g) wq cs sn) = (HD (QQ (HN x g) wq cs sn) 0) := by unfold k0_pay160; try (first | rfl | (simp only [shapeCast_self] <;> rfl))

theorem p161 : k0_pay161 (QQ (HN x g) wq cs sn) = (HD (QQ (HN x g) wq cs sn) 1) := by unfold k0_pay161; try (first | rfl | (simp only [shapeCast_self] <;> rfl))

theorem p162 : k0_pay162 (QQ (HN x g) wq cs sn) = (HD (QQ (HN x g) wq cs sn) 2) := by unfold k0_pay162; try (first | rfl | (simp only [shapeCast_self] <;> rfl))

theorem p163 : k0_pay163 (QQ (HN x g) wq cs sn) = (HD (QQ (HN x g) wq cs sn) 3) := by unfold k0_pay163; try (first | rfl | (simp only [shapeCast_self] <;> rfl))

theorem p164 : k0_pay164 sn (RH (HD (MM (HN x g) wk) 0) cs sn) (RH (HD (MM (HN x g) wk) 1) cs sn) (RH (HD (MM (HN x g) wk) 2) cs sn) (HD (MM (HN x g) wk) 3) (mulf (HD (MM (HN x g) wk) 3) cs) = (HD (KK (HN x g) wk cs sn) 0) := by unfold k0_pay164; rw [p157]; try (first | rfl | (simp only [shapeCast_self] <;> rfl))

theorem p165 : k0_pay165 sn (RH (HD (MM (HN x g) wk) 0) cs sn) (RH (HD (MM (HN x g) wk) 1) cs sn) (RH (HD (MM (HN x g) wk) 2) cs sn) (HD (MM (HN x g) wk) 3) (mulf (HD (MM (HN x g) wk) 3) cs) = (HD (KK (HN x g) wk cs sn) 1) := by unfold k0_pay165; rw [p157]; try (first | rfl | (simp only [shapeCast_self] <;> rfl))

theorem p166 : k0_pay166 sn (RH (HD (MM (HN x g) wk) 0) cs sn) (RH (HD (MM (HN x g) wk) 1) cs sn) (RH (HD (MM (HN x g) wk) 2) cs sn) (HD (MM (HN x g) wk) 3) (mulf (HD (MM (HN x g) wk) 3) cs) = (HD (KK (HN x g) wk cs sn) 2) := by unfold k0_pay166; rw [p157]; try (first | rfl | (simp only [shapeCast_self] <;> rfl))

theorem p167 : k0_pay167 sn (RH (HD (MM (HN x g) wk) 0) cs sn) (RH (HD (MM (HN x g) wk) 1) cs sn) (RH (HD (MM (HN x g) wk) 2) cs sn) (HD (MM (HN x g) wk) 3) (mulf (HD (MM (HN x g) wk) 3) cs) = (HD (KK (HN x g) wk cs sn) 3) := by unfold k0_pay167; rw [p157]; try (first | rfl | (simp only [shapeCast_self] <;> rfl))

theorem p168 : k0_pay168 (HN x g) wv = (HD (VV (HN x g) wv) 0) := by unfold k0_pay168; rw [p158]; try (first | rfl | (simp only [shapeCast_self] <;> rfl))

theorem p169 : k0_pay169 (HN x g) wv = (HD (VV (HN x g) wv) 1) := by unfold k0_pay169; rw [p158]; try (first | rfl | (simp only [shapeCast_self] <;> rfl))

theorem p170 : k0_pay170 (HN x g) wv = (HD (VV (HN x g) wv) 2) := by unfold k0_pay170; rw [p158]; try (first | rfl | (simp only [shapeCast_self] <;> rfl))

theorem p171 : k0_pay171 (HN x g) wv = (HD (VV (HN x g) wv) 3) := by unfold k0_pay171; rw [p158]; try (first | rfl | (simp only [shapeCast_self] <;> rfl))

theorem p172 : k0_pay172 s0 = (shapeCast S128x128 s0 shapeCasts_S1x128x128_S128x128) := by unfold k0_pay172; try (first | rfl | (simp only [shapeCast_self] <;> rfl))

theorem p173 : k0_pay173 s1 = (shapeCast S128x128 s1 shapeCasts_S1x128x128_S128x128) := by unfold k0_pay173; try (first | rfl | (simp only [shapeCast_self] <;> rfl))

theorem p174 : k0_pay174 s2 = (shapeCast S128x128 s2 shapeCasts_S1x128x128_S128x128) := by unfold k0_pay174; try (first | rfl | (simp only [shapeCast_self] <;> rfl))

theorem p175 : k0_pay175 s3 = (shapeCast S128x128 s3 shapeCasts_S1x128x128_S128x128) := by unfold k0_pay175; try (first | rfl | (simp only [shapeCast_self] <;> rfl))

theorem p176 : k0_pay176 (QQ (HN x g) wq cs sn) sn (RH (HD (MM (HN x g) wk) 0) cs sn) (RH (HD (MM (HN x g) wk) 1) cs sn) (RH (HD (MM (HN x g) wk) 2) cs sn) (HD (MM (HN x g) wk) 3) (mulf (HD (MM (HN x g) wk) 3) cs) = (matmul dot_S256x128_S256x128_S256x256_1_1_0_0_n_n none (HD (QQ (HN x g) wq cs sn) 0) (HD (KK (HN x g) wk cs sn) 0) (constant (F := Ideal) S256x256 .f32 0x00000000#32)) := by unfold k0_pay176; rw [p160]; rw [p164]; try (first | rfl | (simp only [shapeCast_self] <;> rfl))

theorem p177 : k0_pay177 (QQ (HN x g) wq cs sn) sn (RH (HD (MM (HN x g) wk) 0) cs sn) (RH (HD (MM (HN x g) wk) 1) cs sn) (RH (HD (MM (HN x g) wk) 2) cs sn) (HD (MM (HN x g) wk) 3) (mulf (HD (MM (HN x g) wk) 3) cs) = (matmul dot_S256x128_S256x128_S256x256_1_1_0_0_n_n none (HD (QQ (HN x g) wq cs sn) 1) (HD (KK (HN x g) wk cs sn) 1) (constant (F := Ideal) S256x256 .f32 0x00000000#32)) := by unfold k0_pay177; rw [p161]; rw [p165]; try (first | rfl | (simp only [shapeCast_self] <;> rfl))

theorem p178 : k0_pay178 (QQ (HN x g) wq cs sn) sn (RH (HD (MM (HN x g) wk) 0) cs sn) (RH (HD (MM (HN x g) wk) 1) cs sn) (RH (HD (MM (HN x g) wk) 2) cs sn) (HD (MM (HN x g) wk) 3) (mulf (HD (MM (HN x g) wk) 3) cs) = (matmul dot_S256x128_S256x128_S256x256_1_1_0_0_n_n none (HD (QQ (HN x g) wq cs sn) 2) (HD (KK (HN x g) wk cs sn) 2) (constant (F := Ideal) S256x256 .f32 0x00000000#32)) := by unfold k0_pay178; rw [p162]; rw [p166]; try (first | rfl | (simp only [shapeCast_self] <;> rfl))

theorem p179 : k0_pay179 (QQ (HN x g) wq cs sn) sn (RH (HD (MM (HN x g) wk) 0) cs sn) (RH (HD (MM (HN x g) wk) 1) cs sn) (RH (HD (MM (HN x g) wk) 2) cs sn) (HD (MM (HN x g) wk) 3) (mulf (HD (MM (HN x g) wk) 3) cs) = (matmul dot_S256x128_S256x128_S256x256_1_1_0_0_n_n none (HD (QQ (HN x g) wq cs sn) 3) (HD (KK (HN x g) wk cs sn) 3) (constant (F := Ideal) S256x256 .f32 0x00000000#32)) := by unfold k0_pay179; rw [p163]; rw [p167]; try (first | rfl | (simp only [shapeCast_self] <;> rfl))

theorem p180 : k0_pay180 (HD (QQ (HN x g) wq cs sn) 0) (shapeCast S128x128 s0 shapeCasts_S1x128x128_S128x128) Q0 = (CRS (HD (QQ (HN x g) wq cs sn) 0) Q0 s0) := by unfold k0_pay180; try (first | rfl | (simp only [shapeCast_self] <;> rfl))

theorem p181 : k0_pay181 (HD (QQ (HN x g) wq cs sn) 1) (shapeCast S128x128 s1 shapeCasts_S1x128x128_S128x128) Q1 = (CRS (HD (QQ (HN x g) wq cs sn) 1) Q1 s1) := by unfold k0_pay181; try (first | rfl | (simp only [shapeCast_self] <;> rfl))

theorem p182 : k0_pay182 (HD (QQ (HN x g) wq cs sn) 2) (shapeCast S128x128 s2 shapeCasts_S1x128x128_S128x128) Q2 = (CRS (HD (QQ (HN x g) wq cs sn) 2) Q2 s2) := by unfold k0_pay182; try (first | rfl | (simp only [shapeCast_self] <;> rfl))

theorem p183 : k0_pay183 (HD (QQ (HN x g) wq cs sn) 3) (shapeCast S128x128 s3 shapeCasts_S1x128x128_S128x128) Q3 = (CRS (HD (QQ (HN x g) wq cs sn) 3) Q3 s3) := by unfold k0_pay183; try (first | rfl | (simp only [shapeCast_self] <;> rfl))

theorem p184 : k0_pay184 (HD (KK (HN x g) wk cs sn) 0) K0 = (truncf .bf16 (transpose S128x256 [1, 0] (mulf (extf .f32 (HD (KK (HN x g) wk cs sn) 0) bitsLt_bf16_f32) (shapeCast S256x128 K0 shapeCasts_S1x256x128_S256x128)) transposes_S256x128_p1_0_S128x256) bitsLt_bf16_f32) := by unfold k0_pay184; try (first | rfl | (simp only [shapeCast_self] <;> rfl))

theorem p185 : k0_pay185 (HD (KK (HN x g) wk cs sn) 1) K1 = (mulf (extf .f32 (HD (KK (HN x g) wk cs sn) 1) bitsLt_bf16_f32) (shapeCast S256x128 K1 shapeCasts_S1x256x128_S256x128)) := by unfold k0_pay185; try (first | rfl | (simp only [shapeCast_self] <;> rfl))

theorem p186 : k0_pay186 (HD (VV (HN x g) wv) 0) (truncf .bf16 (transpose S128x256 [1, 0] (mulf (extf .f32 (HD (KK (HN x g) wk cs sn) 0) bitsLt_bf16_f32) (shapeCast S256x128 K0 shapeCasts_S1x256x128_S256x128)) transposes_S256x128_p1_0_S128x256) bitsLt_bf16_f32) = (KV (HD (KK (HN x g) wk cs sn) 0) (HD (VV (HN x g) wv) 0) K0) := by unfold k0_pay186; try (first | rfl | (simp only [shapeCast_self] <;> rfl))

theorem p187 : k0_pay187 (HD (VV (HN x g) wv) 1) (mulf (extf .f32 (HD (KK (HN x g) wk cs sn) 1) bitsLt_bf16_f32) (shapeCast S256x128 K1 shapeCasts_S1x256x128_S256x128)) = (KV (HD (KK (HN x g) wk cs sn) 1) (HD (VV (HN x g) wv) 1) K1) := by unfold k0_pay187; try (first | rfl | (simp only [shapeCast_self] <;> rfl))

theorem p188 : k0_pay188 (HD (KK (HN x g) wk cs sn) 2) (HD (VV (HN x g) wv) 2) K2 = (KV (HD (KK (HN x g) wk cs sn) 2) (HD (VV (HN x g) wv) 2) K2) := by unfold k0_pay188; try (first | rfl | (simp only [shapeCast_self] <;> rfl))

theorem p189 : k0_pay189 (HD (KK (HN x g) wk cs sn) 3) (HD (VV (HN x g) wv) 3) K3 = (KV (HD (KK (HN x g) wk cs sn) 3) (HD (VV (HN x g) wv) 3) K3) := by unfold k0_pay189; try (first | rfl | (simp only [shapeCast_self] <;> rfl))

theorem p190 : k0_pay190 (HD (VV (HN x g) wv) 0) (matmul dot_S256x128_S256x128_S256x256_1_1_0_0_n_n none (HD (QQ (HN x g) wq cs sn) 0) (HD (KK (HN x g) wk cs sn) 0) (constant (F := Ideal) S256x256 .f32 0x00000000#32)) D0 = (INN (HD (QQ (HN x g) wq cs sn) 0) (HD (KK (HN x g) wk cs sn) 0) (HD (VV (HN x g) wv) 0) D0) := by unfold k0_pay190; try (first | rfl | (simp only [shapeCast_self] <;> rfl))

theorem p191 : k0_pay191 (HD (VV (HN x g) wv) 1) (matmul dot_S256x128_S256x128_S256x256_1_1_0_0_n_n none (HD (QQ (HN x g) wq cs sn) 1) (HD (KK (HN x g) wk cs sn) 1) (constant (F := Ideal) S256x256 .f32 0x00000000#32)) D1 = (INN (HD (QQ (HN x g) wq cs sn) 1) (HD (KK (HN x g) wk cs sn) 1) (HD (VV (HN x g) wv) 1) D1) := by unfold k0_pay191; try (first | rfl | (simp only [shapeCast_self] <;> rfl))

theorem p192 : k0_pay192 (HD (VV (HN x g) wv) 2) (matmul dot_S256x128_S256x128_S256x256_1_1_0_0_n_n none (HD (QQ (HN x g) wq cs sn) 2) (HD (KK (HN x g) wk cs sn) 2) (constant (F := Ideal) S256x256 .f32 0x00000000#32)) D2 = (INN (HD (QQ (HN x g) wq cs sn) 2) (HD (KK (HN x g) wk cs sn) 2) (HD (VV (HN x g) wv) 2) D2) := by unfold k0_pay192; try (first | rfl | (simp only [shapeCast_self] <;> rfl))

theorem p193 : k0_pay193 D3 = (shapeCast S256x256 D3 shapeCasts_S1x256x256_S256x256) := by unfold k0_pay193; try (first | rfl | (simp only [shapeCast_self] <;> rfl))

theorem p194 : k0_pay194 (HD (VV (HN x g) wv) 3) (matmul dot_S256x128_S256x128_S256x256_1_1_0_0_n_n none (HD (QQ (HN x g) wq cs sn) 3) (HD (KK (HN x g) wk cs sn) 3) (constant (F := Ideal) S256x256 .f32 0x00000000#32)) (shapeCast S256x256 D3 shapeCasts_S1x256x256_S256x256) = (INN (HD (QQ (HN x g) wq cs sn) 3) (HD (KK (HN x g) wk cs sn) 3) (HD (VV (HN x g) wv) 3) D3) := by unfold k0_pay194; try (first | rfl | (simp only [shapeCast_self] <;> rfl))

theorem p195 : k0_pay195 (shapeCast S128x128 s0 shapeCasts_S1x128x128_S128x128) (KV (HD (KK (HN x g) wk cs sn) 0) (HD (VV (HN x g) wv) 0) K0) l0 = (NST (HD (KK (HN x g) wk cs sn) 0) (HD (VV (HN x g) wv) 0) K0 l0 s0) := by unfold k0_pay195; try (first | rfl | (simp only [shapeCast_self] <;> rfl))

theorem p196 : k0_pay196 (shapeCast S128x128 s1 shapeCasts_S1x128x128_S128x128) (KV (HD (KK (HN x g) wk cs sn) 1) (HD (VV (HN x g) wv) 1) K1) l1 = (NST (HD (KK (HN x g) wk cs sn) 1) (HD (VV (HN x g) wv) 1) K1 l1 s1) := by unfold k0_pay196; try (first | rfl | (simp only [shapeCast_self] <;> rfl))

theorem p197 : k0_pay197 (shapeCast S128x128 s2 shapeCasts_S1x128x128_S128x128) (KV (HD (KK (HN x g) wk cs sn) 2) (HD (VV (HN x g) wv) 2) K2) l2 = (NST (HD (KK (HN x g) wk cs sn) 2) (HD (VV (HN x g) wv) 2) K2 l2 s2) := by unfold k0_pay197; try (first | rfl | (simp only [shapeCast_self] <;> rfl))

theorem p198 : k0_pay198  = (broadcast S1x128 (Scalar.ofBits (F := Ideal) .f32 0x43800000#32)) := by unfold k0_pay198; try (first | rfl | (simp only [shapeCast_self] <;> rfl))

theorem p199 : k0_pay199 l3 = (broadcast S1x128 l3) := by unfold k0_pay199; try (first | rfl | (simp only [shapeCast_self] <;> rfl))

theorem p200 : k0_pay200 (shapeCast S128x128 s3 shapeCasts_S1x128x128_S128x128) (KV (HD (KK (HN x g) wk cs sn) 3) (HD (VV (HN x g) wv) 3) K3) (broadcast S1x128 (Scalar.ofBits (F := Ideal) .f32 0x43800000#32)) (broadcast S1x128 l3) = (NST (HD (KK (HN x g) wk cs sn) 3) (HD (VV (HN x g) wv) 3) K3 l3 s3) := by unfold k0_pay200; try (first | rfl | (simp only [shapeCast_self] <;> rfl))

theorem p201 : k0_pay201 (MM (HN x g) wg) (CRS (HD (QQ (HN x g) wq cs sn) 0) Q0 s0) (INN (HD (QQ (HN x g) wq cs sn) 0) (HD (KK (HN x g) wk cs sn) 0) (HD (VV (HN x g) wv) 0) D0) = (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0)) := by unfold k0_pay201; try (first | rfl | (simp only [shapeCast_self] <;> rfl))

theorem p202 : k0_pay202 (CRS (HD (QQ (HN x g) wq cs sn) 1) Q1 s1) (INN (HD (QQ (HN x g) wq cs sn) 1) (HD (KK (HN x g) wk cs sn) 1) (HD (VV (HN x g) wv) 1) D1) = (CTR (addf (INN (HD (QQ (HN x g) wq cs sn) 1) (HD (KK (HN x g) wk cs sn) 1) (HD (VV (HN x g) wv) 1) D1) (CRS (HD (QQ (HN x g) wq cs sn) 1) Q1 s1))) := by unfold k0_pay202; try (first | rfl | (simp only [shapeCast_self] <;> rfl))

theorem p203 : k0_pay203 (MM (HN x g) wg) = (HD (MM (HN x g) wg) 1) := by unfold k0_pay203; try (first | rfl | (simp only [shapeCast_self] <;> rfl))

theorem p204 : k0_pay204 (CRS (HD (QQ (HN x g) wq cs sn) 1) Q1 s1) (INN (HD (QQ (HN x g) wq cs sn) 1) (HD (KK (HN x g) wk cs sn) 1) (HD (VV (HN x g) wv) 1) D1) = (rsqrt (addf (MEAN (mulf (CTR (addf (INN (HD (QQ (HN x g) wq cs sn) 1) (HD (KK (HN x g) wk cs sn) 1) (HD (VV (HN x g) wv) 1) D1) (CRS (HD (QQ (HN x g) wq cs sn) 1) Q1 s1))) (CTR (addf (INN (HD (QQ (HN x g) wq cs sn) 1) (HD (KK (HN x g) wk cs sn) 1) (HD (VV (HN x g) wv) 1) D1) (CRS (HD (QQ (HN x g) wq cs sn) 1) Q1 s1))))) (broadcast S256x1 (Scalar.ofBits (F := Ideal) .f32 0x3727C5AC#32)))) := by unfold k0_pay204; rw [p202]; try (first | rfl | (simp only [shapeCast_self] <;> rfl))

theorem p205 : k0_pay205 (CTR (addf (INN (HD (QQ (HN x g) wq cs sn) 1) (HD (KK (HN x g) wk cs sn) 1) (HD (VV (HN x g) wv) 1) D1) (CRS (HD (QQ (HN x g) wq cs sn) 1) Q1 s1))) (HD (MM (HN x g) wg) 1) (rsqrt (addf (MEAN (mulf (CTR (addf (INN (HD (QQ (HN x g) wq cs sn) 1) (HD (KK (HN x g) wk cs sn) 1) (HD (VV (HN x g) wv) 1) D1) (CRS (HD (QQ (HN x g) wq cs sn) 1) Q1 s1))) (CTR (addf (INN (HD (QQ (HN x g) wq cs sn) 1) (HD (KK (HN x g) wk cs sn) 1) (HD (VV (HN x g) wv) 1) D1) (CRS (HD (QQ (HN x g) wq cs sn) 1) Q1 s1))))) (broadcast S256x1 (Scalar.ofBits (F := Ideal) .f32 0x3727C5AC#32)))) = (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1)) := by unfold k0_pay205; try (first | rfl | (simp only [shapeCast_self] <;> rfl))

theorem p206 : k0_pay206 (MM (HN x g) wg) (CRS (HD (QQ (HN x g) wq cs sn) 2) Q2 s2) (INN (HD (QQ (HN x g) wq cs sn) 2) (HD (KK (HN x g) wk cs sn) 2) (HD (VV (HN x g) wv) 2) D2) = (GN (addf (INN (HD (QQ (HN x g) wq cs sn) 2) (HD (KK (HN x g) wk cs sn) 2) (HD (VV (HN x g) wv) 2) D2) (CRS (HD (QQ (HN x g) wq cs sn) 2) Q2 s2)) (HD (MM (HN x g) wg) 2)) := by unfold k0_pay206; try (first | rfl | (simp only [shapeCast_self] <;> rfl))

theorem p207 : k0_pay207 (MM (HN x g) wg) (CRS (HD (QQ (HN x g) wq cs sn) 3) Q3 s3) (INN (HD (QQ (HN x g) wq cs sn) 3) (HD (KK (HN x g) wk cs sn) 3) (HD (VV (HN x g) wv) 3) D3) = (GN (addf (INN (HD (QQ (HN x g) wq cs sn) 3) (HD (KK (HN x g) wk cs sn) 3) (HD (VV (HN x g) wv) 3) D3) (CRS (HD (QQ (HN x g) wq cs sn) 3) Q3 s3)) (HD (MM (HN x g) wg) 3)) := by unfold k0_pay207; try (first | rfl | (simp only [shapeCast_self] <;> rfl))

theorem p208 : k0_pay208 (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0)) (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1)) (GN (addf (INN (HD (QQ (HN x g) wq cs sn) 2) (HD (KK (HN x g) wk cs sn) 2) (HD (VV (HN x g) wv) 2) D2) (CRS (HD (QQ (HN x g) wq cs sn) 2) Q2 s2)) (HD (MM (HN x g) wg) 2)) (GN (addf (INN (HD (QQ (HN x g) wq cs sn) 3) (HD (KK (HN x g) wk cs sn) 3) (HD (VV (HN x g) wv) 3) D3) (CRS (HD (QQ (HN x g) wq cs sn) 3) Q3 s3)) (HD (MM (HN x g) wg) 3)) = (concatenate S256x512 1 [⟨S256x128, (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0))⟩, ⟨S256x128, (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1))⟩, ⟨S256x128, (GN (addf (INN (HD (QQ (HN x g) wq cs sn) 2) (HD (KK (HN x g) wk cs sn) 2) (HD (VV (HN x g) wv) 2) D2) (CRS (HD (QQ (HN x g) wq cs sn) 2) Q2 s2)) (HD (MM (HN x g) wg) 2))⟩, ⟨S256x128, (GN (addf (INN (HD (QQ (HN x g) wq cs sn) 3) (HD (KK (HN x g) wk cs sn) 3) (HD (VV (HN x g) wv) 3) D3) (CRS (HD (QQ (HN x g) wq cs sn) 3) Q3 s3)) (HD (MM (HN x g) wg) 3))⟩] concatenates_S256x128_S256x128_S256x128_S256x128_S256x512_d1) := by unfold k0_pay208; try (first | rfl | (simp only [shapeCast_self] <;> rfl))

theorem p209 : k0_pay209 (HN x g) w1 = (SQ (HN x g) w1) := by unfold k0_pay209; try (first | rfl | (simp only [shapeCast_self] <;> rfl))

theorem p210 : k0_pay210 (HN x g) w2 = (VV (HN x g) w2) := by unfold k0_pay210; try (first | rfl | (simp only [shapeCast_self] <;> rfl))

theorem p211 : k0_pay211 (HN x g) w3 = (VV (HN x g) w3) := by unfold k0_pay211; try (first | rfl | (simp only [shapeCast_self] <;> rfl))

theorem p212 : k0_pay212 x = (XI x) := by unfold k0_pay212; try (first | rfl | (simp only [shapeCast_self] <;> rfl))

theorem p213 : k0_pay213 g = (GB g) := by unfold k0_pay213; try (first | rfl | (simp only [shapeCast_self] <;> rfl))

theorem p214 : k0_pay214 (XI x) (GB g) = (HN x g) := by unfold k0_pay214; try (first | rfl | (simp only [shapeCast_self] <;> rfl))

theorem p215 : k0_pay215 (XI x) (GB g) wq cs sn = (QQ (HN x g) wq cs sn) := by unfold k0_pay215; rw [p214]; rw [shapeCast_self cs, shapeCast_self sn]; rfl

theorem p216 : k0_pay216 (XI x) (GB g) wk = (MM (HN x g) wk) := by unfold k0_pay216; rw [p214]; try (first | rfl | (simp only [shapeCast_self] <;> rfl))

theorem p217 : k0_pay217 cs = cs := by unfold k0_pay217; try (first | rfl | (simp only [shapeCast_self] <;> rfl))

theorem p218 : k0_pay218 sn = sn := by unfold k0_pay218; try (first | rfl | (simp only [shapeCast_self] <;> rfl))

theorem p219 : k0_pay219 (XI x) (GB g) wk cs sn = (RH (HD (MM (HN x g) wk) 0) cs sn) := by unfold k0_pay219; rw [p216]; rw [p217]; rw [p218]; try (first | rfl | (simp only [shapeCast_self] <;> rfl))

theorem p220 : k0_pay220 (MM (HN x g) wk) cs sn (RH (HD (MM (HN x g) wk) 0) cs sn) = (KK (HN x g) wk cs sn) := by unfold k0_pay220; try (first | rfl | (simp only [shapeCast_self] <;> rfl))

theorem p221 : k0_pay221 (HN x g) wv = (VV (HN x g) wv) := by unfold k0_pay221; try (first | rfl | (simp only [shapeCast_self] <;> rfl))

theorem p222 : k0_pay222 (HN x g) wg = (MM (HN x g) wg) := by unfold k0_pay222; try (first | rfl | (simp only [shapeCast_self] <;> rfl))

theorem p223 : k0_pay223 (QQ (HN x g) wq cs sn) = (HD (QQ (HN x g) wq cs sn) 0) := by unfold k0_pay223; try (first | rfl | (simp only [shapeCast_self] <;> rfl))

theorem p224 : k0_pay224 (QQ (HN x g) wq cs sn) = (HD (QQ (HN x g) wq cs sn) 1) := by unfold k0_pay224; try (first | rfl | (simp only [shapeCast_self] <;> rfl))

theorem p225 : k0_pay225 (QQ (HN x g) wq cs sn) = (HD (QQ (HN x g) wq cs sn) 2) := by unfold k0_pay225; try (first | rfl | (simp only [shapeCast_self] <;> rfl))

theorem p226 : k0_pay226 (QQ (HN x g) wq cs sn) = (HD (QQ (HN x g) wq cs sn) 3) := by unfold k0_pay226; try (first | rfl | (simp only [shapeCast_self] <;> rfl))

theorem p227 : k0_pay227 (MM (HN x g) wk) cs sn (RH (HD (MM (HN x g) wk) 0) cs sn) = (HD (KK (HN x g) wk cs sn) 0) := by unfold k0_pay227; rw [p220]; try (first | rfl | (simp only [shapeCast_self] <;> rfl))

theorem p228 : k0_pay228 (MM (HN x g) wk) cs sn (RH (HD (MM (HN x g) wk) 0) cs sn) = (HD (KK (HN x g) wk cs sn) 1) := by unfold k0_pay228; rw [p220]; try (first | rfl | (simp only [shapeCast_self] <;> rfl))

theorem p229 : k0_pay229 (MM (HN x g) wk) cs sn (RH (HD (MM (HN x g) wk) 0) cs sn) = (HD (KK (HN x g) wk cs sn) 2) := by unfold k0_pay229; rw [p220]; try (first | rfl | (simp only [shapeCast_self] <;> rfl))

theorem p230 : k0_pay230 (MM (HN x g) wk) cs sn (RH (HD (MM (HN x g) wk) 0) cs sn) = (HD (KK (HN x g) wk cs sn) 3) := by unfold k0_pay230; rw [p220]; try (first | rfl | (simp only [shapeCast_self] <;> rfl))

theorem p231 : k0_pay231 (HN x g) wv = (HD (VV (HN x g) wv) 0) := by unfold k0_pay231; rw [p221]; try (first | rfl | (simp only [shapeCast_self] <;> rfl))

theorem p232 : k0_pay232 (HN x g) wv = (HD (VV (HN x g) wv) 1) := by unfold k0_pay232; rw [p221]; try (first | rfl | (simp only [shapeCast_self] <;> rfl))

theorem p233 : k0_pay233 (HN x g) wv = (HD (VV (HN x g) wv) 2) := by unfold k0_pay233; rw [p221]; try (first | rfl | (simp only [shapeCast_self] <;> rfl))

theorem p234 : k0_pay234 (HN x g) wv = (HD (VV (HN x g) wv) 3) := by unfold k0_pay234; rw [p221]; try (first | rfl | (simp only [shapeCast_self] <;> rfl))

theorem p235 : k0_pay235 s0 = (shapeCast S128x128 s0 shapeCasts_S1x128x128_S128x128) := by unfold k0_pay235; try (first | rfl | (simp only [shapeCast_self] <;> rfl))

theorem p236 : k0_pay236 s1 = (shapeCast S128x128 s1 shapeCasts_S1x128x128_S128x128) := by unfold k0_pay236; try (first | rfl | (simp only [shapeCast_self] <;> rfl))

theorem p237 : k0_pay237 s2 = (shapeCast S128x128 s2 shapeCasts_S1x128x128_S128x128) := by unfold k0_pay237; try (first | rfl | (simp only [shapeCast_self] <;> rfl))

theorem p238 : k0_pay238 s3 = (shapeCast S128x128 s3 shapeCasts_S1x128x128_S128x128) := by unfold k0_pay238; try (first | rfl | (simp only [shapeCast_self] <;> rfl))

theorem p239 : k0_pay239 (HD (QQ (HN x g) wq cs sn) 0) (HD (KK (HN x g) wk cs sn) 0) = (matmul dot_S256x128_S256x128_S256x256_1_1_0_0_n_n none (HD (QQ (HN x g) wq cs sn) 0) (HD (KK (HN x g) wk cs sn) 0) (constant (F := Ideal) S256x256 .f32 0x00000000#32)) := by unfold k0_pay239; try (first | rfl | (simp only [shapeCast_self] <;> rfl))

theorem p240 : k0_pay240 (HD (QQ (HN x g) wq cs sn) 1) (HD (KK (HN x g) wk cs sn) 1) = (matmul dot_S256x128_S256x128_S256x256_1_1_0_0_n_n none (HD (QQ (HN x g) wq cs sn) 1) (HD (KK (HN x g) wk cs sn) 1) (constant (F := Ideal) S256x256 .f32 0x00000000#32)) := by unfold k0_pay240; try (first | rfl | (simp only [shapeCast_self] <;> rfl))

theorem p241 : k0_pay241 (HD (QQ (HN x g) wq cs sn) 2) (HD (KK (HN x g) wk cs sn) 2) = (matmul dot_S256x128_S256x128_S256x256_1_1_0_0_n_n none (HD (QQ (HN x g) wq cs sn) 2) (HD (KK (HN x g) wk cs sn) 2) (constant (F := Ideal) S256x256 .f32 0x00000000#32)) := by unfold k0_pay241; try (first | rfl | (simp only [shapeCast_self] <;> rfl))

theorem p242 : k0_pay242 (HD (QQ (HN x g) wq cs sn) 3) (HD (KK (HN x g) wk cs sn) 3) = (matmul dot_S256x128_S256x128_S256x256_1_1_0_0_n_n none (HD (QQ (HN x g) wq cs sn) 3) (HD (KK (HN x g) wk cs sn) 3) (constant (F := Ideal) S256x256 .f32 0x00000000#32)) := by unfold k0_pay242; try (first | rfl | (simp only [shapeCast_self] <;> rfl))

theorem p243 : k0_pay243 (HD (QQ (HN x g) wq cs sn) 0) (shapeCast S128x128 s0 shapeCasts_S1x128x128_S128x128) Q0 = (CRS (HD (QQ (HN x g) wq cs sn) 0) Q0 s0) := by unfold k0_pay243; try (first | rfl | (simp only [shapeCast_self] <;> rfl))

theorem p244 : k0_pay244 (HD (QQ (HN x g) wq cs sn) 1) (shapeCast S128x128 s1 shapeCasts_S1x128x128_S128x128) Q1 = (CRS (HD (QQ (HN x g) wq cs sn) 1) Q1 s1) := by unfold k0_pay244; try (first | rfl | (simp only [shapeCast_self] <;> rfl))

theorem p245 : k0_pay245 (HD (QQ (HN x g) wq cs sn) 2) s2 Q2 = (CRS (HD (QQ (HN x g) wq cs sn) 2) Q2 s2) := by unfold k0_pay245; rw [p237]; try (first | rfl | (simp only [shapeCast_self] <;> rfl))

theorem p246 : k0_pay246 (HD (QQ (HN x g) wq cs sn) 3) s3 Q3 = (CRS (HD (QQ (HN x g) wq cs sn) 3) Q3 s3) := by unfold k0_pay246; rw [p238]; try (first | rfl | (simp only [shapeCast_self] <;> rfl))

theorem p247 : k0_pay247 (HD (KK (HN x g) wk cs sn) 0) = (extf .f32 (HD (KK (HN x g) wk cs sn) 0) bitsLt_bf16_f32) := by unfold k0_pay247; try (first | rfl | (simp only [shapeCast_self] <;> rfl))

theorem p248 : k0_pay248 (HD (VV (HN x g) wv) 0) (extf .f32 (HD (KK (HN x g) wk cs sn) 0) bitsLt_bf16_f32) K0 = (KV (HD (KK (HN x g) wk cs sn) 0) (HD (VV (HN x g) wv) 0) K0) := by unfold k0_pay248; try (first | rfl | (simp only [shapeCast_self] <;> rfl))

theorem p249 : k0_pay249 (HD (KK (HN x g) wk cs sn) 1) (HD (VV (HN x g) wv) 1) K1 = (KV (HD (KK (HN x g) wk cs sn) 1) (HD (VV (HN x g) wv) 1) K1) := by unfold k0_pay249; try (first | rfl | (simp only [shapeCast_self] <;> rfl))

theorem p250 : k0_pay250 (HD (KK (HN x g) wk cs sn) 2) (HD (VV (HN x g) wv) 2) K2 = (KV (HD (KK (HN x g) wk cs sn) 2) (HD (VV (HN x g) wv) 2) K2) := by unfold k0_pay250; try (first | rfl | (simp only [shapeCast_self] <;> rfl))

theorem p251 : k0_pay251 (HD (KK (HN x g) wk cs sn) 3) (HD (VV (HN x g) wv) 3) K3 = (KV (HD (KK (HN x g) wk cs sn) 3) (HD (VV (HN x g) wv) 3) K3) := by unfold k0_pay251; try (first | rfl | (simp only [shapeCast_self] <;> rfl))

theorem p252 : k0_pay252 (HD (VV (HN x g) wv) 0) (matmul dot_S256x128_S256x128_S256x256_1_1_0_0_n_n none (HD (QQ (HN x g) wq cs sn) 0) (HD (KK (HN x g) wk cs sn) 0) (constant (F := Ideal) S256x256 .f32 0x00000000#32)) D0 = (INN (HD (QQ (HN x g) wq cs sn) 0) (HD (KK (HN x g) wk cs sn) 0) (HD (VV (HN x g) wv) 0) D0) := by unfold k0_pay252; try (first | rfl | (simp only [shapeCast_self] <;> rfl))

theorem p253 : k0_pay253 (HD (VV (HN x g) wv) 1) (matmul dot_S256x128_S256x128_S256x256_1_1_0_0_n_n none (HD (QQ (HN x g) wq cs sn) 1) (HD (KK (HN x g) wk cs sn) 1) (constant (F := Ideal) S256x256 .f32 0x00000000#32)) D1 = (INN (HD (QQ (HN x g) wq cs sn) 1) (HD (KK (HN x g) wk cs sn) 1) (HD (VV (HN x g) wv) 1) D1) := by unfold k0_pay253; try (first | rfl | (simp only [shapeCast_self] <;> rfl))

theorem p254 : k0_pay254 (HD (VV (HN x g) wv) 2) (matmul dot_S256x128_S256x128_S256x256_1_1_0_0_n_n none (HD (QQ (HN x g) wq cs sn) 2) (HD (KK (HN x g) wk cs sn) 2) (constant (F := Ideal) S256x256 .f32 0x00000000#32)) D2 = (INN (HD (QQ (HN x g) wq cs sn) 2) (HD (KK (HN x g) wk cs sn) 2) (HD (VV (HN x g) wv) 2) D2) := by unfold k0_pay254; try (first | rfl | (simp only [shapeCast_self] <;> rfl))

theorem p255 : k0_pay255 (HD (VV (HN x g) wv) 3) (matmul dot_S256x128_S256x128_S256x256_1_1_0_0_n_n none (HD (QQ (HN x g) wq cs sn) 3) (HD (KK (HN x g) wk cs sn) 3) (constant (F := Ideal) S256x256 .f32 0x00000000#32)) D3 = (INN (HD (QQ (HN x g) wq cs sn) 3) (HD (KK (HN x g) wk cs sn) 3) (HD (VV (HN x g) wv) 3) D3) := by unfold k0_pay255; try (first | rfl | (simp only [shapeCast_self] <;> rfl))

theorem p256 : k0_pay256 (shapeCast S128x128 s0 shapeCasts_S1x128x128_S128x128) (KV (HD (KK (HN x g) wk cs sn) 0) (HD (VV (HN x g) wv) 0) K0) l0 = (NST (HD (KK (HN x g) wk cs sn) 0) (HD (VV (HN x g) wv) 0) K0 l0 s0) := by unfold k0_pay256; try (first | rfl | (simp only [shapeCast_self] <;> rfl))

theorem p257 : k0_pay257 (shapeCast S128x128 s1 shapeCasts_S1x128x128_S128x128) (KV (HD (KK (HN x g) wk cs sn) 1) (HD (VV (HN x g) wv) 1) K1) l1 = (NST (HD (KK (HN x g) wk cs sn) 1) (HD (VV (HN x g) wv) 1) K1 l1 s1) := by unfold k0_pay257; try (first | rfl | (simp only [shapeCast_self] <;> rfl))

theorem p258 : k0_pay258 l2 = (broadcastTo S128x128 (exp (mulf (broadcast S1x128 (Scalar.ofBits (F := Ideal) .f32 0x43800000#32)) (broadcast S1x128 l2))) broadcasts_S1x128_S128x128) := by unfold k0_pay258; try (first | rfl | (simp only [shapeCast_self] <;> rfl))

theorem p259 : k0_pay259 (shapeCast S128x128 s2 shapeCasts_S1x128x128_S128x128) (KV (HD (KK (HN x g) wk cs sn) 2) (HD (VV (HN x g) wv) 2) K2) (broadcastTo S128x128 (exp (mulf (broadcast S1x128 (Scalar.ofBits (F := Ideal) .f32 0x43800000#32)) (broadcast S1x128 l2))) broadcasts_S1x128_S128x128) = (NST (HD (KK (HN x g) wk cs sn) 2) (HD (VV (HN x g) wv) 2) K2 l2 s2) := by unfold k0_pay259; try (first | rfl | (simp only [shapeCast_self] <;> rfl))

theorem p260 : k0_pay260 (shapeCast S128x128 s3 shapeCasts_S1x128x128_S128x128) (KV (HD (KK (HN x g) wk cs sn) 3) (HD (VV (HN x g) wv) 3) K3) l3 = (NST (HD (KK (HN x g) wk cs sn) 3) (HD (VV (HN x g) wv) 3) K3 l3 s3) := by unfold k0_pay260; try (first | rfl | (simp only [shapeCast_self] <;> rfl))

theorem p261 : k0_pay261 (MM (HN x g) wg) (CRS (HD (QQ (HN x g) wq cs sn) 0) Q0 s0) (INN (HD (QQ (HN x g) wq cs sn) 0) (HD (KK (HN x g) wk cs sn) 0) (HD (VV (HN x g) wv) 0) D0) = (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0)) := by unfold k0_pay261; try (first | rfl | (simp only [shapeCast_self] <;> rfl))

theorem p262 : k0_pay262 (CRS (HD (QQ (HN x g) wq cs sn) 1) Q1 s1) (INN (HD (QQ (HN x g) wq cs sn) 1) (HD (KK (HN x g) wk cs sn) 1) (HD (VV (HN x g) wv) 1) D1) = (addf (INN (HD (QQ (HN x g) wq cs sn) 1) (HD (KK (HN x g) wk cs sn) 1) (HD (VV (HN x g) wv) 1) D1) (CRS (HD (QQ (HN x g) wq cs sn) 1) Q1 s1)) := by unfold k0_pay262; try (first | rfl | (simp only [shapeCast_self] <;> rfl))

theorem p263 : k0_pay263 (CRS (HD (QQ (HN x g) wq cs sn) 1) Q1 s1) (INN (HD (QQ (HN x g) wq cs sn) 1) (HD (KK (HN x g) wk cs sn) 1) (HD (VV (HN x g) wv) 1) D1) = (MEAN (addf (INN (HD (QQ (HN x g) wq cs sn) 1) (HD (KK (HN x g) wk cs sn) 1) (HD (VV (HN x g) wv) 1) D1) (CRS (HD (QQ (HN x g) wq cs sn) 1) Q1 s1))) := by unfold k0_pay263; rw [p262]; try (first | rfl | (simp only [shapeCast_self] <;> rfl))

theorem p264 : k0_pay264 (MM (HN x g) wg) (addf (INN (HD (QQ (HN x g) wq cs sn) 1) (HD (KK (HN x g) wk cs sn) 1) (HD (VV (HN x g) wv) 1) D1) (CRS (HD (QQ (HN x g) wq cs sn) 1) Q1 s1)) (MEAN (addf (INN (HD (QQ (HN x g) wq cs sn) 1) (HD (KK (HN x g) wk cs sn) 1) (HD (VV (HN x g) wv) 1) D1) (CRS (HD (QQ (HN x g) wq cs sn) 1) Q1 s1))) = (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1)) := by unfold k0_pay264; try (first | rfl | (simp only [shapeCast_self] <;> rfl))

theorem p265 : k0_pay265 (MM (HN x g) wg) (CRS (HD (QQ (HN x g) wq cs sn) 2) Q2 s2) (INN (HD (QQ (HN x g) wq cs sn) 2) (HD (KK (HN x g) wk cs sn) 2) (HD (VV (HN x g) wv) 2) D2) = (GN (addf (INN (HD (QQ (HN x g) wq cs sn) 2) (HD (KK (HN x g) wk cs sn) 2) (HD (VV (HN x g) wv) 2) D2) (CRS (HD (QQ (HN x g) wq cs sn) 2) Q2 s2)) (HD (MM (HN x g) wg) 2)) := by unfold k0_pay265; try (first | rfl | (simp only [shapeCast_self] <;> rfl))

theorem p266 : k0_pay266 (CRS (HD (QQ (HN x g) wq cs sn) 3) Q3 s3) (INN (HD (QQ (HN x g) wq cs sn) 3) (HD (KK (HN x g) wk cs sn) 3) (HD (VV (HN x g) wv) 3) D3) = (CTR (addf (INN (HD (QQ (HN x g) wq cs sn) 3) (HD (KK (HN x g) wk cs sn) 3) (HD (VV (HN x g) wv) 3) D3) (CRS (HD (QQ (HN x g) wq cs sn) 3) Q3 s3))) := by unfold k0_pay266; try (first | rfl | (simp only [shapeCast_self] <;> rfl))

theorem p267 : k0_pay267 (CRS (HD (QQ (HN x g) wq cs sn) 3) Q3 s3) (INN (HD (QQ (HN x g) wq cs sn) 3) (HD (KK (HN x g) wk cs sn) 3) (HD (VV (HN x g) wv) 3) D3) = (shapeCast S256x1 (multiReduction .add [1] S256 (mulf (CTR (addf (INN (HD (QQ (HN x g) wq cs sn) 3) (HD (KK (HN x g) wk cs sn) 3) (HD (VV (HN x g) wv) 3) D3) (CRS (HD (QQ (HN x g) wq cs sn) 3) Q3 s3))) (CTR (addf (INN (HD (QQ (HN x g) wq cs sn) 3) (HD (KK (HN x g) wk cs sn) 3) (HD (VV (HN x g) wv) 3) D3) (CRS (HD (QQ (HN x g) wq cs sn) 3) Q3 s3)))) 0x00000000#32 reduces_S256x128_S256 (.inl rfl) rfl) shapeCasts_S256_S256x1) := by unfold k0_pay267; rw [p266]

theorem p268 : k0_pay268 (MM (HN x g) wg) (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0)) (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1)) (GN (addf (INN (HD (QQ (HN x g) wq cs sn) 2) (HD (KK (HN x g) wk cs sn) 2) (HD (VV (HN x g) wv) 2) D2) (CRS (HD (QQ (HN x g) wq cs sn) 2) Q2 s2)) (HD (MM (HN x g) wg) 2)) (CTR (addf (INN (HD (QQ (HN x g) wq cs sn) 3) (HD (KK (HN x g) wk cs sn) 3) (HD (VV (HN x g) wv) 3) D3) (CRS (HD (QQ (HN x g) wq cs sn) 3) Q3 s3))) (shapeCast S256x1 (multiReduction .add [1] S256 (mulf (CTR (addf (INN (HD (QQ (HN x g) wq cs sn) 3) (HD (KK (HN x g) wk cs sn) 3) (HD (VV (HN x g) wv) 3) D3) (CRS (HD (QQ (HN x g) wq cs sn) 3) Q3 s3))) (CTR (addf (INN (HD (QQ (HN x g) wq cs sn) 3) (HD (KK (HN x g) wk cs sn) 3) (HD (VV (HN x g) wv) 3) D3) (CRS (HD (QQ (HN x g) wq cs sn) 3) Q3 s3)))) 0x00000000#32 reduces_S256x128_S256 (.inl rfl) rfl) shapeCasts_S256_S256x1) = (concatenate S256x512 1 [⟨S256x128, (GN (addf (INN (HD (QQ (HN x g) wq cs sn) 0) (HD (KK (HN x g) wk cs sn) 0) (HD (VV (HN x g) wv) 0) D0) (CRS (HD (QQ (HN x g) wq cs sn) 0) Q0 s0)) (HD (MM (HN x g) wg) 0))⟩, ⟨S256x128, (GN (addf (INN (HD (QQ (HN x g) wq cs sn) 1) (HD (KK (HN x g) wk cs sn) 1) (HD (VV (HN x g) wv) 1) D1) (CRS (HD (QQ (HN x g) wq cs sn) 1) Q1 s1)) (HD (MM (HN x g) wg) 1))⟩, ⟨S256x128, (GN (addf (INN (HD (QQ (HN x g) wq cs sn) 2) (HD (KK (HN x g) wk cs sn) 2) (HD (VV (HN x g) wv) 2) D2) (CRS (HD (QQ (HN x g) wq cs sn) 2) Q2 s2)) (HD (MM (HN x g) wg) 2))⟩, ⟨S256x128, (GN (addf (INN (HD (QQ (HN x g) wq cs sn) 3) (HD (KK (HN x g) wk cs sn) 3) (HD (VV (HN x g) wv) 3) D3) (CRS (HD (QQ (HN x g) wq cs sn) 3) Q3 s3)) (HD (MM (HN x g) wg) 3))⟩] concatenates_S256x128_S256x128_S256x128_S256x128_S256x512_d1) := by unfold k0_pay268; try (first | rfl | (simp only [shapeCast_self] <;> rfl))

theorem p269 : k0_pay269 (HN x g) w1 = (mulf (MM (HN x g) w1) (broadcast S256x512 (Scalar.ofBits (F := Ideal) .f32 0x3E38AA3B#32))) := by unfold k0_pay269; try (first | rfl | (simp only [shapeCast_self] <;> rfl))

end Cert.MixIdeal.Blk
-- ==== Proof.MixBlock.lean ====
/-
  One block of the mixer's input kernel: every group of 256 rows that the body stores is the same function of its rows and of
  the recurrent state, whether the body has just filled the scratch or finds it filled.
-/
module

public import proofs.«01_k».proof.Proof.MixPay
public import proofs.«01_k».proof.Proof.Gen.MixIdeal.Value
public import Idealize.ShloMosaic.Lib.Pointwise.Tactic
public import Idealize.ShloMosaic.Lib.Pipeline.ValueKit
public import Idealize.ShloMosaic.Lib.Pipeline.ReadBack

@[expose] public section

set_option maxRecDepth 16384

noncomputable section

namespace Cert.MixIdeal.Blk

open Idealize.ShloMosaic hiding ix1 ix2 ix3 ix4
open Cert.MixIdeal Cert.MixIdeal.Gen Idealize.ShloMosaic.TcCoe Idealize.ShloMosaic.ValueIdx Layer Idealize.SL.Sem
open Idealize.ShloMosaic.Tactic
open scoped BigOperators

variable (m : (ℓ : Loc nD τ sig) → Buf (Elt Ideal) ℓ)

theorem q_A (c : Dev nD) (t : Fin cfg0.N) (h0 : t.val % 16 = 0) (h1 : t.val % 2 = 0) :
    (outsAt0 m c t.val t.isLt).1 = OQ (iblk m c 1 t) (iblk m c 2 t) (CW (X0_3 m c t)) := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem k_A (c : Dev nD) (t : Fin cfg0.N) (h0 : t.val % 16 = 0) (h1 : t.val % 2 = 0) :
    (outsAt0 m c t.val t.isLt).2.1 = OK (iblk m c 1 t) (iblk m c 2 t) (CW (X0_3 m c t)) := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem v_A (c : Dev nD) (t : Fin cfg0.N) (h0 : t.val % 16 = 0) (h1 : t.val % 2 = 0) :
    (outsAt0 m c t.val t.isLt).2.2.1 = OV (iblk m c 1 t) (iblk m c 2 t) (CW (X0_3 m c t)) := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem o_A (c : Dev nD) (t : Fin cfg0.N) (h0 : t.val % 16 = 0) (h1 : t.val % 2 = 0) :
    (outsAt0 m c t.val t.isLt).2.2.2.1 = OOR (iblk m c 1 t) (iblk m c 2 t) (CW (X0_3 m c t)) (iblk m c 4 t) (iblk m c 5 t) (fun h => TD (LDL (iblk m c 0 t) h)) (fun h => TQ (LDL (iblk m c 0 t) h)) (fun h => TK (LDL (iblk m c 0 t) h)) (LDL (iblk m c 0 t)) (LDS ZS) := by
  rw [outsAt0_A m c t h0 h1]
  dsimp only
  frame_open
  try simp (disch := decide) only [↓ View.readCov_skip, ↓ View.readCov_cons_toLoadRect, ↓ View.readCov_fill]
  frame_out
  try simp only [read_unread_whole]
  simp only [p4, p5, p6, p7, p8, p10, p11, p12, p13, p17, p18, p19, p20, p21, p22, p23, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191, p192, p193, p194, p195, p196, p197, p198, p199, p200, p201, p202, p203, p204, p205, p206, p207, p208, p209, p210, p211, p212, p213, p214, p215, p216, p217, p218, p219, p220, p221, p222, p223, p224, p225, p226, p227, p228, p229, p230, p231, p232, p233, p234, p235, p236, p237, p238, p239, p240, p241, p242, p243, p244, p245, p246, p247, p248, p249, p250, p251, p252, p253, p254, p255, p256, p257, p258, p259, p260, p261, p262, p263, p264, p265, p266, p267, p268, p269]
  rfl

theorem g_A (c : Dev nD) (t : Fin cfg0.N) (h0 : t.val % 16 = 0) (h1 : t.val % 2 = 0) :
    (outsAt0 m c t.val t.isLt).2.2.2.2.1 = fun i => iblk m c 6 t i := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem u_A (c : Dev nD) (t : Fin cfg0.N) (h0 : t.val % 16 = 0) (h1 : t.val % 2 = 0) :
    (outsAt0 m c t.val t.isLt).2.2.2.2.2.1 = fun i => iblk m c 7 t i := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem d_A (c : Dev nD) (t : Fin cfg0.N) (h0 : t.val % 16 = 0) (h1 : t.val % 2 = 0) :
    (outsAt0 m c t.val t.isLt).2.2.2.2.2.2.1 = fun i => iblk m c 8 t i := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem s_A (c : Dev nD) (t : Fin cfg0.N) (h0 : t.val % 16 = 0) (h1 : t.val % 2 = 0) :
    ∃ L, (outsAt0 m c t.val t.isLt).2.2.2.2.2.2.2.2.2.2.2 = OST (iblk m c 1 t) (iblk m c 2 t) (CW (X0_3 m c t)) (iblk m c 4 t) (iblk m c 5 t) (fun h => TK (LDL (iblk m c 0 t) h)) (LDL (iblk m c 0 t)) (LDS ZS) L := by
  rw [outsAt0_A m c t h0 h1]
  dsimp only
  frame_open
  try simp (disch := decide) only [↓ View.readCov_skip, ↓ View.readCov_cons_toLoadRect, ↓ View.readCov_fill]
  frame_out
  try simp only [read_unread_whole]
  simp only [p4, p5, p6, p7, p8, p10, p11, p12, p13, p17, p18, p19, p20, p21, p22, p23, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191, p192, p193, p194, p195, p196, p197, p198, p199, p200, p201, p202, p203, p204, p205, p206, p207, p208, p209, p210, p211, p212, p213, p214, p215, p216, p217, p218, p219, p220, p221, p222, p223, p224, p225, p226, p227, p228, p229, p230, p231, p232, p233, p234, p235, p236, p237, p238, p239, p240, p241, p242, p243, p244, p245, p246, p247, p248, p249, p250, p251, p252, p253, p254, p255, p256, p257, p258, p259, p260, p261, p262, p263, p264, p265, p266, p267, p268, p269]
  exact ⟨_, rfl⟩

theorem w_A (c : Dev nD) (t : Fin cfg0.N) (h0 : t.val % 16 = 0) (h1 : t.val % 2 = 0) :
    (outsAt0 m c t.val t.isLt).2.2.2.2.2.2.2.1 = (CW (X0_3 m c t)) := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem td_A (c : Dev nD) (t : Fin cfg0.N) (h0 : t.val % 16 = 0) (h1 : t.val % 2 = 0) :
    (outsAt0 m c t.val t.isLt).2.2.2.2.2.2.2.2.1 = WD (LDL (iblk m c 0 t)) := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem tq_A (c : Dev nD) (t : Fin cfg0.N) (h0 : t.val % 16 = 0) (h1 : t.val % 2 = 0) :
    (outsAt0 m c t.val t.isLt).2.2.2.2.2.2.2.2.2.1 = WQ (LDL (iblk m c 0 t)) := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem tk_A (c : Dev nD) (t : Fin cfg0.N) (h0 : t.val % 16 = 0) (h1 : t.val % 2 = 0) :
    (outsAt0 m c t.val t.isLt).2.2.2.2.2.2.2.2.2.2.1 = WK (LDL (iblk m c 0 t)) := by
  rw [outsAt0_A m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem q_B (c : Dev nD) (t : Fin cfg0.N) (h0 : ¬t.val % 16 = 0) (h1 : ¬t.val % 2 = 0) :
    (outsAt0 m c t.val t.isLt).1 = OQ (iblk m c 1 t) (iblk m c 2 t) (outsAt0 m c (t.val - 1) (Nat.lt_of_le_of_lt (Nat.sub_le _ _) t.isLt)).2.2.2.2.2.2.2.1 := by
  rw [outsAt0_B m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem k_B (c : Dev nD) (t : Fin cfg0.N) (h0 : ¬t.val % 16 = 0) (h1 : ¬t.val % 2 = 0) :
    (outsAt0 m c t.val t.isLt).2.1 = OK (iblk m c 1 t) (iblk m c 2 t) (outsAt0 m c (t.val - 1) (Nat.lt_of_le_of_lt (Nat.sub_le _ _) t.isLt)).2.2.2.2.2.2.2.1 := by
  rw [outsAt0_B m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem v_B (c : Dev nD) (t : Fin cfg0.N) (h0 : ¬t.val % 16 = 0) (h1 : ¬t.val % 2 = 0) :
    (outsAt0 m c t.val t.isLt).2.2.1 = OV (iblk m c 1 t) (iblk m c 2 t) (outsAt0 m c (t.val - 1) (Nat.lt_of_le_of_lt (Nat.sub_le _ _) t.isLt)).2.2.2.2.2.2.2.1 := by
  rw [outsAt0_B m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem o_B (c : Dev nD) (t : Fin cfg0.N) (h0 : ¬t.val % 16 = 0) (h1 : ¬t.val % 2 = 0) :
    (outsAt0 m c t.val t.isLt).2.2.2.1 = OOR (iblk m c 1 t) (iblk m c 2 t) (outsAt0 m c (t.val - 1) (Nat.lt_of_le_of_lt (Nat.sub_le _ _) t.isLt)).2.2.2.2.2.2.2.1 (iblk m c 4 t) (iblk m c 5 t) (LDD (outsAt0 m c (t.val - 1) (Nat.lt_of_le_of_lt (Nat.sub_le _ _) t.isLt)).2.2.2.2.2.2.2.2.1) (LDQ (outsAt0 m c (t.val - 1) (Nat.lt_of_le_of_lt (Nat.sub_le _ _) t.isLt)).2.2.2.2.2.2.2.2.2.1) (LDQ (outsAt0 m c (t.val - 1) (Nat.lt_of_le_of_lt (Nat.sub_le _ _) t.isLt)).2.2.2.2.2.2.2.2.2.2.1) (LDL (iblk m c 0 t)) (LDS (outsAt0 m c (t.val - 1) (Nat.lt_of_le_of_lt (Nat.sub_le _ _) t.isLt)).2.2.2.2.2.2.2.2.2.2.2) := by
  rw [outsAt0_B m c t h0 h1]
  dsimp only
  frame_open
  try simp (disch := decide) only [↓ View.readCov_skip, ↓ View.readCov_cons_toLoadRect, ↓ View.readCov_fill]
  frame_out
  try simp only [read_unread_whole]
  simp only [p4, p5, p6, p7, p8, p10, p11, p12, p13, p17, p18, p19, p20, p21, p22, p23, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191, p192, p193, p194, p195, p196, p197, p198, p199, p200, p201, p202, p203, p204, p205, p206, p207, p208, p209, p210, p211, p212, p213, p214, p215, p216, p217, p218, p219, p220, p221, p222, p223, p224, p225, p226, p227, p228, p229, p230, p231, p232, p233, p234, p235, p236, p237, p238, p239, p240, p241, p242, p243, p244, p245, p246, p247, p248, p249, p250, p251, p252, p253, p254, p255, p256, p257, p258, p259, p260, p261, p262, p263, p264, p265, p266, p267, p268, p269]
  rfl

theorem g_B (c : Dev nD) (t : Fin cfg0.N) (h0 : ¬t.val % 16 = 0) (h1 : ¬t.val % 2 = 0) :
    (outsAt0 m c t.val t.isLt).2.2.2.2.1 = fun i => iblk m c 6 t i := by
  rw [outsAt0_B m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem u_B (c : Dev nD) (t : Fin cfg0.N) (h0 : ¬t.val % 16 = 0) (h1 : ¬t.val % 2 = 0) :
    (outsAt0 m c t.val t.isLt).2.2.2.2.2.1 = fun i => iblk m c 7 t i := by
  rw [outsAt0_B m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem d_B (c : Dev nD) (t : Fin cfg0.N) (h0 : ¬t.val % 16 = 0) (h1 : ¬t.val % 2 = 0) :
    (outsAt0 m c t.val t.isLt).2.2.2.2.2.2.1 = fun i => iblk m c 8 t i := by
  rw [outsAt0_B m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem s_B (c : Dev nD) (t : Fin cfg0.N) (h0 : ¬t.val % 16 = 0) (h1 : ¬t.val % 2 = 0) :
    ∃ L, (outsAt0 m c t.val t.isLt).2.2.2.2.2.2.2.2.2.2.2 = OST (iblk m c 1 t) (iblk m c 2 t) (outsAt0 m c (t.val - 1) (Nat.lt_of_le_of_lt (Nat.sub_le _ _) t.isLt)).2.2.2.2.2.2.2.1 (iblk m c 4 t) (iblk m c 5 t) (LDQ (outsAt0 m c (t.val - 1) (Nat.lt_of_le_of_lt (Nat.sub_le _ _) t.isLt)).2.2.2.2.2.2.2.2.2.2.1) (LDL (iblk m c 0 t)) (LDS (outsAt0 m c (t.val - 1) (Nat.lt_of_le_of_lt (Nat.sub_le _ _) t.isLt)).2.2.2.2.2.2.2.2.2.2.2) L := by
  rw [outsAt0_B m c t h0 h1]
  dsimp only
  frame_open
  try simp (disch := decide) only [↓ View.readCov_skip, ↓ View.readCov_cons_toLoadRect, ↓ View.readCov_fill]
  frame_out
  try simp only [read_unread_whole]
  simp only [p4, p5, p6, p7, p8, p10, p11, p12, p13, p17, p18, p19, p20, p21, p22, p23, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191, p192, p193, p194, p195, p196, p197, p198, p199, p200, p201, p202, p203, p204, p205, p206, p207, p208, p209, p210, p211, p212, p213, p214, p215, p216, p217, p218, p219, p220, p221, p222, p223, p224, p225, p226, p227, p228, p229, p230, p231, p232, p233, p234, p235, p236, p237, p238, p239, p240, p241, p242, p243, p244, p245, p246, p247, p248, p249, p250, p251, p252, p253, p254, p255, p256, p257, p258, p259, p260, p261, p262, p263, p264, p265, p266, p267, p268, p269]
  exact ⟨_, rfl⟩

theorem w_B (c : Dev nD) (t : Fin cfg0.N) (h0 : ¬t.val % 16 = 0) (h1 : ¬t.val % 2 = 0) :
    (outsAt0 m c t.val t.isLt).2.2.2.2.2.2.2.1 = (outsAt0 m c (t.val - 1) (Nat.lt_of_le_of_lt (Nat.sub_le _ _) t.isLt)).2.2.2.2.2.2.2.1 := by
  rw [outsAt0_B m c t h0 h1]
  rfl

theorem td_B (c : Dev nD) (t : Fin cfg0.N) (h0 : ¬t.val % 16 = 0) (h1 : ¬t.val % 2 = 0) :
    (outsAt0 m c t.val t.isLt).2.2.2.2.2.2.2.2.1 = (outsAt0 m c (t.val - 1) (Nat.lt_of_le_of_lt (Nat.sub_le _ _) t.isLt)).2.2.2.2.2.2.2.2.1 := by
  rw [outsAt0_B m c t h0 h1]
  rfl

theorem tq_B (c : Dev nD) (t : Fin cfg0.N) (h0 : ¬t.val % 16 = 0) (h1 : ¬t.val % 2 = 0) :
    (outsAt0 m c t.val t.isLt).2.2.2.2.2.2.2.2.2.1 = (outsAt0 m c (t.val - 1) (Nat.lt_of_le_of_lt (Nat.sub_le _ _) t.isLt)).2.2.2.2.2.2.2.2.2.1 := by
  rw [outsAt0_B m c t h0 h1]
  rfl

theorem tk_B (c : Dev nD) (t : Fin cfg0.N) (h0 : ¬t.val % 16 = 0) (h1 : ¬t.val % 2 = 0) :
    (outsAt0 m c t.val t.isLt).2.2.2.2.2.2.2.2.2.2.1 = (outsAt0 m c (t.val - 1) (Nat.lt_of_le_of_lt (Nat.sub_le _ _) t.isLt)).2.2.2.2.2.2.2.2.2.2.1 := by
  rw [outsAt0_B m c t h0 h1]
  rfl

theorem q_C (c : Dev nD) (t : Fin cfg0.N) (h0 : ¬t.val % 16 = 0) (h1 : t.val % 2 = 0) :
    (outsAt0 m c t.val t.isLt).1 = OQ (iblk m c 1 t) (iblk m c 2 t) (outsAt0 m c (t.val - 1) (Nat.lt_of_le_of_lt (Nat.sub_le _ _) t.isLt)).2.2.2.2.2.2.2.1 := by
  rw [outsAt0_C m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem k_C (c : Dev nD) (t : Fin cfg0.N) (h0 : ¬t.val % 16 = 0) (h1 : t.val % 2 = 0) :
    (outsAt0 m c t.val t.isLt).2.1 = OK (iblk m c 1 t) (iblk m c 2 t) (outsAt0 m c (t.val - 1) (Nat.lt_of_le_of_lt (Nat.sub_le _ _) t.isLt)).2.2.2.2.2.2.2.1 := by
  rw [outsAt0_C m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem v_C (c : Dev nD) (t : Fin cfg0.N) (h0 : ¬t.val % 16 = 0) (h1 : t.val % 2 = 0) :
    (outsAt0 m c t.val t.isLt).2.2.1 = OV (iblk m c 1 t) (iblk m c 2 t) (outsAt0 m c (t.val - 1) (Nat.lt_of_le_of_lt (Nat.sub_le _ _) t.isLt)).2.2.2.2.2.2.2.1 := by
  rw [outsAt0_C m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem o_C (c : Dev nD) (t : Fin cfg0.N) (h0 : ¬t.val % 16 = 0) (h1 : t.val % 2 = 0) :
    (outsAt0 m c t.val t.isLt).2.2.2.1 = OOR (iblk m c 1 t) (iblk m c 2 t) (outsAt0 m c (t.val - 1) (Nat.lt_of_le_of_lt (Nat.sub_le _ _) t.isLt)).2.2.2.2.2.2.2.1 (iblk m c 4 t) (iblk m c 5 t) (LDD (outsAt0 m c (t.val - 1) (Nat.lt_of_le_of_lt (Nat.sub_le _ _) t.isLt)).2.2.2.2.2.2.2.2.1) (LDQ (outsAt0 m c (t.val - 1) (Nat.lt_of_le_of_lt (Nat.sub_le _ _) t.isLt)).2.2.2.2.2.2.2.2.2.1) (LDQ (outsAt0 m c (t.val - 1) (Nat.lt_of_le_of_lt (Nat.sub_le _ _) t.isLt)).2.2.2.2.2.2.2.2.2.2.1) (LDL (iblk m c 0 t)) (LDS ZS) := by
  rw [outsAt0_C m c t h0 h1]
  dsimp only
  frame_open
  try simp (disch := decide) only [↓ View.readCov_skip, ↓ View.readCov_cons_toLoadRect, ↓ View.readCov_fill]
  frame_out
  try simp only [read_unread_whole]
  simp only [p4, p5, p6, p7, p8, p10, p11, p12, p13, p17, p18, p19, p20, p21, p22, p23, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191, p192, p193, p194, p195, p196, p197, p198, p199, p200, p201, p202, p203, p204, p205, p206, p207, p208, p209, p210, p211, p212, p213, p214, p215, p216, p217, p218, p219, p220, p221, p222, p223, p224, p225, p226, p227, p228, p229, p230, p231, p232, p233, p234, p235, p236, p237, p238, p239, p240, p241, p242, p243, p244, p245, p246, p247, p248, p249, p250, p251, p252, p253, p254, p255, p256, p257, p258, p259, p260, p261, p262, p263, p264, p265, p266, p267, p268, p269]
  rfl

theorem g_C (c : Dev nD) (t : Fin cfg0.N) (h0 : ¬t.val % 16 = 0) (h1 : t.val % 2 = 0) :
    (outsAt0 m c t.val t.isLt).2.2.2.2.1 = fun i => iblk m c 6 t i := by
  rw [outsAt0_C m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem u_C (c : Dev nD) (t : Fin cfg0.N) (h0 : ¬t.val % 16 = 0) (h1 : t.val % 2 = 0) :
    (outsAt0 m c t.val t.isLt).2.2.2.2.2.1 = fun i => iblk m c 7 t i := by
  rw [outsAt0_C m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem d_C (c : Dev nD) (t : Fin cfg0.N) (h0 : ¬t.val % 16 = 0) (h1 : t.val % 2 = 0) :
    (outsAt0 m c t.val t.isLt).2.2.2.2.2.2.1 = fun i => iblk m c 8 t i := by
  rw [outsAt0_C m c t h0 h1]
  dsimp only
  frame_open
  try simp (disch := decide) only [↓ View.readCov_skip, ↓ View.readCov_cons_toLoadRect, ↓ View.readCov_fill]
  frame_out
  try simp only [read_unread_whole]
  unfold_payloads
  try simp only [shapeCast_self]
  rfl

theorem s_C (c : Dev nD) (t : Fin cfg0.N) (h0 : ¬t.val % 16 = 0) (h1 : t.val % 2 = 0) :
    ∃ L, (outsAt0 m c t.val t.isLt).2.2.2.2.2.2.2.2.2.2.2 = OST (iblk m c 1 t) (iblk m c 2 t) (outsAt0 m c (t.val - 1) (Nat.lt_of_le_of_lt (Nat.sub_le _ _) t.isLt)).2.2.2.2.2.2.2.1 (iblk m c 4 t) (iblk m c 5 t) (LDQ (outsAt0 m c (t.val - 1) (Nat.lt_of_le_of_lt (Nat.sub_le _ _) t.isLt)).2.2.2.2.2.2.2.2.2.2.1) (LDL (iblk m c 0 t)) (LDS ZS) L := by
  rw [outsAt0_C m c t h0 h1]
  dsimp only
  frame_open
  try simp (disch := decide) only [↓ View.readCov_skip, ↓ View.readCov_cons_toLoadRect, ↓ View.readCov_fill]
  frame_out
  try simp only [read_unread_whole]
  simp only [p4, p5, p6, p7, p8, p10, p11, p12, p13, p17, p18, p19, p20, p21, p22, p23, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191, p192, p193, p194, p195, p196, p197, p198, p199, p200, p201, p202, p203, p204, p205, p206, p207, p208, p209, p210, p211, p212, p213, p214, p215, p216, p217, p218, p219, p220, p221, p222, p223, p224, p225, p226, p227, p228, p229, p230, p231, p232, p233, p234, p235, p236, p237, p238, p239, p240, p241, p242, p243, p244, p245, p246, p247, p248, p249, p250, p251, p252, p253, p254, p255, p256, p257, p258, p259, p260, p261, p262, p263, p264, p265, p266, p267, p268, p269]
  exact ⟨_, rfl⟩

theorem w_C (c : Dev nD) (t : Fin cfg0.N) (h0 : ¬t.val % 16 = 0) (h1 : t.val % 2 = 0) :
    (outsAt0 m c t.val t.isLt).2.2.2.2.2.2.2.1 = (outsAt0 m c (t.val - 1) (Nat.lt_of_le_of_lt (Nat.sub_le _ _) t.isLt)).2.2.2.2.2.2.2.1 := by
  rw [outsAt0_C m c t h0 h1]
  rfl

theorem td_C (c : Dev nD) (t : Fin cfg0.N) (h0 : ¬t.val % 16 = 0) (h1 : t.val % 2 = 0) :
    (outsAt0 m c t.val t.isLt).2.2.2.2.2.2.2.2.1 = (outsAt0 m c (t.val - 1) (Nat.lt_of_le_of_lt (Nat.sub_le _ _) t.isLt)).2.2.2.2.2.2.2.2.1 := by
  rw [outsAt0_C m c t h0 h1]
  rfl

theorem tq_C (c : Dev nD) (t : Fin cfg0.N) (h0 : ¬t.val % 16 = 0) (h1 : t.val % 2 = 0) :
    (outsAt0 m c t.val t.isLt).2.2.2.2.2.2.2.2.2.1 = (outsAt0 m c (t.val - 1) (Nat.lt_of_le_of_lt (Nat.sub_le _ _) t.isLt)).2.2.2.2.2.2.2.2.2.1 := by
  rw [outsAt0_C m c t h0 h1]
  rfl

theorem tk_C (c : Dev nD) (t : Fin cfg0.N) (h0 : ¬t.val % 16 = 0) (h1 : t.val % 2 = 0) :
    (outsAt0 m c t.val t.isLt).2.2.2.2.2.2.2.2.2.2.1 = (outsAt0 m c (t.val - 1) (Nat.lt_of_le_of_lt (Nat.sub_le _ _) t.isLt)).2.2.2.2.2.2.2.2.2.2.1 := by
  rw [outsAt0_C m c t h0 h1]
  rfl

end Cert.MixIdeal.Blk
-- ==== Proof.MixRow.lean ====
/-
  The mixer's input row by row: the projected rows, the rotary phases, the retention in its quadratic and in its
  recurrent form, the group norm and the gate; and when the numbers of each are finite.
-/
module

public import proofs.«01_k».proof.Proof.Rows

@[expose] public section

noncomputable section

namespace Layer

open Idealize.ShloMosaic Idealize.ShloMosaic.ValueIdx
open scoped BigOperators

/-- A number that is neither infinity. -/
def Fin' (x : EReal) : Prop := ∃ r : ℝ, x = (r : EReal)

theorem Fin'.coe (r : ℝ) : Fin' (r : EReal) := ⟨r, rfl⟩
theorem Fin'.mul {x y : EReal} : Fin' x → Fin' y → Fin' (x * y) := by
  rintro ⟨a, rfl⟩ ⟨b, rfl⟩; exact ⟨a * b, (EReal.coe_mul a b).symm⟩
theorem Fin'.add {x y : EReal} : Fin' x → Fin' y → Fin' (x + y) := by
  rintro ⟨a, rfl⟩ ⟨b, rfl⟩; exact ⟨a + b, (EReal.coe_add a b).symm⟩
theorem Fin'.sub {x y : EReal} : Fin' x → Fin' y → Fin' (x - y) := by
  rintro ⟨a, rfl⟩ ⟨b, rfl⟩; exact ⟨a - b, (EReal.coe_sub a b).symm⟩
theorem Fin'.zero : Fin' 0 := ⟨0, rfl⟩
theorem Fin'.eq {x : EReal} : Fin' x → ((x.toReal : ℝ) : EReal) = x := by
  rintro ⟨a, rfl⟩; rfl

/-- The sum of real numbers, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type*} (s : Finset ι) (f : ι → EReal) (h : ∀ i ∈ s, Fin' (f i)) : Fin' (∑ i ∈ s, f i) := by
  refine ⟨∑ i ∈ s, (f i).toReal, ?_⟩
  rw [coe_sum]
  exact Finset.sum_congr rfl fun i hi => (h i hi).eq.symm

/-- The constants of the mixer. -/
abbrev one : EReal := Ideal.ofBits .f32 0x3F800000#32
abbrev two : EReal := Ideal.ofBits .f32 0x40000000#32
abbrev mfive : EReal := Ideal.ofBits .f32 0xC0A00000#32
abbrev c64 : EReal := Ideal.ofBits .f32 0x42800000#32
abbrev c1e4 : EReal := Ideal.ofBits .f32 0x461C4000#32
abbrev c128 : EReal := Ideal.ofBits .f32 0x43000000#32
abbrev gnEps : EReal := Ideal.ofBits .f32 0x3727C5AC#32
abbrev keyScale : EReal := Ideal.ofBits .f32 0x3DB504F3#32
abbrev qScale : EReal := Ideal.ofBits .f32 0x3E38AA3B#32

theorem one_eq : one = ((1 : ℝ) : EReal) := by rw [one, Ideal.ofBits_one_f32]; rfl
theorem two_eq : two = ((2 : ℝ) : EReal) := by
  simp [two, Ideal.ofBits, Ideal.ieee, -EReal.coe_mul]; norm_num
theorem mfive_eq : mfive = ((-5 : ℝ) : EReal) := by
  simp [mfive, Ideal.ofBits, Ideal.ieee, -EReal.coe_mul, -EReal.coe_neg]; norm_num
theorem c64_eq : c64 = ((64 : ℝ) : EReal) := by
  simp [c64, Ideal.ofBits, Ideal.ieee, -EReal.coe_mul]; norm_num
theorem c1e4_eq : c1e4 = ((10000 : ℝ) : EReal) := by
  simp [c1e4, Ideal.ofBits, Ideal.ieee, -EReal.coe_mul]; norm_num
theorem c255_eq : Ideal.ofBits .f32 0x437F0000#32 = ((255 : ℝ) : EReal) := by
  simp [Ideal.ofBits, Ideal.ieee, -EReal.coe_mul]; norm_num
theorem c256_eq : Ideal.ofBits .f32 0x43800000#32 = ((256 : ℝ) : EReal) := by
  simp [Ideal.ofBits, Ideal.ieee, -EReal.coe_mul]; norm_num
theorem w1024_eq : w1024 = ((1024 : ℝ) : EReal) := by
  simp [w1024, Ideal.ofBits, Ideal.ieee, -EReal.coe_mul]; norm_num
theorem eps_pos : ∃ r : ℝ, 0 < r ∧ eps = (r : EReal) := by
  refine ⟨8796093 * 2 ^ (-43 : ℤ), by positivity, ?_⟩
  simp [eps, Ideal.ofBits, Ideal.ieee, -EReal.coe_mul]
theorem keyScale_fin : Fin' keyScale := by
  refine ⟨11863283 * 2 ^ (-27 : ℤ), ?_⟩
  simp [keyScale, Ideal.ofBits, Ideal.ieee, -EReal.coe_mul]

/-- A square is not negative. -/
theorem sq_nonneg' (x : EReal) : 0 ≤ x * x := by
  induction x with
  | bot => simp
  | top => simp
  | coe r => rw [← EReal.coe_mul]; exact_mod_cast mul_self_nonneg r

/-- The norm of a row has finite numbers when the gain has: a row with an infinite entry has the factor zero. -/
theorem rmsRow_fin (x g : Fin 1024 → EReal) (hg : ∀ k, Fin' (g k)) (n : Fin 1024) : Fin' (rmsRow w1024 x g n) := by
  unfold rmsRow
  refine Fin'.mul ?_ (hg n)
  obtain ⟨r, hr, he⟩ := eps_pos
  by_cases hx : ∀ k, Fin' (x k)
  · refine Fin'.mul (hx n) ?_
    have hs : ∑ k, x k * x k = ((∑ k, (x k).toReal * (x k).toReal : ℝ) : EReal) := by
      rw [coe_sum]
      exact Finset.sum_congr rfl fun k _ => by rw [EReal.coe_mul, (hx k).eq]
    have h0 : 0 ≤ ∑ k, (x k).toReal * (x k).toReal := Finset.sum_nonneg fun k _ => mul_self_nonneg _
    have h1 : 0 < (∑ k, (x k).toReal * (x k).toReal) * (1 / 1024) + r := by positivity
    unfold inv
    rw [hs, w1024_eq, he, Ideal.div_coe (by norm_num), ← EReal.coe_mul, ← EReal.coe_add, Ideal.rsqrt_coe, if_neg (not_lt.mpr h1.le), if_neg h1.ne']
    exact Fin'.coe _
  · have ht : ∑ k, x k * x k = ⊤ := by
      push Not at hx
      obtain ⟨k, hk⟩ := hx
      have hkk : x k * x k = ⊤ := by
        revert hk
        induction x k with
        | bot => exact fun _ => EReal.bot_mul_bot
        | top => exact fun _ => EReal.top_mul_top
        | coe r => exact fun h => absurd (Fin'.coe r) h
      have := Finset.single_le_sum (f := fun k => x k * x k) (fun k _ => sq_nonneg' (x k)) (Finset.mem_univ k)
      rw [hkk] at this
      exact top_le_iff.mp this
    have hi : inv w1024 x = 0 := by
      unfold inv
      rw [ht, w1024_eq, he, Ideal.div_coe (by norm_num), EReal.top_mul_coe_of_pos (by norm_num), EReal.top_add_coe]
      rfl
    rw [hi, mul_zero]
    exact Fin'.zero

/-- The logarithm of a head's decay. -/
def LG (h : Fin 4) : EReal := Ideal.log (one - Ideal.pow two (mfive - ((h.val : ℝ) : EReal)))

theorem LG_fin (h : Fin 4) : Fin' (LG h) := by
  unfold LG
  rw [two_eq, mfive_eq, one_eq, ← EReal.coe_sub, Ideal.pow_coe_coe, ← EReal.coe_sub, Ideal.log_coe, if_neg]
  · exact Fin'.coe _
  · rw [not_le, sub_pos]
    exact Real.rpow_lt_one_of_one_lt_of_neg (by norm_num) (by have : (0 : ℝ) ≤ h.val := Nat.cast_nonneg _; linarith)

/-- The phase of a position at a frequency, its cosine and its sine. -/
def ANG (s : Fin 2048) (d : Fin 64) : EReal := ((s.val : ℝ) : EReal) * Ideal.pow c1e4 (Ideal.div (-((d.val : ℝ) : EReal)) c64)
def COS (s : Fin 2048) (d : Fin 64) : EReal := Ideal.cos (ANG s d)
def SIN (s : Fin 2048) (d : Fin 64) : EReal := Ideal.sin (ANG s d)

theorem ANG_fin (s : Fin 2048) (d : Fin 64) : Fin' (ANG s d) := by
  unfold ANG
  rw [c1e4_eq, c64_eq, Ideal.div_coe (by norm_num), ← EReal.coe_neg, ← EReal.coe_mul, Ideal.pow_coe_coe]
  exact (Fin'.coe _).mul (Fin'.coe _)
theorem COS_fin (s : Fin 2048) (d : Fin 64) : Fin' (COS s d) := by
  obtain ⟨r, hr⟩ := ANG_fin s d
  unfold COS; rw [hr, Ideal.cos_coe]; exact Fin'.coe _
theorem SIN_fin (s : Fin 2048) (d : Fin 64) : Fin' (SIN s d) := by
  obtain ⟨r, hr⟩ := ANG_fin s d
  unfold SIN; rw [hr, Ideal.sin_coe]; exact Fin'.coe _

/-- The rotary phases on the two halves of a head. -/
def rotE (u : Fin 128 → EReal) (s : Fin 2048) (d : Fin 128) : EReal :=
  if h : d.val < 64 then u d * COS s ⟨d.val, h⟩ - u ⟨d.val + 64, by omega⟩ * SIN s ⟨d.val, h⟩
  else u ⟨d.val - 64, by omega⟩ * SIN s ⟨d.val - 64, by omega⟩ + u d * COS s ⟨d.val - 64, by omega⟩

theorem rotE_fin (u : Fin 128 → EReal) (hu : ∀ d, Fin' (u d)) (s : Fin 2048) (d : Fin 128) : Fin' (rotE u s d) := by
  unfold rotE
  split
  · exact ((hu _).mul (COS_fin _ _)).sub ((hu _).mul (SIN_fin _ _))
  · exact ((hu _).mul (SIN_fin _ _)).add ((hu _).mul (COS_fin _ _))

/-- The phases laid out on the 128 columns of a head, the sine negated on the first half. -/
def cosT (s : Fin 2048) (d : Fin 128) : EReal := COS s ⟨d.val % 64, Nat.mod_lt _ (by norm_num)⟩
def sinT (s : Fin 2048) (d : Fin 128) : EReal :=
  if h : d.val < 64 then -SIN s ⟨d.val, h⟩ else SIN s ⟨d.val - 64, by omega⟩

/-- A column turned by half a head. -/
def turn (d : Fin 128) : Fin 128 := ⟨(d.val + 64) % 128, Nat.mod_lt _ (by norm_num)⟩

/-- The turned form of the rotary phases is the form on the two halves. -/
theorem rot_eq (u : Fin 128 → EReal) (s : Fin 2048) (d : Fin 128) : u d * cosT s d + u (turn d) * sinT s d = rotE u s d := by
  unfold rotE cosT sinT
  have hd := d.isLt
  split
  · rename_i h
    rw [show turn d = ⟨d.val + 64, by omega⟩ from Fin.ext (Nat.mod_eq_of_lt (by omega)), mul_neg, ← sub_eq_add_neg,
      show (⟨d.val % 64, Nat.mod_lt _ (by norm_num)⟩ : Fin 64) = ⟨d.val, h⟩ from Fin.ext (Nat.mod_eq_of_lt h)]
  · rename_i h
    rw [show turn d = ⟨d.val - 64, by omega⟩ from Fin.ext (by show (d.val + 64) % 128 = d.val - 64; omega), add_comm,
      show (⟨d.val % 64, Nat.mod_lt _ (by norm_num)⟩ : Fin 64) = ⟨d.val - 64, by omega⟩ from Fin.ext (by show d.val % 64 = d.val - 64; omega)]

/-- The weight of position `s` for position `t`: the decay's power of their distance, zero for a later one. -/
def decR (l : ℝ) (t s : ℕ) : ℝ := if s ≤ t then Real.exp (((t : ℝ) - s) * l) else 0

/-- The state before position `P`: the outer products of the keys and values before it, each decayed to the last of them. -/
def stR (l : ℝ) (k v : ℕ → Fin 128 → ℝ) (P : ℕ) (d e : Fin 128) : ℝ :=
  ∑ s ∈ Finset.range P, Real.exp (((P : ℝ) - 1 - s) * l) * k s d * v s e

theorem st_zero (l : ℝ) (k v : ℕ → Fin 128 → ℝ) (d e : Fin 128) : stR l k v 0 d e = 0 := Finset.sum_range_zero _

/-- The state after 256 more positions. -/
theorem st_step (l : ℝ) (k v : ℕ → Fin 128 → ℝ) (P : ℕ) (d e : Fin 128) :
    Real.exp (256 * l) * stR l k v P d e + ∑ j : Fin 256, k (P + j.val) d * Real.exp ((255 - (j.val : ℝ)) * l) * v (P + j.val) e
      = stR l k v (P + 256) d e := by
  unfold stR
  rw [Finset.sum_range_add, Finset.mul_sum, ← Fin.sum_univ_eq_sum_range (fun j => Real.exp ((((P + 256 : ℕ) : ℝ) - 1 - ((P + j : ℕ) : ℝ)) * l) * k (P + j) d * v (P + j) e)]
  refine congrArg₂ (· + ·) (Finset.sum_congr rfl fun s _ => ?_) (Finset.sum_congr rfl fun j _ => ?_)
  · rw [← mul_assoc, ← mul_assoc, ← Real.exp_add]
    congr 3
    push_cast; ring
  · rw [mul_comm (k _ _)]
    congr 3
    push_cast; ring

/-- The retention of a position in a run of 256: the part of the run's own positions and the part of the state
    together are the weighted sum over all positions. -/
theorem ret_core (l : ℝ) (q : Fin 128 → ℝ) (k v : ℕ → Fin 128 → ℝ) (P : ℕ) (i : Fin 256) (hP : P + 256 ≤ 2048) (e : Fin 128) :
    (∑ j : Fin 256, (∑ d, q d * k (P + j.val) d) * decR l i.val j.val * v (P + j.val) e)
        + ∑ d, q d * Real.exp (((i.val : ℝ) + 1) * l) * stR l k v P d e
      = ∑ s : Fin 2048, v s.val e * ((∑ d, q d * k s.val d) * decR l (P + i.val) s.val) := by
  obtain ⟨R, hR⟩ := Nat.exists_eq_add_of_le hP
  have hi := i.isLt
  rw [Fin.sum_univ_eq_sum_range (fun s => v s e * ((∑ d, q d * k s d) * decR l (P + i.val) s)) 2048, hR, Finset.sum_range_add, Finset.sum_range_add]
  rw [Finset.sum_eq_zero (s := Finset.range R) (fun r _ => by
    unfold decR; rw [if_neg (by omega), mul_zero, mul_zero]), add_zero, add_comm]
  refine congrArg₂ (· + ·) ?_ ?_
  · unfold stR
    simp only [Finset.mul_sum]
    rw [Finset.sum_comm]
    refine Finset.sum_congr rfl fun s hs => ?_
    have hs := Finset.mem_range.mp hs
    rw [Finset.sum_mul, Finset.mul_sum]
    refine Finset.sum_congr rfl fun d _ => ?_
    unfold decR
    rw [if_pos (by omega), show (((P + i.val : ℕ) : ℝ) - (s : ℝ)) * l = ((i.val : ℝ) + 1) * l + ((P : ℝ) - 1 - s) * l by push_cast; ring, Real.exp_add]
    ring
  · rw [Fin.sum_univ_eq_sum_range (fun j => (∑ d, q d * k (P + j) d) * decR l i.val j * v (P + j) e) 256]
    refine Finset.sum_congr rfl fun j _ => ?_
    have : decR l (P + i.val) (P + j) = decR l i.val j := by
      unfold decR
      by_cases h : j ≤ i.val
      · rw [if_pos h, if_pos (by omega)]; congr 2; push_cast; ring
      · rw [if_neg h, if_neg (by omega)]
    rw [this]
    ring

/-- The mean of a head's row, and its group norm times the gate. -/
def meanE (u : Fin 128 → EReal) : EReal := Ideal.div (∑ d, u d) c128
def gnE (o g : Fin 128 → EReal) (d : Fin 128) : EReal :=
  (o d - meanE o) * Ideal.rsqrt (meanE (fun e => (o e - meanE o) * (o e - meanE o)) + gnEps) * (g d * Ideal.logistic (g d))

/-- A matrix without its leading axis of length one. -/
def plain2 {a b : ℕ} (u : (⟨3, ![1, a, b]⟩ : Shape).Idx → EReal) : (⟨2, ![a, b]⟩ : Shape).Idx → EReal := fun i => u (ix3 0 (i 0) (i 1))

section Arr
variable (x : (⟨3, ![8, 2048, 1024]⟩ : Shape).Idx → EReal) (g : (⟨2, ![1, 1024]⟩ : Shape).Idx → EReal) (w : (⟨3, ![1, 1024, 5632]⟩ : Shape).Idx → EReal)

/-- The projection of the norm of a row. -/
def proj (b : Fin 8) (s : Fin 2048) (j : Fin 5632) : EReal :=
  ∑ k : Fin 1024, rmsRow w1024 (fun k => x (ix3 b s k)) (fun k => g (ix2 0 k)) k * w (ix3 0 k j)

/-- The queries, keys, values and gates of the heads. -/
def qE (b : Fin 8) (s : Fin 2048) (h : Fin 4) (d : Fin 128) : EReal := rotE (fun d => proj x g w b s ⟨1536 + (128 * h.val + d.val), by omega⟩) s d
def kE (b : Fin 8) (s : Fin 2048) (h : Fin 4) (d : Fin 128) : EReal := rotE (fun d => proj x g w b s ⟨2048 + (128 * h.val + d.val), by omega⟩) s d * keyScale
def vE (b : Fin 8) (s : Fin 2048) (h : Fin 4) (d : Fin 128) : EReal := proj x g w b s ⟨2560 + (128 * h.val + d.val), by omega⟩
def gE (b : Fin 8) (s : Fin 2048) (h : Fin 4) (d : Fin 128) : EReal := proj x g w b s ⟨3072 + (128 * h.val + d.val), by omega⟩

/-- The weight of a position for another, in the extended reals. -/
def decE (h : Fin 4) (t s : ℕ) : EReal := (decR (LG h).toReal t s : EReal)

/-- The retention of a position: the sum over all positions, plain and quadratic. -/
def retE (b : Fin 8) (t : Fin 2048) (h : Fin 4) (e : Fin 128) : EReal :=
  ∑ s : Fin 2048, vE x g w b s h e * ((∑ d, qE x g w b t h d * kE x g w b s h d) * decE h t.val s.val)

/-- The retention's result: the gated group norm of the retention of every position, laid out as 16384 rows. -/
def orArr : (⟨2, ![16384, 512]⟩ : Shape).Idx → EReal := fun i =>
  have h : (i 0).val < 16384 := (i 0).isLt
  have h' : (i 1).val < 512 := (i 1).isLt
  gnE (retE x g w ⟨(i 0).val / 2048, by omega⟩ ⟨(i 0).val % 2048, by omega⟩ ⟨(i 1).val / 128, by omega⟩)
    (gE x g w ⟨(i 0).val / 2048, by omega⟩ ⟨(i 0).val % 2048, by omega⟩ ⟨(i 1).val / 128, by omega⟩) ⟨(i 1).val % 128, by omega⟩

/-- The attention's queries, scaled, and any 512 columns of the projection, laid out as 16384 rows. -/
def colArr (c : ℕ) (hc : c + 512 ≤ 5632) : (⟨2, ![16384, 512]⟩ : Shape).Idx → EReal := fun i =>
  have h : (i 0).val < 16384 := (i 0).isLt
  have h' : (i 1).val < 512 := (i 1).isLt
  proj x g w ⟨(i 0).val / 2048, by omega⟩ ⟨(i 0).val % 2048, by omega⟩ ⟨c + (i 1).val, by omega⟩
def qArr : (⟨2, ![16384, 512]⟩ : Shape).Idx → EReal := fun i => colArr x g w 0 (by norm_num) i * qScale

variable (hg : ∀ k, Fin' (g k)) (hw : ∀ k, Fin' (w k))
include hg hw

theorem proj_fin (b : Fin 8) (s : Fin 2048) (j : Fin 5632) : Fin' (proj x g w b s j) :=
  Fin'.sum _ _ fun k _ => (rmsRow_fin _ _ (fun k => hg _) k).mul (hw _)
theorem qE_fin (b : Fin 8) (s : Fin 2048) (h : Fin 4) (d : Fin 128) : Fin' (qE x g w b s h d) := rotE_fin _ (fun _ => proj_fin x g w hg hw _ _ _) _ _
theorem kE_fin (b : Fin 8) (s : Fin 2048) (h : Fin 4) (d : Fin 128) : Fin' (kE x g w b s h d) :=
  (rotE_fin _ (fun _ => proj_fin x g w hg hw _ _ _) _ _).mul keyScale_fin
theorem vE_fin (b : Fin 8) (s : Fin 2048) (h : Fin 4) (d : Fin 128) : Fin' (vE x g w b s h d) := proj_fin x g w hg hw _ _ _

end Arr

/-- A key or value of a sequence at any number, as a real. -/
def toR (u : Fin 2048 → Fin 128 → EReal) (n : ℕ) (d : Fin 128) : ℝ := if h : n < 2048 then (u ⟨n, h⟩ d).toReal else 0

theorem toR_eq (u : Fin 2048 → Fin 128 → EReal) (hu : ∀ s d, Fin' (u s d)) (s : Fin 2048) (d : Fin 128) : ((toR u s.val d : ℝ) : EReal) = u s d := by
  unfold toR; rw [dif_pos s.isLt]; exact (hu s d).eq

/-- The state of a head before position `P` of a sequence, in the extended reals. -/
def stE (l : ℝ) (k v : Fin 2048 → Fin 128 → EReal) (P : ℕ) (d e : Fin 128) : EReal := (stR l (toR k) (toR v) P d e : EReal)

theorem st_stepE (l : ℝ) (k v : Fin 2048 → Fin 128 → EReal) (hk : ∀ s d, Fin' (k s d)) (hv : ∀ s d, Fin' (v s d)) (P : ℕ) (hP : P + 256 ≤ 2048) (d e : Fin 128) :
    Ideal.exp (Ideal.ofBits .f32 0x43800000#32 * (l : EReal)) * stE l k v P d e
        + ∑ j : Fin 256, k ⟨P + j.val, by omega⟩ d * (Real.exp ((255 - (j.val : ℝ)) * l) : EReal) * v ⟨P + j.val, by omega⟩ e
      = stE l k v (P + 256) d e := by
  unfold stE
  rw [← st_step, c256_eq, ← EReal.coe_mul, Ideal.exp_coe, EReal.coe_add, EReal.coe_mul, coe_sum]
  refine congrArg (_ + ·) (Finset.sum_congr rfl fun j _ => ?_)
  rw [EReal.coe_mul, EReal.coe_mul, toR_eq k hk ⟨P + j.val, by omega⟩, toR_eq v hv ⟨P + j.val, by omega⟩]

theorem ret_coreE (l : ℝ) (q : Fin 128 → EReal) (k v : Fin 2048 → Fin 128 → EReal) (hq : ∀ d, Fin' (q d)) (hk : ∀ s d, Fin' (k s d)) (hv : ∀ s d, Fin' (v s d))
    (P : ℕ) (i : Fin 256) (hP : P + 256 ≤ 2048) (e : Fin 128) :
    (∑ j : Fin 256, (∑ d, q d * k ⟨P + j.val, by omega⟩ d) * (decR l i.val j.val : EReal) * v ⟨P + j.val, by omega⟩ e)
        + ∑ d, q d * (Real.exp (((i.val : ℝ) + 1) * l) : EReal) * stE l k v P d e
      = ∑ s : Fin 2048, v s e * ((∑ d, q d * k s d) * (decR l (P + i.val) s.val : EReal)) := by
  have h := congrArg (fun r : ℝ => (r : EReal)) (ret_core l (fun d => (q d).toReal) (toR k) (toR v) P i hP e)
  simp only [EReal.coe_add, coe_sum, EReal.coe_mul, toR_eq k hk, toR_eq v hv, (hq _).eq] at h
  rw [← h]
  refine congrArg₂ (· + ·) (Finset.sum_congr rfl fun j _ => ?_) rfl
  rw [toR_eq v hv ⟨P + j.val, by omega⟩]
  refine congrArg (· * _ * _) (Finset.sum_congr rfl fun d _ => ?_)
  rw [toR_eq k hk ⟨P + j.val, by omega⟩]

end Layer

end
-- ==== Proof.MixIdx.lean ====
/-
  The operations of the mixer's input kernel at an index: what each piece of a block's vocabulary reads as a sum or a row
  function of its arguments' entries.
-/
module

public import proofs.«01_k».proof.Proof.MixVoc
public import proofs.«01_k».proof.Proof.MixRow
public import Idealize.ShloMosaic.Lib.KernelVsHost

@[expose] public section

set_option maxRecDepth 16384

noncomputable section

namespace Cert.MixIdeal.Blk

open Idealize.ShloMosaic hiding ix1 ix2 ix3 ix4
open Cert.MixIdeal Cert.MixIdeal.Gen Idealize.ShloMosaic.TcCoe Idealize.ShloMosaic.ValueIdx Layer Idealize.SL.Sem
open scoped BigOperators

/-- The norm at an index. -/
theorem HN_apply (x : FVec Ideal S256x1024 .f32) (g : FVec Ideal S1x1024 .f32) (p : Fin 256) (k : Fin 1024) :
    HN x g (ix2 p k) = rmsRow w1024 (fun k => x (ix2 p k)) (fun k => g (ix2 0 k)) k :=
  rms_apply w1024 x g _ _ _ _ (by decide) (by decide) p k

/-- A product at an index. -/
theorem MM_apply (h : FVec Ideal S256x1024 .bf16) (w : FVec Ideal S1024x512 .bf16) (p : Fin 256) (n : Fin 512) :
    MM h w (ix2 p n) = ∑ k : Fin 1024, h (ix2 p k) * w (ix2 k n) := mm_apply h w p n

/-- A head's column. -/
abbrev hcol (h : Fin 4) (d : Fin 128) : Fin 512 := ⟨128 * h.val + d.val, by omega⟩

/-- The columns of a head at an index. -/
theorem HD_apply {φ : FTy} (v : FVec Ideal S256x512 φ) (h : Fin 4) (p : Fin 256) (d : Fin 128) : HD v h (ix2 p d) = v (ix2 p (hcol h d)) := by
  match h with
  | 0 =>
    exact extractStridedSlice_apply ![0, 0] v slices_S256x512_o0_0_S256x128 (ix2 p d) (ix2 p (hcol 0 d)) (fun a => by
      match a with
      | ⟨0, _⟩ => show p.val = 0 + p.val; omega
      | ⟨1, _⟩ => show 128 * 0 + d.val = 0 + d.val; omega)
  | 1 =>
    exact extractStridedSlice_apply ![0, 128] v slices_S256x512_o0_128_S256x128 (ix2 p d) (ix2 p (hcol 1 d)) (fun a => by
      match a with
      | ⟨0, _⟩ => show p.val = 0 + p.val; omega
      | ⟨1, _⟩ => show 128 * 1 + d.val = 128 + d.val; omega)
  | 2 =>
    exact extractStridedSlice_apply ![0, 256] v slices_S256x512_o0_256_S256x128 (ix2 p d) (ix2 p (hcol 2 d)) (fun a => by
      match a with
      | ⟨0, _⟩ => show p.val = 0 + p.val; omega
      | ⟨1, _⟩ => show 128 * 2 + d.val = 256 + d.val; omega)
  | 3 =>
    exact extractStridedSlice_apply ![0, 384] v slices_S256x512_o0_384_S256x128 (ix2 p d) (ix2 p (hcol 3 d)) (fun a => by
      match a with
      | ⟨0, _⟩ => show p.val = 0 + p.val; omega
      | ⟨1, _⟩ => show 128 * 3 + d.val = 384 + d.val; omega)

/-- Four heads side by side at an index. -/
theorem CAT_apply {φ : FTy} (f : Fin 4 → FVec Ideal S256x128 φ) (h : Fin 4) (p : Fin 256) (d : Fin 128) : CAT f (ix2 p (hcol h d)) = f h (ix2 p d) := by
  have hb : ∀ (j : Fin 512) (b : Fin 2), b ≠ 1 → ((ix2 p d : S256x128.Idx) b).val = ((ix2 p j : S256x512.Idx) b).val := fun j b hb => by
    match b with
    | ⟨0, _⟩ => rfl
    | ⟨1, _⟩ => exact absurd rfl hb
  match h with
  | 0 =>
    exact concatenate_apply_piece (t := S256x512) (1 : Fin 2) [⟨S256x128, f 0⟩, ⟨S256x128, f 1⟩, ⟨S256x128, f 2⟩, ⟨S256x128, f 3⟩] concatenates_S256x128_S256x128_S256x128_S256x128_S256x512_d1 (ix2 p (hcol 0 d)) 0 (by simp only [List.length_cons, List.length_nil]; omega) S256x128 (f 0) rfl rfl 0 rfl (ix2 p d) (fun b => hb _ b)
      (by show 0 + d.val = 128 * 0 + d.val; omega)
  | 1 =>
    exact concatenate_apply_piece (t := S256x512) (1 : Fin 2) [⟨S256x128, f 0⟩, ⟨S256x128, f 1⟩, ⟨S256x128, f 2⟩, ⟨S256x128, f 3⟩] concatenates_S256x128_S256x128_S256x128_S256x128_S256x512_d1 (ix2 p (hcol 1 d)) 1 (by simp only [List.length_cons, List.length_nil]; omega) S256x128 (f 1) rfl rfl 128 rfl (ix2 p d) (fun b => hb _ b)
      (by show 128 + d.val = 128 * 1 + d.val; omega)
  | 2 =>
    exact concatenate_apply_piece (t := S256x512) (1 : Fin 2) [⟨S256x128, f 0⟩, ⟨S256x128, f 1⟩, ⟨S256x128, f 2⟩, ⟨S256x128, f 3⟩] concatenates_S256x128_S256x128_S256x128_S256x128_S256x512_d1 (ix2 p (hcol 2 d)) 2 (by simp only [List.length_cons, List.length_nil]; omega) S256x128 (f 2) rfl rfl 256 rfl (ix2 p d) (fun b => hb _ b)
      (by show 256 + d.val = 128 * 2 + d.val; omega)
  | 3 =>
    exact concatenate_apply_piece (t := S256x512) (1 : Fin 2) [⟨S256x128, f 0⟩, ⟨S256x128, f 1⟩, ⟨S256x128, f 2⟩, ⟨S256x128, f 3⟩] concatenates_S256x128_S256x128_S256x128_S256x128_S256x512_d1 (ix2 p (hcol 3 d)) 3 (by simp only [List.length_cons, List.length_nil]; omega) S256x128 (f 3) rfl rfl 384 rfl (ix2 p d) (fun b => hb _ b)
      (by show 384 + d.val = 128 * 3 + d.val; omega)

/-- The rotary phases at an index. -/
theorem RH_apply (t cs sn : FVec Ideal S256x128 .f32) (p : Fin 256) (d : Fin 128) :
    RH t cs sn (ix2 p d) = t (ix2 p d) * cs (ix2 p d) + t (ix2 p (turn d)) * sn (ix2 p d) := by
  show t (ix2 p d) * cs (ix2 p d) + dynamicRotate 1 64#32 none t rotates_S256x128_d1 (ix2 p d) * sn (ix2 p d) = _
  rw [dynamicRotate_apply (1 : Fin 2) 64#32 t rotates_S256x128_d1 (ix2 p d) (ix2 p (turn d)) (fun b => by
    match b with
    | ⟨0, _⟩ => rfl
    | ⟨1, _⟩ =>
      show (d.val + 64) % 128 = (d.val + 128 - (64#32).toNat % 128) % 128
      have : (64#32).toNat = 64 := rfl
      rw [this]; omega)]

/-- The group's own part at an index. -/
theorem INN_apply (q k v : FVec Ideal S256x128 .bf16) (D : FVec Ideal S1x256x256 .f32) (p : Fin 256) (e : Fin 128) :
    INN q k v D (ix2 p e) = ∑ j : Fin 256, (∑ d : Fin 128, q (ix2 p d) * k (ix2 j d)) * D (ix3 0 p j) * v (ix2 j e) := by
  refine (mm_apply (M := 256) (K := 256) (N := 128) _ v p e).trans (Finset.sum_congr rfl fun j _ => congrArg (· * v (ix2 j e)) ?_)
  show matmul (DotDims.transposedRhs 256 128 256) none q k (constant S256x256 .f32 0x00000000#32) (ix2 p j) * shapeCast S256x256 D shapeCasts_S1x256x256_S256x256 (ix2 p j) = _
  refine congrArg₂ (· * ·) ?_ ?_
  · show FloatOps.matmul (DotDims.transposedRhs 256 128 256) none q k _ (ix2 p j) = _
    rw [Ideal.matmul_transposedRhs_apply]
    show Ideal.ofBits .f32 0x00000000#32 + _ = _
    rw [Ideal.ofBits_zero_f32, zero_add]
  · exact shapeCast_apply D _ (ix2 p j) (ix3 0 p j) (by
      rw [Shape.rowMajor_val_three, Shape.rowMajor_val_two]
      show (0 * 256 + p.val) * 256 + j.val = p.val * 256 + j.val; omega)

/-- The state's part at an index. -/
theorem CRS_apply (q : FVec Ideal S256x128 .bf16) (Q : FVec Ideal S1x256x128 .f32) (s : FVec Ideal S1x128x128 .f32) (p : Fin 256) (e : Fin 128) :
    CRS q Q s (ix2 p e) = ∑ d : Fin 128, q (ix2 p d) * Q (ix3 0 p d) * s (ix3 0 d e) := by
  refine (mm_apply (M := 256) (K := 128) (N := 128) _ _ p e).trans (Finset.sum_congr rfl fun d _ => ?_)
  show q (ix2 p d) * shapeCast S256x128 Q shapeCasts_S1x256x128_S256x128 (ix2 p d) * shapeCast S128x128 s shapeCasts_S1x128x128_S128x128 (ix2 d e) = _
  rw [shapeCast_apply Q _ (ix2 p d) (ix3 0 p d) (by
      rw [Shape.rowMajor_val_three, Shape.rowMajor_val_two]
      show (0 * 256 + p.val) * 128 + d.val = p.val * 128 + d.val; omega),
    shapeCast_apply s _ (ix2 d e) (ix3 0 d e) (by
      rw [Shape.rowMajor_val_three, Shape.rowMajor_val_two]
      show (0 * 128 + d.val) * 128 + e.val = d.val * 128 + e.val; omega)]

/-- What a group adds to the state, at an index. -/
theorem KV_apply (k v : FVec Ideal S256x128 .bf16) (K : FVec Ideal S1x256x128 .f32) (d e : Fin 128) :
    KV k v K (ix2 d e) = ∑ j : Fin 256, k (ix2 j d) * K (ix3 0 j d) * v (ix2 j e) := by
  refine (mm_apply (M := 128) (K := 256) (N := 128) _ v d e).trans (Finset.sum_congr rfl fun j _ => congrArg (· * v (ix2 j e)) ?_)
  show transpose S128x256 [1, 0] (mulf (extf .f32 k bitsLt_bf16_f32) (shapeCast S256x128 K shapeCasts_S1x256x128_S256x128)) transposes_S256x128_p1_0_S128x256 (ix2 d j) = _
  rw [transpose_apply _ _ _ (ix2 d j) (ix2 j d) (fun b => by
    match b with
    | ⟨0, _⟩ => rfl
    | ⟨1, _⟩ => rfl)]
  show k (ix2 j d) * shapeCast S256x128 K shapeCasts_S1x256x128_S256x128 (ix2 j d) = _
  rw [shapeCast_apply K _ (ix2 j d) (ix3 0 j d) (by
      rw [Shape.rowMajor_val_three, Shape.rowMajor_val_two]
      show (0 * 256 + j.val) * 128 + d.val = j.val * 128 + d.val; omega)]

/-- The state after a group, at an index. -/
theorem NST_apply (k v : FVec Ideal S256x128 .bf16) (K : FVec Ideal S1x256x128 .f32) (l : EReal) (s : FVec Ideal S1x128x128 .f32) (d e : Fin 128) :
    NST k v K l s (ix3 0 d e) = Ideal.exp (Ideal.ofBits .f32 0x43800000#32 * l) * s (ix3 0 d e) + ∑ j : Fin 256, k (ix2 j d) * K (ix3 0 j d) * v (ix2 j e) := by
  unfold NST
  rw [shapeCast_apply _ _ (ix3 0 d e) (ix2 d e) (by
      rw [Shape.rowMajor_val_three, Shape.rowMajor_val_two]
      show d.val * 128 + e.val = (0 * 128 + d.val) * 128 + e.val; omega)]
  show broadcastTo S128x128 _ broadcasts_S1x128_S128x128 (ix2 d e) * shapeCast S128x128 s shapeCasts_S1x128x128_S128x128 (ix2 d e) + KV k v K (ix2 d e) = _
  rw [KV_apply, shapeCast_apply s _ (ix2 d e) (ix3 0 d e) (by
      rw [Shape.rowMajor_val_three, Shape.rowMajor_val_two]
      show (0 * 128 + d.val) * 128 + e.val = d.val * 128 + e.val; omega),
    broadcastTo_apply _ broadcasts_S1x128_S128x128 (ix2 d e) (ix2 0 e) (fun a => by
      match a with
      | ⟨0, _⟩ => rfl
      | ⟨1, _⟩ => rfl)]
  rfl

/-- The mean of a head's row. -/
theorem MEAN_apply (o : FVec Ideal S256x128 .f32) (p : Fin 256) : MEAN o (ix2 p 0) = meanE fun d => o (ix2 p d) := by
  show Ideal.div (shapeCast S256x1 (multiReduction .add [1] S256 o 0x00000000#32 reduces_S256x128_S256 (.inl rfl) rfl) shapeCasts_S256_S256x1 (ix2 p 0)) c128 = _
  rw [shapeCast_apply _ _ (ix2 p 0) (ix1 p) (by
    rw [Shape.rowMajor_val_one, Shape.rowMajor_val_two]
    show p.val = p.val * 1 + 0
    omega)]
  unfold meanE
  refine congrArg (fun s => Ideal.div s c128) ?_
  refine (Ideal.multiReduction_add_single o _ reduces_S256x128_S256 _ _ (ix1 p)).trans (Finset.sum_congr rfl fun k _ => ?_)
  exact congrArg o (funext fun a => Fin.ext (by
    match a with
    | ⟨0, _⟩ => rfl
    | ⟨1, _⟩ => rfl))

/-- A column on the 128 columns of a head. -/
theorem col_apply (u : FVec Ideal S256x1 .f32) (p : Fin 256) (d : Fin 128) : broadcastTo S256x128 u broadcasts_S256x1_S256x128 (ix2 p d) = u (ix2 p 0) :=
  broadcastTo_apply _ _ (ix2 p d) (ix2 p 0) (fun a => by
    match a with
    | ⟨0, _⟩ => rfl
    | ⟨1, _⟩ => rfl)

/-- A head's rows less their means, at an index. -/
theorem CTR_apply (o : FVec Ideal S256x128 .f32) (p : Fin 256) (d : Fin 128) : CTR o (ix2 p d) = o (ix2 p d) - meanE fun d => o (ix2 p d) := by
  show o (ix2 p d) - broadcastTo S256x128 (MEAN o) broadcasts_S256x1_S256x128 (ix2 p d) = _
  rw [col_apply, MEAN_apply]

/-- The gated group norm at an index. -/
theorem GN_apply (o g : FVec Ideal S256x128 .f32) (p : Fin 256) (d : Fin 128) : GN o g (ix2 p d) = gnE (fun d => o (ix2 p d)) (fun d => g (ix2 p d)) d := by
  show CTR o (ix2 p d) * broadcastTo S256x128 (rsqrt (addf (MEAN (mulf (CTR o) (CTR o))) (broadcast S256x1 (Scalar.ofBits (F := Ideal) .f32 0x3727C5AC#32)))) broadcasts_S256x1_S256x128 (ix2 p d)
    * (g (ix2 p d) * Ideal.logistic (g (ix2 p d))) = _
  rw [CTR_apply, col_apply]
  show _ * Ideal.rsqrt (MEAN (mulf (CTR o) (CTR o)) (ix2 p 0) + gnEps) * _ = _
  rw [MEAN_apply]
  unfold gnE
  refine congrArg (fun u => _ * Ideal.rsqrt (meanE u + gnEps) * _) (funext fun e => ?_)
  show CTR o (ix2 p e) * CTR o (ix2 p e) = _
  rw [CTR_apply]

/-- The row index as a number. -/
theorem IDX_apply (i : Fin 256) (d : Fin 128) : IDX (ix2 i d) = ((i.val : ℝ) : EReal) := by
  show ((((iota .tc S256x128 32 [0] iota_S256x128_d0_w32 (ix2 i d)).toInt : ℤ) : ℝ) : EReal) = _
  have : (BitVec.ofNat 32 i.val).toInt = (i.val : ℤ) := (by decide +kernel : ∀ i : Fin 256, (BitVec.ofNat 32 i.val).toInt = (i.val : ℤ)) i
  rw [iota_single_apply]
  show ((((BitVec.ofNat 32 i.val).toInt : ℤ) : ℝ) : EReal) = _
  rw [this, Int.cast_natCast]

/-- The difference of the row and the column index as a number. -/
theorem DIF_apply (i j : Fin 256) : DIF (ix2 i j) = (((i.val : ℝ) - (j.val : ℝ) : ℝ) : EReal) := by
  show ((((iota .tc S256x256 32 [0] iota_S256x256_d0_w32 (ix2 i j) - iota .tc S256x256 32 [1] iota_S256x256_d1_w32 (ix2 i j)).toInt : ℤ) : ℝ) : EReal) = _
  have : (BitVec.ofNat 32 i.val - BitVec.ofNat 32 j.val).toInt = (i.val : ℤ) - (j.val : ℤ) := by
    have hi := i.isLt
    have hj := j.isLt
    have e : ∀ i : Fin 256, (BitVec.ofNat 32 i.val).toInt = (i.val : ℤ) := by decide +kernel
    rw [BitVec.toInt_sub, e, e]
    simp only [Int.bmod_def]
    omega
  rw [iota_single_apply, iota_single_apply]
  show ((((BitVec.ofNat 32 i.val - BitVec.ofNat 32 j.val).toInt : ℤ) : ℝ) : EReal) = _
  rw [this]
  push_cast
  rfl

/-- The decay table at an index. -/
theorem TD_apply (l : ℝ) (i j : Fin 256) : TD (l : EReal) (ix3 0 i j) = (decR l i.val j.val : EReal) := by
  unfold TD
  rw [shapeCast_apply _ _ (ix3 0 i j) (ix2 i j) (by
      rw [Shape.rowMajor_val_three, Shape.rowMajor_val_two]
      show i.val * 256 + j.val = (0 * 256 + i.val) * 256 + j.val; omega)]
  show (if Ideal.cmp .oge (DIF (ix2 i j)) (Ideal.ofBits .f32 0x00000000#32) = 1 then Ideal.exp (max (DIF (ix2 i j)) (Ideal.ofBits .f32 0x00000000#32) * (l : EReal)) else Ideal.ofBits .f32 0x00000000#32) = _
  rw [DIF_apply, Ideal.ofBits_zero_f32]
  unfold decR
  by_cases h : j.val ≤ i.val
  · have h' : (0 : ℝ) ≤ (i.val : ℝ) - j.val := sub_nonneg.mpr (by exact_mod_cast h)
    have h'' : (0 : EReal) ≤ (((i.val : ℝ) - j.val : ℝ) : EReal) := by exact_mod_cast h'
    rw [if_pos h, if_pos (by unfold Ideal.cmp; simp only [h'', decide_true]; rfl), max_eq_left h'', ← EReal.coe_mul, Ideal.exp_coe]
  · have h' : ¬ (0 : ℝ) ≤ (i.val : ℝ) - j.val := by rw [sub_nonneg]; exact_mod_cast h
    have h'' : ¬ (0 : EReal) ≤ (((i.val : ℝ) - j.val : ℝ) : EReal) := by exact_mod_cast h'
    rw [if_neg h, if_neg (by unfold Ideal.cmp; simp only [h'', decide_false]; decide)]
    rfl

/-- The query table at an index. -/
theorem TQ_apply (l : ℝ) (i : Fin 256) (d : Fin 128) : TQ (l : EReal) (ix3 0 i d) = (Real.exp (((i.val : ℝ) + 1) * l) : EReal) := by
  unfold TQ
  rw [shapeCast_apply _ _ (ix3 0 i d) (ix2 i d) (by
      rw [Shape.rowMajor_val_three, Shape.rowMajor_val_two]
      show i.val * 128 + d.val = (0 * 256 + i.val) * 128 + d.val; omega)]
  show Ideal.exp ((IDX (ix2 i d) + one) * (l : EReal)) = _
  rw [IDX_apply, one_eq, ← EReal.coe_add, ← EReal.coe_mul, Ideal.exp_coe]

/-- The key table at an index. -/
theorem TK_apply (l : ℝ) (i : Fin 256) (d : Fin 128) : TK (l : EReal) (ix3 0 i d) = (Real.exp ((255 - (i.val : ℝ)) * l) : EReal) := by
  unfold TK
  rw [shapeCast_apply _ _ (ix3 0 i d) (ix2 i d) (by
      rw [Shape.rowMajor_val_three, Shape.rowMajor_val_two]
      show i.val * 128 + d.val = (0 * 256 + i.val) * 128 + d.val; omega)]
  show Ideal.exp ((Ideal.ofBits .f32 0x437F0000#32 - IDX (ix2 i d)) * (l : EReal)) = _
  rw [IDX_apply, c255_eq, ← EReal.coe_sub, ← EReal.coe_mul, Ideal.exp_coe]

/-- A load of a rectangle of a matrix at an index. -/
theorem ld2 {A B a b : ℕ} {φ : EltTy} (X : Vec Ideal ⟨2, ![A, B]⟩ φ) (o o' : ℕ)
    (inb : ∀ i, (![o, o'] : Fin 2 → ℕ) i + (![a, b] : Fin 2 → ℕ) i ≤ (⟨2, ![A, B]⟩ : Shape).size i) (p : Fin a) (k : Fin b) (h1 : o + p.val < A) (h2 : o' + k.val < B) :
    View.ld X (Rect.unit (s := ⟨2, ![A, B]⟩) ![o, o'] ![a, b] inb) (ix2 p k) = X (ix2 ⟨o + p.val, h1⟩ ⟨o' + k.val, h2⟩) := by
  show X _ = X _
  refine congrArg X (funext fun i => Fin.ext ?_)
  match i with
  | ⟨0, _⟩ => show o + 1 * p.val = o + p.val; omega
  | ⟨1, _⟩ => show o' + 1 * k.val = o' + k.val; omega

/-- A load of one head of a table at an index. -/
theorem ld3 {A B : ℕ} {φ : EltTy} (X : Vec Ideal ⟨3, ![4, A, B]⟩ φ) (o : ℕ) (ho : o < 4)
    (inb : ∀ i, (![o, 0, 0] : Fin 3 → ℕ) i + (![1, A, B] : Fin 3 → ℕ) i ≤ (⟨3, ![4, A, B]⟩ : Shape).size i) (p : Fin A) (k : Fin B) :
    View.ld X (Rect.unit (s := ⟨3, ![4, A, B]⟩) ![o, 0, 0] ![1, A, B] inb) (ix3 0 p k) = X (ix3 ⟨o, ho⟩ p k) := by
  show X _ = X _
  refine congrArg X (funext fun i => Fin.ext ?_)
  match i with
  | ⟨0, _⟩ => show o + 1 * 0 = o; omega
  | ⟨1, _⟩ => show 0 + 1 * p.val = p.val; omega
  | ⟨2, _⟩ => show 0 + 1 * k.val = k.val; omega

theorem LDD_apply (S : Vec Ideal S4x256x256 .f32) (h : Fin 4) (i j : Fin 256) : LDD S h (ix3 0 i j) = S (ix3 h i j) := by
  match h with
  | 0 => exact ld3 S 0 (by decide) _ i j
  | 1 => exact ld3 S 1 (by decide) _ i j
  | 2 => exact ld3 S 2 (by decide) _ i j
  | 3 => exact ld3 S 3 (by decide) _ i j

theorem LDQ_apply (S : Vec Ideal S4x256x128 .f32) (h : Fin 4) (i : Fin 256) (d : Fin 128) : LDQ S h (ix3 0 i d) = S (ix3 h i d) := by
  match h with
  | 0 => exact ld3 S 0 (by decide) _ i d
  | 1 => exact ld3 S 1 (by decide) _ i d
  | 2 => exact ld3 S 2 (by decide) _ i d
  | 3 => exact ld3 S 3 (by decide) _ i d

theorem LDS_apply (S : Vec Ideal S4x128x128 .f32) (h : Fin 4) (d e : Fin 128) : LDS S h (ix3 0 d e) = S (ix3 h d e) := by
  match h with
  | 0 => exact ld3 S 0 (by decide) _ d e
  | 1 => exact ld3 S 1 (by decide) _ d e
  | 2 => exact ld3 S 2 (by decide) _ d e
  | 3 => exact ld3 S 3 (by decide) _ d e

theorem LDL_apply (S : Vec Ideal S4 .f32) (h : Fin 4) : LDL S h = S (ix1 h) := by
  fin_cases h <;>
    exact congrArg S (funext fun i => Fin.ext (by
      match i with
      | ⟨0, _⟩ => rfl))

end Cert.MixIdeal.Blk

end
-- ==== Proof.MixGrp.lean ====
/-
  The groups and blocks of the mixer's input kernel: from a state that is the sum over the positions before a group, a group's
  rows are the retention's rows and the state after it is the sum over the positions before the next.
-/
module

public import proofs.«01_k».proof.Proof.MixIdx

@[expose] public section

set_option maxRecDepth 16384

noncomputable section

namespace Cert.MixIdeal.Blk

open Idealize.ShloMosaic hiding ix1 ix2 ix3 ix4
open Cert.MixIdeal Cert.MixIdeal.Gen Idealize.ShloMosaic.TcCoe Idealize.ShloMosaic.ValueIdx Layer Idealize.SL.Sem
open scoped BigOperators

variable (x : (⟨3, ![8, 2048, 1024]⟩ : Shape).Idx → EReal) (g : (⟨2, ![1, 1024]⟩ : Shape).Idx → EReal) (w : (⟨3, ![1, 1024, 5632]⟩ : Shape).Idx → EReal)

/-- A group of 256 rows of sequence `b` from position `P` on: its rows and the gain. -/
structure GrpX (b : Fin 8) (P : ℕ) (hP : P + 256 ≤ 2048) (X : FVec Ideal S256x1024 .f32) (G : FVec Ideal S1x1024 .f32) : Prop where
  x : ∀ (p : Fin 256) (k : Fin 1024), X (ix2 p k) = x (ix3 b ⟨P + p.val, by omega⟩ k)
  g : ∀ k : Fin 1024, G (ix2 0 k) = g (ix2 0 k)

/-- The phases of a group. -/
structure GrpC (P : ℕ) (hP : P + 256 ≤ 2048) (cs sn : FVec Ideal S256x128 .f32) : Prop where
  c : ∀ (p : Fin 256) (d : Fin 128), cs (ix2 p d) = cosT ⟨P + p.val, by omega⟩ d
  s : ∀ (p : Fin 256) (d : Fin 128), sn (ix2 p d) = sinT ⟨P + p.val, by omega⟩ d

/-- 512 columns of the projection from `c` on. -/
def ColW (c : ℕ) (hc : c + 512 ≤ 5632) (W : FVec Ideal S1024x512 .bf16) : Prop := ∀ (k : Fin 1024) (j : Fin 512), W (ix2 k j) = w (ix3 0 k ⟨c + j.val, by omega⟩)

/-- The three tables of the decay and its logarithm. -/
structure Tab (D : Fin 4 → FVec Ideal S1x256x256 .f32) (Q K : Fin 4 → FVec Ideal S1x256x128 .f32) : Prop where
  d : ∀ h (i j : Fin 256), D h (ix3 0 i j) = (decR (LG h).toReal i.val j.val : EReal)
  q : ∀ h (i : Fin 256) (d : Fin 128), Q h (ix3 0 i d) = (Real.exp (((i.val : ℝ) + 1) * (LG h).toReal) : EReal)
  k : ∀ h (i : Fin 256) (d : Fin 128), K h (ix3 0 i d) = (Real.exp ((255 - (i.val : ℝ)) * (LG h).toReal) : EReal)

/-- The state of the heads before position `P` of sequence `b`. -/
def StH (b : Fin 8) (P : ℕ) (s : Fin 4 → FVec Ideal S1x128x128 .f32) : Prop :=
  ∀ h (d e : Fin 128), s h (ix3 0 d e) = stE (LG h).toReal (fun s => kE x g w b s h) (fun s => vE x g w b s h) P d e

section Group
variable {x g w} {b : Fin 8} {P : ℕ} {hP : P + 256 ≤ 2048} {X : FVec Ideal S256x1024 .f32} {G : FVec Ideal S1x1024 .f32} {cs sn : FVec Ideal S256x128 .f32}

/-- A product of a group's norm is a run of columns of its projection. -/
theorem MM_grp (hX : GrpX x g b P hP X G) {c : ℕ} {hc : c + 512 ≤ 5632} {W : FVec Ideal S1024x512 .bf16} (hW : ColW w c hc W) (p : Fin 256) (j : Fin 512) :
    MM (HN X G) W (ix2 p j) = proj x g w b ⟨P + p.val, by omega⟩ ⟨c + j.val, by omega⟩ := by
  rw [MM_apply]
  unfold proj
  refine Finset.sum_congr rfl fun k _ => ?_
  rw [HN_apply, hW k j]
  refine congrArg₂ (fun u v => rmsRow w1024 u v k * _) (funext fun k => hX.x p k) (funext fun k => hX.g k)

/-- The rotary phases of a head of a group. -/
theorem ROT_grp (hX : GrpX x g b P hP X G) (hC : GrpC P hP cs sn) {c : ℕ} {hc : c + 512 ≤ 5632} {W : FVec Ideal S1024x512 .bf16} (hW : ColW w c hc W) (h : Fin 4) (p : Fin 256) (d : Fin 128) :
    ROT (MM (HN X G) W) cs sn (ix2 p (hcol h d)) = rotE (fun d => proj x g w b ⟨P + p.val, by omega⟩ ⟨c + (128 * h.val + d.val), by omega⟩) ⟨P + p.val, by omega⟩ d := by
  unfold ROT
  rw [CAT_apply, RH_apply, HD_apply, HD_apply, MM_grp hX hW, MM_grp hX hW, hC.c, hC.s]
  exact rot_eq (fun d => proj x g w b ⟨P + p.val, by omega⟩ ⟨c + (128 * h.val + d.val), by omega⟩) ⟨P + p.val, by omega⟩ d

variable {wq wk wv wg : FVec Ideal S1024x512 .bf16}

theorem q_grp (hX : GrpX x g b P hP X G) (hC : GrpC P hP cs sn) (hW : ColW w 1536 (by norm_num) wq) (h : Fin 4) (p : Fin 256) (d : Fin 128) :
    HD (QQ (HN X G) wq cs sn) h (ix2 p d) = qE x g w b ⟨P + p.val, by omega⟩ h d := by
  rw [HD_apply]
  exact ROT_grp hX hC hW h p d

theorem k_grp (hX : GrpX x g b P hP X G) (hC : GrpC P hP cs sn) (hW : ColW w 2048 (by norm_num) wk) (h : Fin 4) (p : Fin 256) (d : Fin 128) :
    HD (KK (HN X G) wk cs sn) h (ix2 p d) = kE x g w b ⟨P + p.val, by omega⟩ h d := by
  rw [HD_apply]
  exact congrArg (· * keyScale) (ROT_grp hX hC hW h p d)

theorem v_grp (hX : GrpX x g b P hP X G) (hW : ColW w 2560 (by norm_num) wv) (h : Fin 4) (p : Fin 256) (d : Fin 128) :
    HD (VV (HN X G) wv) h (ix2 p d) = vE x g w b ⟨P + p.val, by omega⟩ h d := by
  rw [HD_apply]
  exact MM_grp hX hW p (hcol h d)

theorem g_grp (hX : GrpX x g b P hP X G) (hW : ColW w 3072 (by norm_num) wg) (h : Fin 4) (p : Fin 256) (d : Fin 128) :
    HD (MM (HN X G) wg) h (ix2 p d) = gE x g w b ⟨P + p.val, by omega⟩ h d := by
  rw [HD_apply]
  exact MM_grp hX hW p (hcol h d)

variable (hg : ∀ k, Fin' (g k)) (hw : ∀ k, Fin' (w k))
include hg hw

variable {D : Fin 4 → FVec Ideal S1x256x256 .f32} {Q K : Fin 4 → FVec Ideal S1x256x128 .f32} {lg : Fin 4 → EReal} {s : Fin 4 → FVec Ideal S1x128x128 .f32}

/-- The state after a group is the state before the next. -/
theorem GST_grp (hX : GrpX x g b P hP X G) (hC : GrpC P hP cs sn) (hk : ColW w 2048 (by norm_num) wk) (hv : ColW w 2560 (by norm_num) wv)
    (hT : Tab D Q K) (hl : ∀ h, lg h = LG h) (hs : StH x g w b P s) : StH x g w b (P + 256) (GST X G wk wv cs sn K lg s) := by
  intro h d e
  unfold GST
  rw [NST_apply, hs h d e, hl h, ← (LG_fin h).eq, EReal.toReal_coe]
  rw [← st_stepE (LG h).toReal (fun s => kE x g w b s h) (fun s => vE x g w b s h) (fun s d => kE_fin x g w hg hw b s h d) (fun s d => vE_fin x g w hg hw b s h d) P hP d e]
  refine congrArg (_ + ·) (Finset.sum_congr rfl fun j _ => ?_)
  rw [k_grp hX hC hk, v_grp hX hv, hT.k]

/-- A row of a group is the retention's row. -/
theorem GOR_grp (hX : GrpX x g b P hP X G) (hC : GrpC P hP cs sn) (hq : ColW w 1536 (by norm_num) wq) (hk : ColW w 2048 (by norm_num) wk) (hv : ColW w 2560 (by norm_num) wv)
    (hg' : ColW w 3072 (by norm_num) wg) (hT : Tab D Q K) (hs : StH x g w b P s) (h : Fin 4) (p : Fin 256) (d : Fin 128) :
    GOR X G wq wk wv wg cs sn D Q s (ix2 p (hcol h d)) = gnE (retE x g w b ⟨P + p.val, by omega⟩ h) (gE x g w b ⟨P + p.val, by omega⟩ h) d := by
  unfold GOR
  rw [CAT_apply, GN_apply]
  refine congrArg₂ (fun u v => gnE u v d) (funext fun e => ?_) (funext fun e => g_grp hX hg' h p e)
  show INN _ _ _ _ (ix2 p e) + CRS _ _ _ (ix2 p e) = _
  rw [INN_apply, CRS_apply]
  refine Eq.trans ?_ (ret_coreE (LG h).toReal (qE x g w b ⟨P + p.val, by omega⟩ h) (fun s => kE x g w b s h) (fun s => vE x g w b s h) (fun d => qE_fin x g w hg hw b _ h d)
    (fun s d => kE_fin x g w hg hw b s h d) (fun s d => vE_fin x g w hg hw b s h d) P p hP e)
  refine congrArg₂ (· + ·) (Finset.sum_congr rfl fun j _ => ?_) (Finset.sum_congr rfl fun d _ => ?_)
  · rw [v_grp hX hv, hT.d]
    refine congrArg (· * _ * _) (Finset.sum_congr rfl fun d _ => ?_)
    rw [q_grp hX hC hq, k_grp hX hC hk]
  · rw [q_grp hX hC hq, hT.q, hs h d e]

end Group

/-- A block of 1024 rows of sequence `b` from position `P` on, with the projection and the phases. -/
structure BlkH (b : Fin 8) (P : ℕ) (X : Vec Ideal S1024x1024 .f32) (G : Vec Ideal S1x1024 .f32) (W : Vec Ideal S1024x3584 .bf16) (cs sn : Vec Ideal S1024x128 .f32) : Prop where
  hP : P + 1024 ≤ 2048
  x : ∀ (p : Fin 1024) (k : Fin 1024), X (ix2 p k) = x (ix3 b ⟨P + p.val, by omega⟩ k)
  g : ∀ k : Fin 1024, G (ix2 0 k) = g (ix2 0 k)
  w : ∀ (k : Fin 1024) (j : Fin 3584), W (ix2 k j) = w (ix3 0 k ⟨j.val, by omega⟩)
  c : ∀ (p : Fin 1024) (d : Fin 128), cs (ix2 p d) = cosT ⟨P + p.val, by omega⟩ d
  s : ∀ (p : Fin 1024) (d : Fin 128), sn (ix2 p d) = sinT ⟨P + p.val, by omega⟩ d

section Block
variable {x g w} {b : Fin 8} {P : ℕ} {X : Vec Ideal S1024x1024 .f32} {G : Vec Ideal S1x1024 .f32} {W : Vec Ideal S1024x3584 .bf16} {cs sn : Vec Ideal S1024x128 .f32}

/-- The rows of a group of a block. -/
theorem BlkH.grpX (hB : BlkH x g w b P X G W cs sn) (o : ℕ) (ho : o + 256 ≤ 1024) (inb : ∀ i, (![o, 0] : Fin 2 → ℕ) i + (![256, 1024] : Fin 2 → ℕ) i ≤ S1024x1024.size i) :
    GrpX x g b (P + o) (by have := hB.hP; omega) (View.ld X (Rect.unit (s := S1024x1024) ![o, 0] ![256, 1024] inb)) G where
  x p k := by
    refine (ld2 X o 0 inb p k (by omega) (by omega)).trans ((hB.x _ _).trans (congrArg x (funext fun a => Fin.ext ?_)))
    match a with
    | ⟨0, _⟩ => rfl
    | ⟨1, _⟩ => show P + (o + p.val) = P + o + p.val; omega
    | ⟨2, _⟩ => show 0 + k.val = k.val; omega
  g := hB.g

/-- The phases of a group of a block. -/
theorem BlkH.grpC (hB : BlkH x g w b P X G W cs sn) (o : ℕ) (ho : o + 256 ≤ 1024) (inb : ∀ i, (![o, 0] : Fin 2 → ℕ) i + (![256, 128] : Fin 2 → ℕ) i ≤ S1024x128.size i) :
    GrpC (P + o) (by have := hB.hP; omega) (View.ld cs (Rect.unit (s := S1024x128) ![o, 0] ![256, 128] inb)) (View.ld sn (Rect.unit (s := S1024x128) ![o, 0] ![256, 128] inb)) where
  c p d := by
    refine (ld2 cs o 0 inb p d (by omega) (by omega)).trans ((hB.c _ _).trans (congrArg₂ cosT (Fin.ext ?_) (Fin.ext ?_)))
    · show P + (o + p.val) = P + o + p.val; omega
    · show 0 + d.val = d.val; omega
  s p d := by
    refine (ld2 sn o 0 inb p d (by omega) (by omega)).trans ((hB.s _ _).trans (congrArg₂ sinT (Fin.ext ?_) (Fin.ext ?_)))
    · show P + (o + p.val) = P + o + p.val; omega
    · show 0 + d.val = d.val; omega

/-- A run of columns of the projection. -/
theorem BlkH.col (hB : BlkH x g w b P X G W cs sn) (c : ℕ) (hc : c + 512 ≤ 3584) (inb : ∀ i, (![0, c] : Fin 2 → ℕ) i + (![1024, 512] : Fin 2 → ℕ) i ≤ S1024x3584.size i) :
    ColW w c (by omega) (View.ld W (Rect.unit (s := S1024x3584) ![0, c] ![1024, 512] inb)) := fun k j => by
  refine (ld2 W 0 c inb k j (by omega) (by omega)).trans ((hB.w _ _).trans (congrArg w (funext fun a => Fin.ext ?_)))
  match a with
  | ⟨0, _⟩ => rfl
  | ⟨1, _⟩ => show 0 + k.val = k.val; omega
  | ⟨2, _⟩ => rfl

variable (hg : ∀ k, Fin' (g k)) (hw : ∀ k, Fin' (w k))
include hg hw

variable {D : Fin 4 → FVec Ideal S1x256x256 .f32} {Q K : Fin 4 → FVec Ideal S1x256x128 .f32} {lg : Fin 4 → EReal} {s : Fin 4 → FVec Ideal S1x128x128 .f32}

/-- The state after group 0 of a block. -/
theorem ST1_blk (hB : BlkH x g w b P X G W cs sn) (hT : Tab D Q K) (hl : ∀ h, lg h = LG h) (hs : StH x g w b P s) : StH x g w b (P + 256) (ST1 X G W cs sn K lg s) :=
  GST_grp (D := D) (Q := Q) hg hw (hB.grpX 0 (by norm_num) _) (hB.grpC 0 (by norm_num) _) (hB.col 2048 (by norm_num) _) (hB.col 2560 (by norm_num) _) hT hl (show StH x g w b (P + 0) s from hs)

/-- The state after group 1 of a block. -/
theorem ST2_blk (hB : BlkH x g w b P X G W cs sn) (hT : Tab D Q K) (hl : ∀ h, lg h = LG h) (hs : StH x g w b P s) : StH x g w b (P + 512) (ST2 X G W cs sn K lg s) :=
  GST_grp (D := D) (Q := Q) hg hw (hB.grpX 256 (by norm_num) _) (hB.grpC 256 (by norm_num) _) (hB.col 2048 (by norm_num) _) (hB.col 2560 (by norm_num) _) hT hl (ST1_blk hg hw hB hT hl hs)

/-- The state after group 2 of a block. -/
theorem ST3_blk (hB : BlkH x g w b P X G W cs sn) (hT : Tab D Q K) (hl : ∀ h, lg h = LG h) (hs : StH x g w b P s) : StH x g w b (P + 768) (ST3 X G W cs sn K lg s) :=
  GST_grp (D := D) (Q := Q) hg hw (hB.grpX 512 (by norm_num) _) (hB.grpC 512 (by norm_num) _) (hB.col 2048 (by norm_num) _) (hB.col 2560 (by norm_num) _) hT hl (ST2_blk hg hw hB hT hl hs)

/-- The state after group 3 of a block. -/
theorem ST4_blk (hB : BlkH x g w b P X G W cs sn) (hT : Tab D Q K) (hl : ∀ h, lg h = LG h) (hs : StH x g w b P s) : StH x g w b (P + 1024) (ST4 X G W cs sn K lg s) :=
  GST_grp (D := D) (Q := Q) hg hw (hB.grpX 768 (by norm_num) _) (hB.grpC 768 (by norm_num) _) (hB.col 2048 (by norm_num) _) (hB.col 2560 (by norm_num) _) hT hl (ST3_blk hg hw hB hT hl hs)

omit hg hw in
theorem lt0 (hB : BlkH x g w b P X G W cs sn) (y : S1024x512.Idx) : P + (y 0).val < 2048 := by
  have h : (y 0).val < 1024 := (y 0).isLt
  have := hB.hP
  omega
omit hg hw in
theorem lt1 (y : S1024x512.Idx) : (y 1).val / 128 < 4 := by
  have h : (y 1).val < 512 := (y 1).isLt
  omega

/-- The retention's block at an index. -/
theorem OOR_blk (hB : BlkH x g w b P X G W cs sn) (hT : Tab D Q K) (hl : ∀ h, lg h = LG h) (hs : StH x g w b P s) (y : S1024x512.Idx) :
    OOR X G W cs sn D Q K lg s y = (fun y : S1024x512.Idx => gnE (retE x g w b ⟨P + (y 0).val, lt0 hB y⟩ ⟨(y 1).val / 128, lt1 y⟩) (gE x g w b ⟨P + (y 0).val, lt0 hB y⟩ ⟨(y 1).val / 128, lt1 y⟩) ⟨(y 1).val % 128, Nat.mod_lt _ (by norm_num)⟩) y := by
  unfold OOR
  refine View.canon_apply_of_pieces (Val := Elt Ideal) (e := .bf16) (fun y : S1024x512.Idx => gnE (retE x g w b ⟨P + (y 0).val, lt0 hB y⟩ ⟨(y 1).val / 128, lt1 y⟩) (gE x g w b ⟨P + (y 0).val, lt0 hB y⟩ ⟨(y 1).val / 128, lt1 y⟩) ⟨(y 1).val % 128, Nat.mod_lt _ (by norm_num)⟩) _ ?_ y (View.cover_of_tiledL (s := S1024x512) _ ![256, 512] (by sl_kernel_rfl) y)
  have key : ∀ (o : ℕ) (ho : o + 256 ≤ 1024) (inb : ∀ a, (![o, 0] : Fin 2 → ℕ) a + S256x512.size a ≤ S1024x512.size a) (V : FVec Ideal S256x512 .bf16)
      (hV : ∀ (h : Fin 4) (p : Fin 256) (d : Fin 128) (hp : P + o + p.val < 2048), V (ix2 p (hcol h d)) = gnE (retE x g w b ⟨P + o + p.val, hp⟩ h) (gE x g w b ⟨P + o + p.val, hp⟩ h) d)
      (z : S256x512.Idx), V z = (fun y : S1024x512.Idx => gnE (retE x g w b ⟨P + (y 0).val, lt0 hB y⟩ ⟨(y 1).val / 128, lt1 y⟩) (gE x g w b ⟨P + (y 0).val, lt0 hB y⟩ ⟨(y 1).val / 128, lt1 y⟩) ⟨(y 1).val % 128, Nat.mod_lt _ (by norm_num)⟩) ((Rect.unit (s := S1024x512) ![o, 0] S256x512.size inb).emb z) := fun o ho inb V hV z => by
    obtain ⟨p, n, rfl⟩ : ∃ (p : Fin 256) (n : Fin 512), z = ix2 p n := ⟨z 0, z 1, ValueIdx.eq_ix2 z⟩
    have hP := hB.hP
    have en : n = hcol ⟨n.val / 128, by omega⟩ ⟨n.val % 128, Nat.mod_lt _ (by norm_num)⟩ := Fin.ext (by show n.val = 128 * (n.val / 128) + n.val % 128; omega)
    refine (congrArg (fun n => V (ix2 p n)) en).trans ((hV _ p _ (by omega)).trans ?_)
    dsimp only
    have e0 : (⟨P + o + p.val, by omega⟩ : Fin 2048) = ⟨P + ((Rect.unit (s := S1024x512) ![o, 0] S256x512.size inb).emb (ix2 p n) 0).val, lt0 hB _⟩ :=
      Fin.ext (by show P + o + p.val = P + (o + 1 * p.val); omega)
    have e1 : n.val = ((Rect.unit (s := S1024x512) ![o, 0] S256x512.size inb).emb (ix2 p n) 1).val := by show n.val = 0 + 1 * n.val; omega
    have e2 : (⟨n.val / 128, by omega⟩ : Fin 4) = ⟨((Rect.unit (s := S1024x512) ![o, 0] S256x512.size inb).emb (ix2 p n) 1).val / 128, lt1 _⟩ := Fin.ext (congrArg (· / 128) e1)
    have e3 : (⟨n.val % 128, Nat.mod_lt _ (by norm_num)⟩ : Fin 128) = ⟨((Rect.unit (s := S1024x512) ![o, 0] S256x512.size inb).emb (ix2 p n) 1).val % 128, Nat.mod_lt _ (by norm_num)⟩ := Fin.ext (congrArg (· % 128) e1)
    rw [e0, e2, e3]
  intro pc hpc z
  simp only [List.mem_cons, List.mem_nil_iff, or_false] at hpc
  rcases hpc with rfl | rfl | rfl | rfl
  · exact key 768 (by norm_num) inb_S1024x512_S256x512_768_0 _ (fun h p d hp => GOR_grp hg hw (hB.grpX 768 (by norm_num) _) (hB.grpC 768 (by norm_num) _) (hB.col 1536 (by norm_num) _) (hB.col 2048 (by norm_num) _)
      (hB.col 2560 (by norm_num) _) (hB.col 3072 (by norm_num) _) hT (ST3_blk hg hw hB hT hl hs) h p d) z
  · exact key 512 (by norm_num) inb_S1024x512_S256x512_512_0 _ (fun h p d hp => GOR_grp hg hw (hB.grpX 512 (by norm_num) _) (hB.grpC 512 (by norm_num) _) (hB.col 1536 (by norm_num) _) (hB.col 2048 (by norm_num) _)
      (hB.col 2560 (by norm_num) _) (hB.col 3072 (by norm_num) _) hT (ST2_blk hg hw hB hT hl hs) h p d) z
  · exact key 256 (by norm_num) inb_S1024x512_S256x512_256_0 _ (fun h p d hp => GOR_grp hg hw (hB.grpX 256 (by norm_num) _) (hB.grpC 256 (by norm_num) _) (hB.col 1536 (by norm_num) _) (hB.col 2048 (by norm_num) _)
      (hB.col 2560 (by norm_num) _) (hB.col 3072 (by norm_num) _) hT (ST1_blk hg hw hB hT hl hs) h p d) z
  · exact key 0 (by norm_num) inb_S1024x512_S256x512_0_0 _ (fun h p d hp => GOR_grp hg hw (hB.grpX 0 (by norm_num) _) (hB.grpC 0 (by norm_num) _) (hB.col 1536 (by norm_num) _) (hB.col 2048 (by norm_num) _)
      (hB.col 2560 (by norm_num) _) (hB.col 3072 (by norm_num) _) hT (show StH x g w b (P + 0) s from hs) h p d) z

omit hg hw in
theorem ltc (c : ℕ) (hc : c + 512 ≤ 5632) (y : S1024x512.Idx) : c + (y 1).val < 5632 := by
  have h : (y 1).val < 512 := (y 1).isLt
  omega

omit hg hw in
/-- The attention's queries of a block at an index. -/
theorem OQ_blk (hB : BlkH x g w b P X G W cs sn) (y : S1024x512.Idx) :
    OQ X G W y = (fun y : S1024x512.Idx => proj x g w b ⟨P + (y 0).val, lt0 hB y⟩ ⟨0 + (y 1).val, ltc 0 (by norm_num) y⟩ * qScale) y := by
  unfold OQ
  refine View.canon_apply_of_pieces (Val := Elt Ideal) (e := .bf16) (fun y : S1024x512.Idx => proj x g w b ⟨P + (y 0).val, lt0 hB y⟩ ⟨0 + (y 1).val, ltc 0 (by norm_num) y⟩ * qScale) _ ?_ y (View.cover_of_tiledL (s := S1024x512) _ ![256, 512] (by sl_kernel_rfl) y)
  have key : ∀ (o : ℕ) (ho : o + 256 ≤ 1024) (inb : ∀ a, (![o, 0] : Fin 2 → ℕ) a + S256x512.size a ≤ S1024x512.size a) (V : FVec Ideal S256x512 .bf16)
      (hV : ∀ (p : Fin 256) (j : Fin 512) (hp : P + o + p.val < 2048), V (ix2 p j) = proj x g w b ⟨P + o + p.val, hp⟩ ⟨0 + j.val, by omega⟩ * qScale)
      (z : S256x512.Idx), V z = (fun y : S1024x512.Idx => proj x g w b ⟨P + (y 0).val, lt0 hB y⟩ ⟨0 + (y 1).val, ltc 0 (by norm_num) y⟩ * qScale) ((Rect.unit (s := S1024x512) ![o, 0] S256x512.size inb).emb z) := fun o ho inb V hV z => by
    obtain ⟨p, n, rfl⟩ : ∃ (p : Fin 256) (n : Fin 512), z = ix2 p n := ⟨z 0, z 1, ValueIdx.eq_ix2 z⟩
    have hP := hB.hP
    refine (hV p n (by omega)).trans ?_
    dsimp only
    have e0 : (⟨P + o + p.val, by omega⟩ : Fin 2048) = ⟨P + ((Rect.unit (s := S1024x512) ![o, 0] S256x512.size inb).emb (ix2 p n) 0).val, lt0 hB _⟩ :=
      Fin.ext (by show P + o + p.val = P + (o + 1 * p.val); omega)
    have e1 : (⟨0 + n.val, by omega⟩ : Fin 5632) = ⟨0 + ((Rect.unit (s := S1024x512) ![o, 0] S256x512.size inb).emb (ix2 p n) 1).val, ltc 0 (by norm_num) _⟩ :=
      Fin.ext (by show 0 + n.val = 0 + (0 + 1 * n.val); omega)
    rw [e0, e1]
  intro pc hpc z
  simp only [List.mem_cons, List.mem_nil_iff, or_false] at hpc
  rcases hpc with rfl | rfl | rfl | rfl
  · exact key 768 (by norm_num) inb_S1024x512_S256x512_768_0 _ (fun p j hp => congrArg (· * qScale) (MM_grp (hB.grpX 768 (by norm_num) _) (hB.col 0 (by norm_num) _) p j)) z
  · exact key 512 (by norm_num) inb_S1024x512_S256x512_512_0 _ (fun p j hp => congrArg (· * qScale) (MM_grp (hB.grpX 512 (by norm_num) _) (hB.col 0 (by norm_num) _) p j)) z
  · exact key 256 (by norm_num) inb_S1024x512_S256x512_256_0 _ (fun p j hp => congrArg (· * qScale) (MM_grp (hB.grpX 256 (by norm_num) _) (hB.col 0 (by norm_num) _) p j)) z
  · exact key 0 (by norm_num) inb_S1024x512_S256x512_0_0 _ (fun p j hp => congrArg (· * qScale) (MM_grp (hB.grpX 0 (by norm_num) _) (hB.col 0 (by norm_num) _) p j)) z

omit hg hw in
/-- The attention's keys of a block at an index. -/
theorem OK_blk (hB : BlkH x g w b P X G W cs sn) (y : S1024x512.Idx) :
    OK X G W y = (fun y : S1024x512.Idx => proj x g w b ⟨P + (y 0).val, lt0 hB y⟩ ⟨512 + (y 1).val, ltc 512 (by norm_num) y⟩) y := by
  unfold OK
  refine View.canon_apply_of_pieces (Val := Elt Ideal) (e := .bf16) (fun y : S1024x512.Idx => proj x g w b ⟨P + (y 0).val, lt0 hB y⟩ ⟨512 + (y 1).val, ltc 512 (by norm_num) y⟩) _ ?_ y (View.cover_of_tiledL (s := S1024x512) _ ![256, 512] (by sl_kernel_rfl) y)
  have key : ∀ (o : ℕ) (ho : o + 256 ≤ 1024) (inb : ∀ a, (![o, 0] : Fin 2 → ℕ) a + S256x512.size a ≤ S1024x512.size a) (V : FVec Ideal S256x512 .bf16)
      (hV : ∀ (p : Fin 256) (j : Fin 512) (hp : P + o + p.val < 2048), V (ix2 p j) = proj x g w b ⟨P + o + p.val, hp⟩ ⟨512 + j.val, by omega⟩)
      (z : S256x512.Idx), V z = (fun y : S1024x512.Idx => proj x g w b ⟨P + (y 0).val, lt0 hB y⟩ ⟨512 + (y 1).val, ltc 512 (by norm_num) y⟩) ((Rect.unit (s := S1024x512) ![o, 0] S256x512.size inb).emb z) := fun o ho inb V hV z => by
    obtain ⟨p, n, rfl⟩ : ∃ (p : Fin 256) (n : Fin 512), z = ix2 p n := ⟨z 0, z 1, ValueIdx.eq_ix2 z⟩
    have hP := hB.hP
    refine (hV p n (by omega)).trans ?_
    dsimp only
    have e0 : (⟨P + o + p.val, by omega⟩ : Fin 2048) = ⟨P + ((Rect.unit (s := S1024x512) ![o, 0] S256x512.size inb).emb (ix2 p n) 0).val, lt0 hB _⟩ :=
      Fin.ext (by show P + o + p.val = P + (o + 1 * p.val); omega)
    have e1 : (⟨512 + n.val, by omega⟩ : Fin 5632) = ⟨512 + ((Rect.unit (s := S1024x512) ![o, 0] S256x512.size inb).emb (ix2 p n) 1).val, ltc 512 (by norm_num) _⟩ :=
      Fin.ext (by show 512 + n.val = 512 + (0 + 1 * n.val); omega)
    rw [e0, e1]
  intro pc hpc z
  simp only [List.mem_cons, List.mem_nil_iff, or_false] at hpc
  rcases hpc with rfl | rfl | rfl | rfl
  · exact key 768 (by norm_num) inb_S1024x512_S256x512_768_0 _ (fun p j hp => (MM_grp (hB.grpX 768 (by norm_num) _) (hB.col 512 (by norm_num) _) p j)) z
  · exact key 512 (by norm_num) inb_S1024x512_S256x512_512_0 _ (fun p j hp => (MM_grp (hB.grpX 512 (by norm_num) _) (hB.col 512 (by norm_num) _) p j)) z
  · exact key 256 (by norm_num) inb_S1024x512_S256x512_256_0 _ (fun p j hp => (MM_grp (hB.grpX 256 (by norm_num) _) (hB.col 512 (by norm_num) _) p j)) z
  · exact key 0 (by norm_num) inb_S1024x512_S256x512_0_0 _ (fun p j hp => (MM_grp (hB.grpX 0 (by norm_num) _) (hB.col 512 (by norm_num) _) p j)) z

omit hg hw in
/-- The attention's values of a block at an index. -/
theorem OV_blk (hB : BlkH x g w b P X G W cs sn) (y : S1024x512.Idx) :
    OV X G W y = (fun y : S1024x512.Idx => proj x g w b ⟨P + (y 0).val, lt0 hB y⟩ ⟨1024 + (y 1).val, ltc 1024 (by norm_num) y⟩) y := by
  unfold OV
  refine View.canon_apply_of_pieces (Val := Elt Ideal) (e := .bf16) (fun y : S1024x512.Idx => proj x g w b ⟨P + (y 0).val, lt0 hB y⟩ ⟨1024 + (y 1).val, ltc 1024 (by norm_num) y⟩) _ ?_ y (View.cover_of_tiledL (s := S1024x512) _ ![256, 512] (by sl_kernel_rfl) y)
  have key : ∀ (o : ℕ) (ho : o + 256 ≤ 1024) (inb : ∀ a, (![o, 0] : Fin 2 → ℕ) a + S256x512.size a ≤ S1024x512.size a) (V : FVec Ideal S256x512 .bf16)
      (hV : ∀ (p : Fin 256) (j : Fin 512) (hp : P + o + p.val < 2048), V (ix2 p j) = proj x g w b ⟨P + o + p.val, hp⟩ ⟨1024 + j.val, by omega⟩)
      (z : S256x512.Idx), V z = (fun y : S1024x512.Idx => proj x g w b ⟨P + (y 0).val, lt0 hB y⟩ ⟨1024 + (y 1).val, ltc 1024 (by norm_num) y⟩) ((Rect.unit (s := S1024x512) ![o, 0] S256x512.size inb).emb z) := fun o ho inb V hV z => by
    obtain ⟨p, n, rfl⟩ : ∃ (p : Fin 256) (n : Fin 512), z = ix2 p n := ⟨z 0, z 1, ValueIdx.eq_ix2 z⟩
    have hP := hB.hP
    refine (hV p n (by omega)).trans ?_
    dsimp only
    have e0 : (⟨P + o + p.val, by omega⟩ : Fin 2048) = ⟨P + ((Rect.unit (s := S1024x512) ![o, 0] S256x512.size inb).emb (ix2 p n) 0).val, lt0 hB _⟩ :=
      Fin.ext (by show P + o + p.val = P + (o + 1 * p.val); omega)
    have e1 : (⟨1024 + n.val, by omega⟩ : Fin 5632) = ⟨1024 + ((Rect.unit (s := S1024x512) ![o, 0] S256x512.size inb).emb (ix2 p n) 1).val, ltc 1024 (by norm_num) _⟩ :=
      Fin.ext (by show 1024 + n.val = 1024 + (0 + 1 * n.val); omega)
    rw [e0, e1]
  intro pc hpc z
  simp only [List.mem_cons, List.mem_nil_iff, or_false] at hpc
  rcases hpc with rfl | rfl | rfl | rfl
  · exact key 768 (by norm_num) inb_S1024x512_S256x512_768_0 _ (fun p j hp => (MM_grp (hB.grpX 768 (by norm_num) _) (hB.col 1024 (by norm_num) _) p j)) z
  · exact key 512 (by norm_num) inb_S1024x512_S256x512_512_0 _ (fun p j hp => (MM_grp (hB.grpX 512 (by norm_num) _) (hB.col 1024 (by norm_num) _) p j)) z
  · exact key 256 (by norm_num) inb_S1024x512_S256x512_256_0 _ (fun p j hp => (MM_grp (hB.grpX 256 (by norm_num) _) (hB.col 1024 (by norm_num) _) p j)) z
  · exact key 0 (by norm_num) inb_S1024x512_S256x512_0_0 _ (fun p j hp => (MM_grp (hB.grpX 0 (by norm_num) _) (hB.col 1024 (by norm_num) _) p j)) z

end Block

/-- The decay table the first point fills, at an index. -/
theorem WD_apply (lg : Fin 4 → EReal) (h : Fin 4) (i : Fin 256) (j : Fin 256) : WD lg (ix3 h i j) = TD (lg h) (ix3 0 i j) := by
  unfold WD
  refine View.canon_apply_of_pieces (Val := Elt Ideal) (e := .f32) (fun y : S4x256x256.Idx => TD (lg (y 0)) (ix3 0 (y 1) (y 2))) _ ?_ (ix3 h i j)
    (View.cover_of_tiledL (s := S4x256x256) _ ![1, 256, 256] (by sl_kernel_rfl) (ix3 h i j))
  have key : ∀ (o : Fin 4) (inb : ∀ a, (![o.val, 0, 0] : Fin 3 → ℕ) a + (S1x256x256 : Shape).size a ≤ S4x256x256.size a) (z : S1x256x256.Idx),
      TD (lg o) z = (fun y : S4x256x256.Idx => TD (lg (y 0)) (ix3 0 (y 1) (y 2))) ((Rect.unit (s := S4x256x256) ![o.val, 0, 0] S1x256x256.size inb).emb z) := fun o inb z => by
    have h0 : (z 0).val < 1 := (z 0).isLt
    dsimp only
    refine congrArg₂ (fun l z => TD (lg l) z) (Fin.ext ?_) (funext fun a => Fin.ext ?_)
    · show o.val = o.val + 1 * (z 0).val; omega
    · match a with
      | ⟨0, _⟩ => show (z 0).val = 0; omega
      | ⟨1, _⟩ => show (z 1).val = 0 + 1 * (z 1).val; omega
      | ⟨2, _⟩ => show (z 2).val = 0 + 1 * (z 2).val; omega
  intro pc hpc z
  simp only [List.mem_cons, List.mem_nil_iff, or_false] at hpc
  rcases hpc with rfl | rfl | rfl | rfl
  · exact key 3 inb_S4x256x256_S1x256x256_3_0_0 z
  · exact key 2 inb_S4x256x256_S1x256x256_2_0_0 z
  · exact key 1 inb_S4x256x256_S1x256x256_1_0_0 z
  · exact key 0 inb_S4x256x256_S1x256x256_0_0_0 z

/-- The query table the first point fills, at an index. -/
theorem WQ_apply (lg : Fin 4 → EReal) (h : Fin 4) (i : Fin 256) (j : Fin 128) : WQ lg (ix3 h i j) = TQ (lg h) (ix3 0 i j) := by
  unfold WQ
  refine View.canon_apply_of_pieces (Val := Elt Ideal) (e := .f32) (fun y : S4x256x128.Idx => TQ (lg (y 0)) (ix3 0 (y 1) (y 2))) _ ?_ (ix3 h i j)
    (View.cover_of_tiledL (s := S4x256x128) _ ![1, 256, 128] (by sl_kernel_rfl) (ix3 h i j))
  have key : ∀ (o : Fin 4) (inb : ∀ a, (![o.val, 0, 0] : Fin 3 → ℕ) a + (S1x256x128 : Shape).size a ≤ S4x256x128.size a) (z : S1x256x128.Idx),
      TQ (lg o) z = (fun y : S4x256x128.Idx => TQ (lg (y 0)) (ix3 0 (y 1) (y 2))) ((Rect.unit (s := S4x256x128) ![o.val, 0, 0] S1x256x128.size inb).emb z) := fun o inb z => by
    have h0 : (z 0).val < 1 := (z 0).isLt
    dsimp only
    refine congrArg₂ (fun l z => TQ (lg l) z) (Fin.ext ?_) (funext fun a => Fin.ext ?_)
    · show o.val = o.val + 1 * (z 0).val; omega
    · match a with
      | ⟨0, _⟩ => show (z 0).val = 0; omega
      | ⟨1, _⟩ => show (z 1).val = 0 + 1 * (z 1).val; omega
      | ⟨2, _⟩ => show (z 2).val = 0 + 1 * (z 2).val; omega
  intro pc hpc z
  simp only [List.mem_cons, List.mem_nil_iff, or_false] at hpc
  rcases hpc with rfl | rfl | rfl | rfl
  · exact key 3 inb_S4x256x128_S1x256x128_3_0_0 z
  · exact key 2 inb_S4x256x128_S1x256x128_2_0_0 z
  · exact key 1 inb_S4x256x128_S1x256x128_1_0_0 z
  · exact key 0 inb_S4x256x128_S1x256x128_0_0_0 z

/-- The key table the first point fills, at an index. -/
theorem WK_apply (lg : Fin 4 → EReal) (h : Fin 4) (i : Fin 256) (j : Fin 128) : WK lg (ix3 h i j) = TK (lg h) (ix3 0 i j) := by
  unfold WK
  refine View.canon_apply_of_pieces (Val := Elt Ideal) (e := .f32) (fun y : S4x256x128.Idx => TK (lg (y 0)) (ix3 0 (y 1) (y 2))) _ ?_ (ix3 h i j)
    (View.cover_of_tiledL (s := S4x256x128) _ ![1, 256, 128] (by sl_kernel_rfl) (ix3 h i j))
  have key : ∀ (o : Fin 4) (inb : ∀ a, (![o.val, 0, 0] : Fin 3 → ℕ) a + (S1x256x128 : Shape).size a ≤ S4x256x128.size a) (z : S1x256x128.Idx),
      TK (lg o) z = (fun y : S4x256x128.Idx => TK (lg (y 0)) (ix3 0 (y 1) (y 2))) ((Rect.unit (s := S4x256x128) ![o.val, 0, 0] S1x256x128.size inb).emb z) := fun o inb z => by
    have h0 : (z 0).val < 1 := (z 0).isLt
    dsimp only
    refine congrArg₂ (fun l z => TK (lg l) z) (Fin.ext ?_) (funext fun a => Fin.ext ?_)
    · show o.val = o.val + 1 * (z 0).val; omega
    · match a with
      | ⟨0, _⟩ => show (z 0).val = 0; omega
      | ⟨1, _⟩ => show (z 1).val = 0 + 1 * (z 1).val; omega
      | ⟨2, _⟩ => show (z 2).val = 0 + 1 * (z 2).val; omega
  intro pc hpc z
  simp only [List.mem_cons, List.mem_nil_iff, or_false] at hpc
  rcases hpc with rfl | rfl | rfl | rfl
  · exact key 3 inb_S4x256x128_S1x256x128_3_0_0 z
  · exact key 2 inb_S4x256x128_S1x256x128_2_0_0 z
  · exact key 1 inb_S4x256x128_S1x256x128_1_0_0 z
  · exact key 0 inb_S4x256x128_S1x256x128_0_0_0 z

/-- The state a block leaves, at an index. -/
theorem OST_apply (x : Vec Ideal S1024x1024 .f32) (g : Vec Ideal S1x1024 .f32) (w : Vec Ideal S1024x3584 .bf16) (cs sn : Vec Ideal S1024x128 .f32)
    (K : Fin 4 → FVec Ideal S1x256x128 .f32) (lg : Fin 4 → EReal) (s : Fin 4 → FVec Ideal S1x128x128 .f32) (L : List (View.Piece (Elt Ideal) S4x128x128 .f32)) (h : Fin 4) (d e : Fin 128) :
    OST x g w cs sn K lg s L (ix3 h d e) = ST4 x g w cs sn K lg s h (ix3 0 d e) := by
  unfold OST
  generalize ST4 x g w cs sn K lg s = S
  have key : ∀ (o : Fin 4) (inb : ∀ a, (![o.val, 0, 0] : Fin 3 → ℕ) a + (S1x128x128 : Shape).size a ≤ S4x128x128.size a) (z : S1x128x128.Idx),
      S o z = (fun y : S4x128x128.Idx => S (y 0) (ix3 0 (y 1) (y 2))) ((Rect.unit (s := S4x128x128) ![o.val, 0, 0] S1x128x128.size inb).emb z) := fun o inb z => by
    have h0 : (z 0).val < 1 := (z 0).isLt
    dsimp only
    refine congrArg₂ (fun l z => S l z) (Fin.ext ?_) (funext fun a => Fin.ext ?_)
    · show o.val = o.val + 1 * (z 0).val; omega
    · match a with
      | ⟨0, _⟩ => show (z 0).val = 0; omega
      | ⟨1, _⟩ => show (z 1).val = 0 + 1 * (z 1).val; omega
      | ⟨2, _⟩ => show (z 2).val = 0 + 1 * (z 2).val; omega
  refine View.canon_append_of_pieces (Val := Elt Ideal) (e := .f32) (fun y : S4x128x128.Idx => S (y 0) (ix3 0 (y 1) (y 2))) L
    [⟨Rect.unit ![3, 0, 0] ![1, 128, 128] inb_S4x128x128_S1x128x128_3_0_0, S 3⟩, ⟨Rect.unit ![2, 0, 0] ![1, 128, 128] inb_S4x128x128_S1x128x128_2_0_0, S 2⟩,
      ⟨Rect.unit ![1, 0, 0] ![1, 128, 128] inb_S4x128x128_S1x128x128_1_0_0, S 1⟩, ⟨Rect.unit ![0, 0, 0] ![1, 128, 128] inb_S4x128x128_S1x128x128_0_0_0, S 0⟩] ?_ (ix3 h d e)
    (View.cover_of_tiledL (s := S4x128x128) _ ![1, 128, 128] (by sl_kernel_rfl) (ix3 h d e))
  intro pc hpc z
  simp only [List.mem_cons, List.mem_nil_iff, or_false] at hpc
  rcases hpc with rfl | rfl | rfl | rfl
  · exact key 3 inb_S4x128x128_S1x128x128_3_0_0 z
  · exact key 2 inb_S4x128x128_S1x128x128_2_0_0 z
  · exact key 1 inb_S4x128x128_S1x128x128_1_0_0 z
  · exact key 0 inb_S4x128x128_S1x128x128_0_0_0 z

/-- The tables the first point fills are the decay's. -/
theorem Tab_fill (lg : Fin 4 → EReal) (hl : ∀ h, lg h = LG h) : Tab (fun h => TD (lg h)) (fun h => TQ (lg h)) (fun h => TK (lg h)) where
  d h i j := by rw [hl h, ← (LG_fin h).eq, EReal.toReal_coe]; exact TD_apply _ i j
  q h i d := by rw [hl h, ← (LG_fin h).eq, EReal.toReal_coe]; exact TQ_apply _ i d
  k h i d := by rw [hl h, ← (LG_fin h).eq, EReal.toReal_coe]; exact TK_apply _ i d

/-- The tables read back are the decay's. -/
theorem Tab_read (lg : Fin 4 → EReal) (hl : ∀ h, lg h = LG h) : Tab (LDD (WD lg)) (LDQ (WQ lg)) (LDQ (WK lg)) where
  d h i j := (LDD_apply _ h i j).trans ((WD_apply lg h i j).trans ((Tab_fill lg hl).d h i j))
  q h i d := (LDQ_apply _ h i d).trans ((WQ_apply lg h i d).trans ((Tab_fill lg hl).q h i d))
  k h i d := (LDQ_apply _ h i d).trans ((WK_apply lg h i d).trans ((Tab_fill lg hl).k h i d))

/-- The state at the start of a sequence. -/
theorem StH_zero (b : Fin 8) : StH x g w b 0 (LDS ZS) := fun h d e => by
  rw [LDS_apply]
  show Ideal.ofBits .f32 0x00000000#32 = _
  unfold stE
  rw [Ideal.ofBits_zero_f32, st_zero]
  rfl

/-- The state after a block, read back. -/
theorem StH_next {b : Fin 8} {P : ℕ} {X : Vec Ideal S1024x1024 .f32} {G : Vec Ideal S1x1024 .f32} {W : Vec Ideal S1024x3584 .bf16} {cs sn : Vec Ideal S1024x128 .f32}
    {K : Fin 4 → FVec Ideal S1x256x128 .f32} {lg : Fin 4 → EReal} {s : Fin 4 → FVec Ideal S1x128x128 .f32} {L : List (View.Piece (Elt Ideal) S4x128x128 .f32)}
    (h : StH x g w b (P + 1024) (ST4 X G W cs sn K lg s)) : StH x g w b (P + 1024) (LDS (OST X G W cs sn K lg s L)) := fun i d e =>
  (LDS_apply _ i d e).trans ((OST_apply X G W cs sn K lg s L i d e).trans (h i d e))

end Cert.MixIdeal.Blk

end
-- ==== Proof.MixArray.lean ====
/-
  The mixer's input kernel over its grid: what the region finds in its arrays, the scratch carried from point to point, and
  what each point stores.
-/
module

public import proofs.«01_k».proof.Proof.MixBlock
public import proofs.«01_k».proof.Proof.MixGrp
public import Idealize.ShloMosaic.Lib.StableHlo.ReadAt

@[expose] public section

set_option maxRecDepth 16384

noncomputable section

namespace Cert.MixIdeal.Arr

open Idealize.ShloMosaic hiding ix1 ix2 ix3 ix4
open Cert.MixIdeal Cert.MixIdeal.Gen Cert.MixIdeal.Blk Idealize.ShloMosaic.TcCoe Idealize.ShloMosaic.ValueIdx Layer Idealize.SL.Sem
open Idealize.ShloMosaic.Pipeline (Dat)
open scoped BigOperators

/-- A small number read back as a signed one. -/
theorem toInt_small (n : ℕ) (h : n < 2048) : (BitVec.ofNat 32 n).toInt = (n : ℤ) := by
  rw [BitVec.toInt_ofNat']
  simp only [Int.bmod_def]
  omega

/-- A small number as an extended real. -/
theorem toE_small (n : ℕ) (h : n < 2048) : (((BitVec.ofNat 32 n).toInt : ℝ) : EReal) = ((n : ℝ) : EReal) := by
  rw [toInt_small n h]; norm_cast

variable (m : (ℓ : Loc nD τ sig) → Buf (Elt Ideal) ℓ) (c : Dev nD)

/-- The activation, the gain and the projection. -/
abbrev AX : S8x2048x1024.Idx → EReal := m ((c : Thread nD τ).loc main_arg0)
abbrev AG : S1x1024.Idx → EReal := m ((c : Thread nD τ).loc main_arg1)
abbrev AW : S1x1024x5632.Idx → EReal := m ((c : Thread nD τ).loc main_arg2)

/-- The logarithms of the decays as the region finds them. -/
theorem V_lg (h : Fin 4) : V m c main_v7 (ix1 h) = LG h := by
  show StableHlo.after hostOps0 _ _ _ = _
  after_reads_at
  show Ideal.log (1 - Ideal.pow two (mfive - (((BitVec.ofNat 32 h.val).toInt : ℝ) : EReal))) = _
  rw [toE_small h.val (by omega)]
  unfold LG
  rw [show one = 1 from Ideal.ofBits_one_f32]

/-- The cosines as the region finds them. -/
theorem V_cos (s : Fin 2048) (d : Fin 128) : V m c main_v22 (ix2 s d) = cosT s d := by
  show StableHlo.after hostOps0 _ _ _ = _
  after_reads_at
  have hs := s.isLt
  have hd := d.isLt
  have key : ∀ e : Fin 64, Ideal.cos ((((BitVec.ofNat 32 s.val).toInt : ℝ) : EReal) * Ideal.pow c1e4 (Ideal.div (-(((BitVec.ofNat 32 e.val).toInt : ℝ) : EReal)) c64)) = COS s e := fun e => by
    have he := e.isLt
    rw [toE_small s.val hs, toE_small e.val (by omega)]; rfl
  by_cases h : d.val < 64
  · refine (dif_pos h).trans ?_
    refine (key ⟨d.val, h⟩).trans (congrArg (COS s) (Fin.ext ?_))
    show d.val = d.val % 64
    omega
  · refine (dif_neg h).trans ?_
    refine (key ⟨d.val - 64, by omega⟩).trans (congrArg (COS s) (Fin.ext ?_))
    show d.val - 64 = d.val % 64
    omega

/-- The sines as the region finds them. -/
theorem V_sin (s : Fin 2048) (d : Fin 128) : V m c main_v24 (ix2 s d) = sinT s d := by
  show StableHlo.after hostOps0 _ _ _ = _
  after_reads_at
  have hs := s.isLt
  have hd := d.isLt
  have key : ∀ e : Fin 64, Ideal.sin ((((BitVec.ofNat 32 s.val).toInt : ℝ) : EReal) * Ideal.pow c1e4 (Ideal.div (-(((BitVec.ofNat 32 e.val).toInt : ℝ) : EReal)) c64)) = SIN s e := fun e => by
    have he := e.isLt
    rw [toE_small s.val hs, toE_small e.val (by omega)]; rfl
  unfold sinT
  by_cases h : d.val < 64
  · refine (dif_pos h).trans (Eq.trans ?_ (dif_pos h).symm)
    exact congrArg (fun x : EReal => -x) (key ⟨d.val, h⟩)
  · refine (dif_neg h).trans (Eq.trans ?_ (dif_neg h).symm)
    exact key ⟨d.val - 64, by omega⟩

/-- The activation as the region finds it: its two leading axes joined. -/
theorem V_x (r : Fin 16384) (k : Fin 1024) : V m c main_v25 (ix2 r k) = AX m c (ix3 ⟨r.val / 2048, by omega⟩ ⟨r.val % 2048, by omega⟩ k) := by
  show StableHlo.after hostOps0 _ _ _ = _
  after_reads_at
  rfl

/-- The gain as the region finds it. -/
theorem V_g (k : Fin 1024) : V m c main_v27 (ix2 0 k) = AG m c (ix2 0 k) := by
  show StableHlo.after hostOps0 _ _ _ = _
  after_reads_at
  rfl

/-- The projection as the region finds it. -/
theorem V_w (k : Fin 1024) (j : Fin 5632) : V m c main_v28 (ix2 k j) = AW m c (ix3 0 k j) := by
  show StableHlo.after hostOps0 _ _ _ = _
  after_reads_at
  rfl

/-- A weight the kernel only casts, as the region finds it. -/
theorem V_29 (k : Fin 1024) (j : Fin 4096) : V m c main_v29 (ix2 k j) = m ((c : Thread nD τ).loc main_arg3) (ix3 0 k j) := by
  show StableHlo.after hostOps0 _ _ _ = _
  after_reads_at
  rfl

/-- A weight the kernel only casts, as the region finds it. -/
theorem V_30 (k : Fin 1024) (j : Fin 4096) : V m c main_v30 (ix2 k j) = m ((c : Thread nD τ).loc main_arg4) (ix3 0 k j) := by
  show StableHlo.after hostOps0 _ _ _ = _
  after_reads_at
  rfl

/-- A weight the kernel only casts, as the region finds it. -/
theorem V_31 (k : Fin 4096) (j : Fin 1024) : V m c main_v31 (ix2 k j) = m ((c : Thread nD τ).loc main_arg5) (ix3 0 k j) := by
  show StableHlo.after hostOps0 _ _ _ = _
  after_reads_at
  rfl

/-- The block of window 0 at point `t`. -/
theorem idx0 : ∀ t : Fin cfg0.N, win0_0.index t 0 = 0 :=
  (by decide +kernel : ∀ t : Fin grid0.N, win0_0.index t 0 = 0)

/-- The block of window 1 at point `t`. -/
theorem idx1 : ∀ t : Fin cfg0.N, win0_1.index t 0 = t.val ∧ win0_1.index t 1 = 0 :=
  (by decide +kernel : ∀ t : Fin grid0.N, win0_1.index t 0 = t.val ∧ win0_1.index t 1 = 0)

/-- The block of window 2 at point `t`. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The block of window 3 at point `t`. -/
theorem idx3 : ∀ t : Fin cfg0.N, win0_3.index t 0 = 0 ∧ win0_3.index t 1 = 0 :=
  (by decide +kernel : ∀ t : Fin grid0.N, win0_3.index t 0 = 0 ∧ win0_3.index t 1 = 0)

/-- The block of window 4 at point `t`. -/
theorem idx4 : ∀ t : Fin cfg0.N, win0_4.index t 0 = t.val % 2 ∧ win0_4.index t 1 = 0 :=
  (by decide +kernel : ∀ t : Fin grid0.N, win0_4.index t 0 = t.val % 2 ∧ win0_4.index t 1 = 0)

/-- The block of window 5 at point `t`. -/
theorem idx5 : ∀ t : Fin cfg0.N, win0_5.index t 0 = t.val % 2 ∧ win0_5.index t 1 = 0 :=
  (by decide +kernel : ∀ t : Fin grid0.N, win0_5.index t 0 = t.val % 2 ∧ win0_5.index t 1 = 0)

/-- The block of window 6 at point `t`. -/
theorem idx6 : ∀ t : Fin cfg0.N, win0_6.index t 0 = t.val ∧ win0_6.index t 1 = 0 :=
  (by decide +kernel : ∀ t : Fin grid0.N, win0_6.index t 0 = t.val ∧ win0_6.index t 1 = 0)

/-- The block of window 7 at point `t`. -/
theorem idx7 : ∀ t : Fin cfg0.N, win0_7.index t 0 = t.val ∧ win0_7.index t 1 = 0 :=
  (by decide +kernel : ∀ t : Fin grid0.N, win0_7.index t 0 = t.val ∧ win0_7.index t 1 = 0)

/-- The block of window 8 at point `t`. -/
theorem idx8 : ∀ t : Fin cfg0.N, win0_8.index t 0 = t.val ∧ win0_8.index t 1 = 0 :=
  (by decide +kernel : ∀ t : Fin grid0.N, win0_8.index t 0 = t.val ∧ win0_8.index t 1 = 0)

/-- The block of window 9 at point `t`. -/
theorem idx9 : ∀ t : Fin cfg0.N, win0_9.index t 0 = t.val ∧ win0_9.index t 1 = 0 :=
  (by decide +kernel : ∀ t : Fin grid0.N, win0_9.index t 0 = t.val ∧ win0_9.index t 1 = 0)

/-- The block of window 10 at point `t`. -/
theorem idx10 : ∀ t : Fin cfg0.N, win0_10.index t 0 = t.val ∧ win0_10.index t 1 = 0 :=
  (by decide +kernel : ∀ t : Fin grid0.N, win0_10.index t 0 = t.val ∧ win0_10.index t 1 = 0)

/-- The block of window 11 at point `t`. -/
theorem idx11 : ∀ t : Fin cfg0.N, win0_11.index t 0 = t.val ∧ win0_11.index t 1 = 0 :=
  (by decide +kernel : ∀ t : Fin grid0.N, win0_11.index t 0 = t.val ∧ win0_11.index t 1 = 0)

/-- The block of window 12 at point `t`. -/
theorem idx12 : ∀ t : Fin cfg0.N, win0_12.index t 0 = t.val ∧ win0_12.index t 1 = 0 :=
  (by decide +kernel : ∀ t : Fin grid0.N, win0_12.index t 0 = t.val ∧ win0_12.index t 1 = 0)

/-- The block of window 13 at point `t`. -/
theorem idx13 : ∀ t : Fin cfg0.N, win0_13.index t 0 = t.val ∧ win0_13.index t 1 = 0 :=
  (by decide +kernel : ∀ t : Fin grid0.N, win0_13.index t 0 = t.val ∧ win0_13.index t 1 = 0)

/-- The block of window 14 at point `t`. -/
theorem idx14 : ∀ t : Fin cfg0.N, win0_14.index t 0 = t.val ∧ win0_14.index t 1 = 0 :=
  (by decide +kernel : ∀ t : Fin grid0.N, win0_14.index t 0 = t.val ∧ win0_14.index t 1 = 0)

/-- The block of window 15 at point `t`. -/
theorem idx15 : ∀ t : Fin cfg0.N, win0_15.index t 0 = t.val ∧ win0_15.index t 1 = 0 :=
  (by decide +kernel : ∀ t : Fin grid0.N, win0_15.index t 0 = t.val ∧ win0_15.index t 1 = 0)

/-- Window 0's block is the whole vector. -/
theorem blk0 (t : Fin cfg0.N) (h : Fin 4) : iblk m c 0 t (ix1 h) = V m c main_v7 (ix1 h) := by
  show V m c main_v7 _ = V m c main_v7 _
  refine congrArg (V m c main_v7) (funext fun a => Fin.ext ?_)
  match a with
  | ⟨0, _⟩ => show win0_0.index t 0 * 4 + 1 * h.val = h.val; rw [idx0 t]; omega

/-- Window 1's block at point `t`, at an index. -/
theorem blk1 (t : Fin cfg0.N) (p : Fin 1024) (k : Fin 1024) (h : t.val * 1024 + p.val < 16384) :
    iblk m c 1 t (ix2 p k) = V m c main_v25 (ix2 ⟨t.val * 1024 + p.val, h⟩ k) := by
  show V m c main_v25 _ = V m c main_v25 _
  refine congrArg (V m c main_v25) (funext fun a => Fin.ext ?_)
  match a with
  | ⟨0, _⟩ => show win0_1.index t 0 * 1024 + 1 * p.val = t.val * 1024 + p.val; rw [(idx1 t).1]; omega
  | ⟨1, _⟩ => show win0_1.index t 1 * 1024 + 1 * k.val = k.val; rw [(idx1 t).2]; omega

/-- Window 2's block is the whole gain. -/
theorem blk2 (t : Fin cfg0.N) (k : Fin 1024) : iblk m c 2 t (ix2 0 k) = V m c main_v27 (ix2 0 k) := by
  show V m c main_v27 _ = V m c main_v27 _
  refine congrArg (V m c main_v27) (funext fun a => Fin.ext ?_)
  match a with
  | ⟨0, _⟩ => show win0_2.index t 0 * 1 + 1 * 0 = 0; rw [(idx2 t).1]
  | ⟨1, _⟩ => show win0_2.index t 1 * 1024 + 1 * k.val = k.val; rw [(idx2 t).2]; omega

/-- Window 3's buffer holds the first 3584 columns of the projection. -/
theorem blk3 (t : Fin cfg0.N) (k : Fin 1024) (j : Fin 3584) : X0_3 m c t (ix2 k j) = V m c main_v28 (ix2 k ⟨j.val, by omega⟩) := by
  unfold X0_3 Pipeline.Window.fill
  rw [dif_pos (moved0_3 t (ix2 k j))]
  show V m c main_v28 _ = V m c main_v28 _
  refine congrArg (V m c main_v28) (funext fun a => Fin.ext ?_)
  match a with
  | ⟨0, _⟩ => show win0_3.index t 0 * 1024 + 1 * k.val = k.val; rw [(idx3 t).1]; omega
  | ⟨1, _⟩ => show win0_3.index t 1 * 3584 + 1 * j.val = j.val; rw [(idx3 t).2]; omega

/-- Window 4's block at point `t`, at an index. -/
theorem blk4 (t : Fin cfg0.N) (p : Fin 1024) (d : Fin 128) (h : t.val % 2 * 1024 + p.val < 2048) :
    iblk m c 4 t (ix2 p d) = V m c main_v22 (ix2 ⟨t.val % 2 * 1024 + p.val, h⟩ d) := by
  show V m c main_v22 _ = V m c main_v22 _
  refine congrArg (V m c main_v22) (funext fun a => Fin.ext ?_)
  match a with
  | ⟨0, _⟩ => show win0_4.index t 0 * 1024 + 1 * p.val = t.val % 2 * 1024 + p.val; rw [(idx4 t).1]; omega
  | ⟨1, _⟩ => show win0_4.index t 1 * 128 + 1 * d.val = d.val; rw [(idx4 t).2]; omega

/-- Window 5's block at point `t`, at an index. -/
theorem blk5 (t : Fin cfg0.N) (p : Fin 1024) (d : Fin 128) (h : t.val % 2 * 1024 + p.val < 2048) :
    iblk m c 5 t (ix2 p d) = V m c main_v24 (ix2 ⟨t.val % 2 * 1024 + p.val, h⟩ d) := by
  show V m c main_v24 _ = V m c main_v24 _
  refine congrArg (V m c main_v24) (funext fun a => Fin.ext ?_)
  match a with
  | ⟨0, _⟩ => show win0_5.index t 0 * 1024 + 1 * p.val = t.val % 2 * 1024 + p.val; rw [(idx5 t).1]; omega
  | ⟨1, _⟩ => show win0_5.index t 1 * 128 + 1 * d.val = d.val; rw [(idx5 t).2]; omega

/-- Window 6's block at point `t`, at an index. -/
theorem blk6 (t : Fin cfg0.N) (p : Fin 64) (k : Fin 4096) (h : t.val * 64 + p.val < 1024) :
    iblk m c 6 t (ix2 p k) = V m c main_v29 (ix2 ⟨t.val * 64 + p.val, h⟩ k) := by
  show V m c main_v29 _ = V m c main_v29 _
  refine congrArg (V m c main_v29) (funext fun a => Fin.ext ?_)
  match a with
  | ⟨0, _⟩ => show win0_6.index t 0 * 64 + 1 * p.val = t.val * 64 + p.val; rw [(idx6 t).1]; omega
  | ⟨1, _⟩ => show win0_6.index t 1 * 4096 + 1 * k.val = k.val; rw [(idx6 t).2]; omega

/-- Window 7's block at point `t`, at an index. -/
theorem blk7 (t : Fin cfg0.N) (p : Fin 64) (k : Fin 4096) (h : t.val * 64 + p.val < 1024) :
    iblk m c 7 t (ix2 p k) = V m c main_v30 (ix2 ⟨t.val * 64 + p.val, h⟩ k) := by
  show V m c main_v30 _ = V m c main_v30 _
  refine congrArg (V m c main_v30) (funext fun a => Fin.ext ?_)
  match a with
  | ⟨0, _⟩ => show win0_7.index t 0 * 64 + 1 * p.val = t.val * 64 + p.val; rw [(idx7 t).1]; omega
  | ⟨1, _⟩ => show win0_7.index t 1 * 4096 + 1 * k.val = k.val; rw [(idx7 t).2]; omega

/-- Window 8's block at point `t`, at an index. -/
theorem blk8 (t : Fin cfg0.N) (p : Fin 256) (k : Fin 1024) (h : t.val * 256 + p.val < 4096) :
    iblk m c 8 t (ix2 p k) = V m c main_v31 (ix2 ⟨t.val * 256 + p.val, h⟩ k) := by
  show V m c main_v31 _ = V m c main_v31 _
  refine congrArg (V m c main_v31) (funext fun a => Fin.ext ?_)
  match a with
  | ⟨0, _⟩ => show win0_8.index t 0 * 256 + 1 * p.val = t.val * 256 + p.val; rw [(idx8 t).1]; omega
  | ⟨1, _⟩ => show win0_8.index t 1 * 1024 + 1 * k.val = k.val; rw [(idx8 t).2]; omega

/-- The sequence of a point, and its position in it. -/
def seq (t : Fin cfg0.N) : Fin 8 := ⟨t.val / 2, by have h := t.isLt; have hN : cfg0.N = 16 := N_0; omega⟩
def pos (t : Fin cfg0.N) : ℕ := t.val % 2 * 1024

/-- The head decays at every point. -/
theorem lg_at (t : Fin cfg0.N) (h : Fin 4) : LDL (iblk m c 0 t) h = LG h :=
  (LDL_apply _ h).trans ((blk0 m c t h).trans (V_lg m c h))

/-- What the scratch holds of the projection. -/
def WH (W : Vec Ideal S1024x3584 .bf16) : Prop := ∀ (k : Fin 1024) (j : Fin 3584), W (ix2 k j) = AW m c (ix3 0 k ⟨j.val, by omega⟩)

/-- The first point's fill is the projection. -/
theorem WH_fill (t : Fin cfg0.N) : WH m c (CW (X0_3 m c t)) := fun k j => (blk3 m c t k j).trans (V_w m c k _)

/-- The block of a point: its rows, the gain, the projection and the phases. -/
theorem blkH (t : Fin cfg0.N) (W : Vec Ideal S1024x3584 .bf16) (hW : WH m c W) :
    BlkH (AX m c) (AG m c) (AW m c) (seq t) (pos t) (iblk m c 1 t) (iblk m c 2 t) W (iblk m c 4 t) (iblk m c 5 t) where
  hP := by unfold pos; omega
  x p k := by
    have h := t.isLt
    have hN : cfg0.N = 16 := N_0
    refine (blk1 m c t p k (by omega)).trans ((V_x m c _ k).trans (congrArg₂ (fun u v => AX m c (ix3 u v k)) (Fin.ext ?_) (Fin.ext ?_)))
    · show (t.val * 1024 + p.val) / 2048 = t.val / 2
      omega
    · show (t.val * 1024 + p.val) % 2048 = t.val % 2 * 1024 + p.val
      omega
  g k := (blk2 m c t k).trans (V_g m c k)
  w := hW
  c p d := (blk4 m c t p d (by omega)).trans (V_cos m c _ d)
  s p d := (blk5 m c t p d (by omega)).trans (V_sin m c _ d)

variable (hg : ∀ k, Fin' (AG m c k)) (hw : ∀ k, Fin' (AW m c k))

/-- What the scratch holds after a point: the projection, the decay's tables, and the state after the point's rows. -/
structure Scr (t : Fin cfg0.N) (W : Vec Ideal S1024x3584 .bf16) (D : Vec Ideal S4x256x256 .f32) (Q K : Vec Ideal S4x256x128 .f32) (S : Vec Ideal S4x128x128 .f32) : Prop where
  wh : WH m c W
  tab : Tab (LDD D) (LDQ Q) (LDQ K)
  st : StH (AX m c) (AG m c) (AW m c) (seq t) (pos t + 1024) (LDS S)

/-- The scratch as a tuple. -/
abbrev ScrT (t : Fin cfg0.N) (o : _) (e : outsAt0 m c t.val t.isLt = o) : Prop :=
  Scr m c t o.2.2.2.2.2.2.2.1 o.2.2.2.2.2.2.2.2.1 o.2.2.2.2.2.2.2.2.2.1 o.2.2.2.2.2.2.2.2.2.2.1 o.2.2.2.2.2.2.2.2.2.2.2

/-- The state before a point whose position is zero. -/
theorem st_first (t : Fin cfg0.N) (h1 : t.val % 2 = 0) : StH (AX m c) (AG m c) (AW m c) (seq t) (pos t) (LDS ZS) := by
  have e : pos t = 0 := by unfold pos; omega
  rw [e]
  exact StH_zero _ _ _ _

/-- The state before any other point is the state after the one before. -/
theorem st_prev (t t' : Fin cfg0.N) (e : t'.val + 1 = t.val) (h1 : ¬t.val % 2 = 0) (S : Vec Ideal S4x128x128 .f32)
    (h : StH (AX m c) (AG m c) (AW m c) (seq t') (pos t' + 1024) (LDS S)) : StH (AX m c) (AG m c) (AW m c) (seq t) (pos t) (LDS S) := by
  have e1 : pos t = pos t' + 1024 := by unfold pos; omega
  have e2 : seq t = seq t' := Fin.ext (by show t.val / 2 = t'.val / 2; omega)
  rw [e1, e2]
  exact h

/-- Equal scratch holds the same. -/
theorem scr_eq (t : Fin cfg0.N) {W W' : Vec Ideal S1024x3584 .bf16} {D D' : Vec Ideal S4x256x256 .f32} {Q K Q' K' : Vec Ideal S4x256x128 .f32} {S S' : Vec Ideal S4x128x128 .f32}
    (eW : W = W') (eD : D = D') (eQ : Q = Q') (eK : K = K') (eS : S = S') (h : Scr m c t W' D' Q' K' S') : Scr m c t W D Q K S := by
  rw [eW, eD, eQ, eK, eS]; exact h

include hg hw

/-- One point: from what it finds, what it leaves. -/
theorem step (t : Fin cfg0.N) (W : Vec Ideal S1024x3584 .bf16) (D : Fin 4 → FVec Ideal S1x256x256 .f32) (Q K : Fin 4 → FVec Ideal S1x256x128 .f32)
    (s : Fin 4 → FVec Ideal S1x128x128 .f32) (hW : WH m c W) (hT : Tab D Q K) (hs : StH (AX m c) (AG m c) (AW m c) (seq t) (pos t) s) (L : List (View.Piece (Elt Ideal) S4x128x128 .f32)) :
    StH (AX m c) (AG m c) (AW m c) (seq t) (pos t + 1024) (LDS (OST (iblk m c 1 t) (iblk m c 2 t) W (iblk m c 4 t) (iblk m c 5 t) K (LDL (iblk m c 0 t)) s L)) :=
  StH_next _ _ _ (ST4_blk hg hw (blkH m c t W hW) hT (lg_at m c t) hs)

/-- After a first point the scratch holds what it should. -/
theorem scr_A (t : Fin cfg0.N) (h0 : t.val % 16 = 0) (h1 : t.val % 2 = 0) : ScrT m c t _ rfl := by
  obtain ⟨L, e⟩ := s_A m c t h0 h1
  exact scr_eq m c t (w_A m c t h0 h1) (td_A m c t h0 h1) (tq_A m c t h0 h1) (tk_A m c t h0 h1) e
    ⟨WH_fill m c t, Tab_read _ (lg_at m c t), step m c hg hw t _ _ _ _ _ (WH_fill m c t) (Tab_fill _ (lg_at m c t)) (st_first m c t h1) L⟩

/-- After a later point at the start of a sequence. -/
theorem scr_C (t : Fin cfg0.N) (h0 : ¬t.val % 16 = 0) (h1 : t.val % 2 = 0) (h : ScrT m c ⟨t.val - 1, Nat.lt_of_le_of_lt (Nat.sub_le _ _) t.isLt⟩ _ rfl) : ScrT m c t _ rfl := by
  obtain ⟨L, e⟩ := s_C m c t h0 h1
  exact scr_eq m c t (w_C m c t h0 h1) (td_C m c t h0 h1) (tq_C m c t h0 h1) (tk_C m c t h0 h1) e
    ⟨h.wh, h.tab, step m c hg hw t _ _ _ _ _ h.wh h.tab (st_first m c t h1) L⟩

/-- After a later point inside a sequence. -/
theorem scr_B (t : Fin cfg0.N) (h0 : ¬t.val % 16 = 0) (h1 : ¬t.val % 2 = 0) (h : ScrT m c ⟨t.val - 1, Nat.lt_of_le_of_lt (Nat.sub_le _ _) t.isLt⟩ _ rfl) : ScrT m c t _ rfl := by
  obtain ⟨L, e⟩ := s_B m c t h0 h1
  exact scr_eq m c t (w_B m c t h0 h1) (td_B m c t h0 h1) (tq_B m c t h0 h1) (tk_B m c t h0 h1) e
    ⟨h.wh, h.tab, step m c hg hw t _ _ _ _ _ h.wh h.tab (st_prev m c t ⟨t.val - 1, Nat.lt_of_le_of_lt (Nat.sub_le _ _) t.isLt⟩ (by show t.val - 1 + 1 = t.val; omega) h1 _ h.st) L⟩

/-- After every point the scratch holds what it should. -/
theorem scr (n : ℕ) : ∀ hn : n < cfg0.N, ScrT m c ⟨n, hn⟩ _ rfl := by
  induction n with
  | zero => exact fun hn => scr_A m c hg hw ⟨0, hn⟩ (Nat.zero_mod _) (Nat.zero_mod _)
  | succ n ih =>
    intro hn
    by_cases h0 : (n + 1) % 16 = 0
    · exact scr_A m c hg hw ⟨n + 1, hn⟩ h0 (by show (n + 1) % 2 = 0; omega)
    · by_cases h1 : (n + 1) % 2 = 0
      · exact scr_C m c hg hw ⟨n + 1, hn⟩ h0 h1 (ih _)
      · exact scr_B m c hg hw ⟨n + 1, hn⟩ h0 h1 (ih _)

/-- What every point stores: the block functions over a projection, tables and a state that are what they should be. -/
theorem point (t : Fin cfg0.N) : ∃ W D Q K s, WH m c W ∧ Tab D Q K ∧ StH (AX m c) (AG m c) (AW m c) (seq t) (pos t) s
    ∧ (outsAt0 m c t.val t.isLt).1 = OQ (iblk m c 1 t) (iblk m c 2 t) W
    ∧ (outsAt0 m c t.val t.isLt).2.1 = OK (iblk m c 1 t) (iblk m c 2 t) W
    ∧ (outsAt0 m c t.val t.isLt).2.2.1 = OV (iblk m c 1 t) (iblk m c 2 t) W
    ∧ (outsAt0 m c t.val t.isLt).2.2.2.1 = OOR (iblk m c 1 t) (iblk m c 2 t) W (iblk m c 4 t) (iblk m c 5 t) D Q K (LDL (iblk m c 0 t)) s
    ∧ ((outsAt0 m c t.val t.isLt).2.2.2.2.1 = fun i => iblk m c 6 t i)
    ∧ ((outsAt0 m c t.val t.isLt).2.2.2.2.2.1 = fun i => iblk m c 7 t i)
    ∧ ((outsAt0 m c t.val t.isLt).2.2.2.2.2.2.1 = fun i => iblk m c 8 t i) := by
  by_cases h0 : t.val % 16 = 0
  · have h1 : t.val % 2 = 0 := by omega
    exact ⟨_, _, _, _, _, WH_fill m c t, Tab_fill _ (lg_at m c t), st_first m c t h1, q_A m c t h0 h1, k_A m c t h0 h1, v_A m c t h0 h1, o_A m c t h0 h1,
      g_A m c t h0 h1, u_A m c t h0 h1, d_A m c t h0 h1⟩
  · have hp := scr m c hg hw (t.val - 1) (Nat.lt_of_le_of_lt (Nat.sub_le _ _) t.isLt)
    by_cases h1 : t.val % 2 = 0
    · exact ⟨_, _, _, _, _, hp.wh, hp.tab, st_first m c t h1, q_C m c t h0 h1, k_C m c t h0 h1, v_C m c t h0 h1, o_C m c t h0 h1,
        g_C m c t h0 h1, u_C m c t h0 h1, d_C m c t h0 h1⟩
    · exact ⟨_, _, _, _, _, hp.wh, hp.tab, st_prev m c t ⟨t.val - 1, Nat.lt_of_le_of_lt (Nat.sub_le _ _) t.isLt⟩ (by show t.val - 1 + 1 = t.val; omega) h1 _ hp.st, q_B m c t h0 h1, k_B m c t h0 h1, v_B m c t h0 h1, o_B m c t h0 h1,
        g_B m c t h0 h1, u_B m c t h0 h1, d_B m c t h0 h1⟩

end Cert.MixIdeal.Arr

end
-- ==== Proof.MixFinal.lean ====
/-
  The mixer's input kernel's seven result arrays: each point writes its block of one whole-array function of the arguments, and
  the blocks cover the arrays.
-/
module

public import proofs.«01_k».proof.Proof.MixArray

@[expose] public section

set_option maxRecDepth 16384

noncomputable section

namespace Cert.MixIdeal.Arr

open Idealize.ShloMosaic hiding ix1 ix2 ix3 ix4
open Cert.MixIdeal Cert.MixIdeal.Gen Cert.MixIdeal.Blk Idealize.ShloMosaic.TcCoe Idealize.ShloMosaic.ValueIdx Layer Idealize.SL.Sem
open Idealize.ShloMosaic.Pipeline (Dat)
open scoped BigOperators

variable (m : (ℓ : Loc nD τ sig) → Buf (Elt Ideal) ℓ) (c : Dev nD)

/-- What the seven result arrays are shown to hold. -/
abbrev R9 : S16384x512.Idx → EReal := qArr (AX m c) (AG m c) (AW m c)
abbrev R10 : S16384x512.Idx → EReal := colArr (AX m c) (AG m c) (AW m c) 512 (by norm_num)
abbrev R11 : S16384x512.Idx → EReal := colArr (AX m c) (AG m c) (AW m c) 1024 (by norm_num)
abbrev R12 : S16384x512.Idx → EReal := orArr (AX m c) (AG m c) (AW m c)
abbrev R13 : S1024x4096.Idx → EReal := plain2 (m ((c : Thread nD τ).loc main_arg3))
abbrev R14 : S1024x4096.Idx → EReal := plain2 (m ((c : Thread nD τ).loc main_arg4))
abbrev R15 : S4096x1024.Idx → EReal := plain2 (m ((c : Thread nD τ).loc main_arg5))

section Fin
variable (hg : ∀ k, Fin' (AG m c k)) (hw : ∀ k, Fin' (AW m c k))
include hg hw

/-- What point `t` writes back to window 9 is block `t` of the attention's queries. -/
theorem flushed_eq9 (t : Fin cfg0.N) : (dats m 0 c).flushed 9 t = (win0_9.blk t).view.read (Elt Ideal) (R9 m c) := by
  rw [Value.flushed9]
  funext y
  obtain ⟨p, n, rfl⟩ : ∃ (p : Fin 1024) (n : Fin 512), y = ix2 p n := ⟨y 0, y 1, ValueIdx.eq_ix2 y⟩
  have hN : cfg0.N = 16 := N_0
  have ht : t.val < 16 := hN ▸ t.isLt
  have h : t.val * 1024 + p.val < 16384 := by omega
  have e : (win0_9.blk t).view.read (Elt Ideal) (R9 m c) (ix2 p n) = R9 m c (ix2 ⟨t.val * 1024 + p.val, h⟩ n) := by
    show R9 m c _ = R9 m c _
    refine congrArg (R9 m c) (funext fun a => Fin.ext ?_)
    match a with
    | ⟨0, _⟩ => show win0_9.index t 0 * 1024 + 1 * p.val = t.val * 1024 + p.val; rw [(idx9 t).1]; omega
    | ⟨1, _⟩ => show win0_9.index t 1 * 512 + 1 * n.val = n.val; rw [(idx9 t).2]; omega
  rw [e]
  obtain ⟨W, D, Q, K, s, hW, hT, hs, e9, e10, e11, e12, e13, e14, e15⟩ := point m c hg hw t
  rw [e9]
  refine (OQ_blk (blkH m c t W hW) (ix2 p n)).trans ?_
  refine congrArg₂ (fun u v => proj (AX m c) (AG m c) (AW m c) u v ⟨0 + n.val, by omega⟩ * qScale) (Fin.ext ?_) (Fin.ext ?_)
  · show t.val / 2 = (t.val * 1024 + p.val) / 2048
    omega
  · show t.val % 2 * 1024 + p.val = (t.val * 1024 + p.val) % 2048
    omega

/-- What point `t` writes back to window 10 is block `t` of the attention's keys. -/
theorem flushed_eq10 (t : Fin cfg0.N) : (dats m 0 c).flushed 10 t = (win0_10.blk t).view.read (Elt Ideal) (R10 m c) := by
  rw [Value.flushed10]
  funext y
  obtain ⟨p, n, rfl⟩ : ∃ (p : Fin 1024) (n : Fin 512), y = ix2 p n := ⟨y 0, y 1, ValueIdx.eq_ix2 y⟩
  have hN : cfg0.N = 16 := N_0
  have ht : t.val < 16 := hN ▸ t.isLt
  have h : t.val * 1024 + p.val < 16384 := by omega
  have e : (win0_10.blk t).view.read (Elt Ideal) (R10 m c) (ix2 p n) = R10 m c (ix2 ⟨t.val * 1024 + p.val, h⟩ n) := by
    show R10 m c _ = R10 m c _
    refine congrArg (R10 m c) (funext fun a => Fin.ext ?_)
    match a with
    | ⟨0, _⟩ => show win0_10.index t 0 * 1024 + 1 * p.val = t.val * 1024 + p.val; rw [(idx10 t).1]; omega
    | ⟨1, _⟩ => show win0_10.index t 1 * 512 + 1 * n.val = n.val; rw [(idx10 t).2]; omega
  rw [e]
  obtain ⟨W, D, Q, K, s, hW, hT, hs, e9, e10, e11, e12, e13, e14, e15⟩ := point m c hg hw t
  rw [e10]
  refine (OK_blk (blkH m c t W hW) (ix2 p n)).trans ?_
  refine congrArg₂ (fun u v => proj (AX m c) (AG m c) (AW m c) u v ⟨512 + n.val, by omega⟩) (Fin.ext ?_) (Fin.ext ?_)
  · show t.val / 2 = (t.val * 1024 + p.val) / 2048
    omega
  · show t.val % 2 * 1024 + p.val = (t.val * 1024 + p.val) % 2048
    omega

/-- What point `t` writes back to window 11 is block `t` of the attention's values. -/
theorem flushed_eq11 (t : Fin cfg0.N) : (dats m 0 c).flushed 11 t = (win0_11.blk t).view.read (Elt Ideal) (R11 m c) := by
  rw [Value.flushed11]
  funext y
  obtain ⟨p, n, rfl⟩ : ∃ (p : Fin 1024) (n : Fin 512), y = ix2 p n := ⟨y 0, y 1, ValueIdx.eq_ix2 y⟩
  have hN : cfg0.N = 16 := N_0
  have ht : t.val < 16 := hN ▸ t.isLt
  have h : t.val * 1024 + p.val < 16384 := by omega
  have e : (win0_11.blk t).view.read (Elt Ideal) (R11 m c) (ix2 p n) = R11 m c (ix2 ⟨t.val * 1024 + p.val, h⟩ n) := by
    show R11 m c _ = R11 m c _
    refine congrArg (R11 m c) (funext fun a => Fin.ext ?_)
    match a with
    | ⟨0, _⟩ => show win0_11.index t 0 * 1024 + 1 * p.val = t.val * 1024 + p.val; rw [(idx11 t).1]; omega
    | ⟨1, _⟩ => show win0_11.index t 1 * 512 + 1 * n.val = n.val; rw [(idx11 t).2]; omega
  rw [e]
  obtain ⟨W, D, Q, K, s, hW, hT, hs, e9, e10, e11, e12, e13, e14, e15⟩ := point m c hg hw t
  rw [e11]
  refine (OV_blk (blkH m c t W hW) (ix2 p n)).trans ?_
  refine congrArg₂ (fun u v => proj (AX m c) (AG m c) (AW m c) u v ⟨1024 + n.val, by omega⟩) (Fin.ext ?_) (Fin.ext ?_)
  · show t.val / 2 = (t.val * 1024 + p.val) / 2048
    omega
  · show t.val % 2 * 1024 + p.val = (t.val * 1024 + p.val) % 2048
    omega

/-- What point `t` writes back to window 12 is block `t` of the retention's rows. -/
theorem flushed_eq12 (t : Fin cfg0.N) : (dats m 0 c).flushed 12 t = (win0_12.blk t).view.read (Elt Ideal) (R12 m c) := by
  rw [Value.flushed12]
  funext y
  obtain ⟨p, n, rfl⟩ : ∃ (p : Fin 1024) (n : Fin 512), y = ix2 p n := ⟨y 0, y 1, ValueIdx.eq_ix2 y⟩
  have hN : cfg0.N = 16 := N_0
  have ht : t.val < 16 := hN ▸ t.isLt
  have h : t.val * 1024 + p.val < 16384 := by omega
  have e : (win0_12.blk t).view.read (Elt Ideal) (R12 m c) (ix2 p n) = R12 m c (ix2 ⟨t.val * 1024 + p.val, h⟩ n) := by
    show R12 m c _ = R12 m c _
    refine congrArg (R12 m c) (funext fun a => Fin.ext ?_)
    match a with
    | ⟨0, _⟩ => show win0_12.index t 0 * 1024 + 1 * p.val = t.val * 1024 + p.val; rw [(idx12 t).1]; omega
    | ⟨1, _⟩ => show win0_12.index t 1 * 512 + 1 * n.val = n.val; rw [(idx12 t).2]; omega
  rw [e]
  obtain ⟨W, D, Q, K, s, hW, hT, hs, e9, e10, e11, e12, e13, e14, e15⟩ := point m c hg hw t
  rw [e12]
  refine (OOR_blk hg hw (blkH m c t W hW) hT (lg_at m c t) hs (ix2 p n)).trans ?_
  refine congrArg₂ (fun u v => gnE (retE (AX m c) (AG m c) (AW m c) u v ⟨n.val / 128, by omega⟩) (gE (AX m c) (AG m c) (AW m c) u v ⟨n.val / 128, by omega⟩) ⟨n.val % 128, Nat.mod_lt _ (by norm_num)⟩) (Fin.ext ?_) (Fin.ext ?_)
  · show t.val / 2 = (t.val * 1024 + p.val) / 2048
    omega
  · show t.val % 2 * 1024 + p.val = (t.val * 1024 + p.val) % 2048
    omega

/-- What point `t` writes back to window 13 is block `t` of the first weight. -/
theorem flushed_eq13 (t : Fin cfg0.N) : (dats m 0 c).flushed 13 t = (win0_13.blk t).view.read (Elt Ideal) (R13 m c) := by
  rw [Value.flushed13]
  funext y
  obtain ⟨p, n, rfl⟩ : ∃ (p : Fin 64) (n : Fin 4096), y = ix2 p n := ⟨y 0, y 1, ValueIdx.eq_ix2 y⟩
  have hN : cfg0.N = 16 := N_0
  have ht : t.val < 16 := hN ▸ t.isLt
  have h : t.val * 64 + p.val < 1024 := by omega
  have e : (win0_13.blk t).view.read (Elt Ideal) (R13 m c) (ix2 p n) = R13 m c (ix2 ⟨t.val * 64 + p.val, h⟩ n) := by
    show R13 m c _ = R13 m c _
    refine congrArg (R13 m c) (funext fun a => Fin.ext ?_)
    match a with
    | ⟨0, _⟩ => show win0_13.index t 0 * 64 + 1 * p.val = t.val * 64 + p.val; rw [(idx13 t).1]; omega
    | ⟨1, _⟩ => show win0_13.index t 1 * 4096 + 1 * n.val = n.val; rw [(idx13 t).2]; omega
  rw [e]
  obtain ⟨W, D, Q, K, s, hW, hT, hs, e9, e10, e11, e12, e13, e14, e15⟩ := point m c hg hw t
  rw [e13]
  exact (blk6 m c t p n h).trans (V_29 m c _ n)

/-- What point `t` writes back to window 14 is block `t` of the second weight. -/
theorem flushed_eq14 (t : Fin cfg0.N) : (dats m 0 c).flushed 14 t = (win0_14.blk t).view.read (Elt Ideal) (R14 m c) := by
  rw [Value.flushed14]
  funext y
  obtain ⟨p, n, rfl⟩ : ∃ (p : Fin 64) (n : Fin 4096), y = ix2 p n := ⟨y 0, y 1, ValueIdx.eq_ix2 y⟩
  have hN : cfg0.N = 16 := N_0
  have ht : t.val < 16 := hN ▸ t.isLt
  have h : t.val * 64 + p.val < 1024 := by omega
  have e : (win0_14.blk t).view.read (Elt Ideal) (R14 m c) (ix2 p n) = R14 m c (ix2 ⟨t.val * 64 + p.val, h⟩ n) := by
    show R14 m c _ = R14 m c _
    refine congrArg (R14 m c) (funext fun a => Fin.ext ?_)
    match a with
    | ⟨0, _⟩ => show win0_14.index t 0 * 64 + 1 * p.val = t.val * 64 + p.val; rw [(idx14 t).1]; omega
    | ⟨1, _⟩ => show win0_14.index t 1 * 4096 + 1 * n.val = n.val; rw [(idx14 t).2]; omega
  rw [e]
  obtain ⟨W, D, Q, K, s, hW, hT, hs, e9, e10, e11, e12, e13, e14, e15⟩ := point m c hg hw t
  rw [e14]
  exact (blk7 m c t p n h).trans (V_30 m c _ n)

/-- What point `t` writes back to window 15 is block `t` of the third weight. -/
theorem flushed_eq15 (t : Fin cfg0.N) : (dats m 0 c).flushed 15 t = (win0_15.blk t).view.read (Elt Ideal) (R15 m c) := by
  rw [Value.flushed15]
  funext y
  obtain ⟨p, n, rfl⟩ : ∃ (p : Fin 256) (n : Fin 1024), y = ix2 p n := ⟨y 0, y 1, ValueIdx.eq_ix2 y⟩
  have hN : cfg0.N = 16 := N_0
  have ht : t.val < 16 := hN ▸ t.isLt
  have h : t.val * 256 + p.val < 4096 := by omega
  have e : (win0_15.blk t).view.read (Elt Ideal) (R15 m c) (ix2 p n) = R15 m c (ix2 ⟨t.val * 256 + p.val, h⟩ n) := by
    show R15 m c _ = R15 m c _
    refine congrArg (R15 m c) (funext fun a => Fin.ext ?_)
    match a with
    | ⟨0, _⟩ => show win0_15.index t 0 * 256 + 1 * p.val = t.val * 256 + p.val; rw [(idx15 t).1]; omega
    | ⟨1, _⟩ => show win0_15.index t 1 * 1024 + 1 * n.val = n.val; rw [(idx15 t).2]; omega
  rw [e]
  obtain ⟨W, D, Q, K, s, hW, hT, hs, e9, e10, e11, e12, e13, e14, e15⟩ := point m c hg hw t
  rw [e15]
  exact (blk8 m c t p n h).trans (V_31 m c _ n)

end Fin

/-- An index of window 9's array is in point `t`'s block when its row is in the `t`-th run. -/
theorem mem_blk9 (t : Fin cfg0.N) (i : S16384x512.Idx) :
    i ∈ ((cfg0.win 9).blk t).view.set ↔ t.val * 1024 ≤ (i 0).val ∧ (i 0).val < t.val * 1024 + 1024 := by
  show i ∈ ((View.whole main_v32_0).slice (win0_9.rect t)).set ↔ _
  rw [View.set_slice_whole, Rect.mem_set_unit]
  have h1 : (i 1).val < 512 := (i 1).isLt
  refine ⟨fun h => ?_, fun h a => ?_⟩
  · have h0 : win0_9.index t 0 * 1024 ≤ (i 0).val ∧ (i 0).val < win0_9.index t 0 * 1024 + 1024 := h 0
    rwa [(idx9 t).1] at h0
  · match a with
    | ⟨0, _⟩ =>
      show win0_9.index t 0 * 1024 ≤ (i 0).val ∧ (i 0).val < win0_9.index t 0 * 1024 + 1024
      rw [(idx9 t).1]; exact h
    | ⟨1, _⟩ =>
      show win0_9.index t 1 * 512 ≤ (i 1).val ∧ (i 1).val < win0_9.index t 1 * 512 + 512
      rw [(idx9 t).2, Nat.zero_mul, Nat.zero_add]
      exact ⟨Nat.zero_le _, h1⟩

/-- The blocks cover window 9's array. -/
theorem cover9 (i : S16384x512.Idx) : ∃ t : Fin cfg0.N, (cfg0.win 9).flush t = true ∧ i ∈ ((cfg0.win 9).blk t).view.set := by
  have h0 : (i 0).val < 16384 := (i 0).isLt
  have hN : cfg0.N = 16 := N_0
  refine ⟨⟨(i 0).val / 1024, by rw [hN]; omega⟩, flush0_9 _, ?_⟩
  rw [mem_blk9]
  dsimp only
  omega

/-- Window 9's array ends holding the attention's queries. -/
theorem final9 (hg : ∀ k, Fin' (AG m c k)) (hw : ∀ k, Fin' (AW m c k)) : (dats m 0 c).arrAt 9 cfg0.N = R9 m c :=
  (dats m 0 c).arrAt_eq_of_cover 9 (R9 m c) (fun t _ => flushed_eq9 m c hg hw t) cover9

/-- An index of window 10's array is in point `t`'s block when its row is in the `t`-th run. -/
theorem mem_blk10 (t : Fin cfg0.N) (i : S16384x512.Idx) :
    i ∈ ((cfg0.win 10).blk t).view.set ↔ t.val * 1024 ≤ (i 0).val ∧ (i 0).val < t.val * 1024 + 1024 := by
  show i ∈ ((View.whole main_v32_1).slice (win0_10.rect t)).set ↔ _
  rw [View.set_slice_whole, Rect.mem_set_unit]
  have h1 : (i 1).val < 512 := (i 1).isLt
  refine ⟨fun h => ?_, fun h a => ?_⟩
  · have h0 : win0_10.index t 0 * 1024 ≤ (i 0).val ∧ (i 0).val < win0_10.index t 0 * 1024 + 1024 := h 0
    rwa [(idx10 t).1] at h0
  · match a with
    | ⟨0, _⟩ =>
      show win0_10.index t 0 * 1024 ≤ (i 0).val ∧ (i 0).val < win0_10.index t 0 * 1024 + 1024
      rw [(idx10 t).1]; exact h
    | ⟨1, _⟩ =>
      show win0_10.index t 1 * 512 ≤ (i 1).val ∧ (i 1).val < win0_10.index t 1 * 512 + 512
      rw [(idx10 t).2, Nat.zero_mul, Nat.zero_add]
      exact ⟨Nat.zero_le _, h1⟩

/-- The blocks cover window 10's array. -/
theorem cover10 (i : S16384x512.Idx) : ∃ t : Fin cfg0.N, (cfg0.win 10).flush t = true ∧ i ∈ ((cfg0.win 10).blk t).view.set := by
  have h0 : (i 0).val < 16384 := (i 0).isLt
  have hN : cfg0.N = 16 := N_0
  refine ⟨⟨(i 0).val / 1024, by rw [hN]; omega⟩, flush0_10 _, ?_⟩
  rw [mem_blk10]
  dsimp only
  omega

/-- Window 10's array ends holding the attention's keys. -/
theorem final10 (hg : ∀ k, Fin' (AG m c k)) (hw : ∀ k, Fin' (AW m c k)) : (dats m 0 c).arrAt 10 cfg0.N = R10 m c :=
  (dats m 0 c).arrAt_eq_of_cover 10 (R10 m c) (fun t _ => flushed_eq10 m c hg hw t) cover10

/-- An index of window 11's array is in point `t`'s block when its row is in the `t`-th run. -/
theorem mem_blk11 (t : Fin cfg0.N) (i : S16384x512.Idx) :
    i ∈ ((cfg0.win 11).blk t).view.set ↔ t.val * 1024 ≤ (i 0).val ∧ (i 0).val < t.val * 1024 + 1024 := by
  show i ∈ ((View.whole main_v32_2).slice (win0_11.rect t)).set ↔ _
  rw [View.set_slice_whole, Rect.mem_set_unit]
  have h1 : (i 1).val < 512 := (i 1).isLt
  refine ⟨fun h => ?_, fun h a => ?_⟩
  · have h0 : win0_11.index t 0 * 1024 ≤ (i 0).val ∧ (i 0).val < win0_11.index t 0 * 1024 + 1024 := h 0
    rwa [(idx11 t).1] at h0
  · match a with
    | ⟨0, _⟩ =>
      show win0_11.index t 0 * 1024 ≤ (i 0).val ∧ (i 0).val < win0_11.index t 0 * 1024 + 1024
      rw [(idx11 t).1]; exact h
    | ⟨1, _⟩ =>
      show win0_11.index t 1 * 512 ≤ (i 1).val ∧ (i 1).val < win0_11.index t 1 * 512 + 512
      rw [(idx11 t).2, Nat.zero_mul, Nat.zero_add]
      exact ⟨Nat.zero_le _, h1⟩

/-- The blocks cover window 11's array. -/
theorem cover11 (i : S16384x512.Idx) : ∃ t : Fin cfg0.N, (cfg0.win 11).flush t = true ∧ i ∈ ((cfg0.win 11).blk t).view.set := by
  have h0 : (i 0).val < 16384 := (i 0).isLt
  have hN : cfg0.N = 16 := N_0
  refine ⟨⟨(i 0).val / 1024, by rw [hN]; omega⟩, flush0_11 _, ?_⟩
  rw [mem_blk11]
  dsimp only
  omega

/-- Window 11's array ends holding the attention's values. -/
theorem final11 (hg : ∀ k, Fin' (AG m c k)) (hw : ∀ k, Fin' (AW m c k)) : (dats m 0 c).arrAt 11 cfg0.N = R11 m c :=
  (dats m 0 c).arrAt_eq_of_cover 11 (R11 m c) (fun t _ => flushed_eq11 m c hg hw t) cover11

/-- An index of window 12's array is in point `t`'s block when its row is in the `t`-th run. -/
theorem mem_blk12 (t : Fin cfg0.N) (i : S16384x512.Idx) :
    i ∈ ((cfg0.win 12).blk t).view.set ↔ t.val * 1024 ≤ (i 0).val ∧ (i 0).val < t.val * 1024 + 1024 := by
  show i ∈ ((View.whole main_v32_3).slice (win0_12.rect t)).set ↔ _
  rw [View.set_slice_whole, Rect.mem_set_unit]
  have h1 : (i 1).val < 512 := (i 1).isLt
  refine ⟨fun h => ?_, fun h a => ?_⟩
  · have h0 : win0_12.index t 0 * 1024 ≤ (i 0).val ∧ (i 0).val < win0_12.index t 0 * 1024 + 1024 := h 0
    rwa [(idx12 t).1] at h0
  · match a with
    | ⟨0, _⟩ =>
      show win0_12.index t 0 * 1024 ≤ (i 0).val ∧ (i 0).val < win0_12.index t 0 * 1024 + 1024
      rw [(idx12 t).1]; exact h
    | ⟨1, _⟩ =>
      show win0_12.index t 1 * 512 ≤ (i 1).val ∧ (i 1).val < win0_12.index t 1 * 512 + 512
      rw [(idx12 t).2, Nat.zero_mul, Nat.zero_add]
      exact ⟨Nat.zero_le _, h1⟩

/-- The blocks cover window 12's array. -/
theorem cover12 (i : S16384x512.Idx) : ∃ t : Fin cfg0.N, (cfg0.win 12).flush t = true ∧ i ∈ ((cfg0.win 12).blk t).view.set := by
  have h0 : (i 0).val < 16384 := (i 0).isLt
  have hN : cfg0.N = 16 := N_0
  refine ⟨⟨(i 0).val / 1024, by rw [hN]; omega⟩, flush0_12 _, ?_⟩
  rw [mem_blk12]
  dsimp only
  omega

/-- Window 12's array ends holding the retention's rows. -/
theorem final12 (hg : ∀ k, Fin' (AG m c k)) (hw : ∀ k, Fin' (AW m c k)) : (dats m 0 c).arrAt 12 cfg0.N = R12 m c :=
  (dats m 0 c).arrAt_eq_of_cover 12 (R12 m c) (fun t _ => flushed_eq12 m c hg hw t) cover12

/-- An index of window 13's array is in point `t`'s block when its row is in the `t`-th run. -/
theorem mem_blk13 (t : Fin cfg0.N) (i : S1024x4096.Idx) :
    i ∈ ((cfg0.win 13).blk t).view.set ↔ t.val * 64 ≤ (i 0).val ∧ (i 0).val < t.val * 64 + 64 := by
  show i ∈ ((View.whole main_v32_4).slice (win0_13.rect t)).set ↔ _
  rw [View.set_slice_whole, Rect.mem_set_unit]
  have h1 : (i 1).val < 4096 := (i 1).isLt
  refine ⟨fun h => ?_, fun h a => ?_⟩
  · have h0 : win0_13.index t 0 * 64 ≤ (i 0).val ∧ (i 0).val < win0_13.index t 0 * 64 + 64 := h 0
    rwa [(idx13 t).1] at h0
  · match a with
    | ⟨0, _⟩ =>
      show win0_13.index t 0 * 64 ≤ (i 0).val ∧ (i 0).val < win0_13.index t 0 * 64 + 64
      rw [(idx13 t).1]; exact h
    | ⟨1, _⟩ =>
      show win0_13.index t 1 * 4096 ≤ (i 1).val ∧ (i 1).val < win0_13.index t 1 * 4096 + 4096
      rw [(idx13 t).2, Nat.zero_mul, Nat.zero_add]
      exact ⟨Nat.zero_le _, h1⟩

/-- The blocks cover window 13's array. -/
theorem cover13 (i : S1024x4096.Idx) : ∃ t : Fin cfg0.N, (cfg0.win 13).flush t = true ∧ i ∈ ((cfg0.win 13).blk t).view.set := by
  have h0 : (i 0).val < 1024 := (i 0).isLt
  have hN : cfg0.N = 16 := N_0
  refine ⟨⟨(i 0).val / 64, by rw [hN]; omega⟩, flush0_13 _, ?_⟩
  rw [mem_blk13]
  dsimp only
  omega

/-- Window 13's array ends holding the first weight. -/
theorem final13 (hg : ∀ k, Fin' (AG m c k)) (hw : ∀ k, Fin' (AW m c k)) : (dats m 0 c).arrAt 13 cfg0.N = R13 m c :=
  (dats m 0 c).arrAt_eq_of_cover 13 (R13 m c) (fun t _ => flushed_eq13 m c hg hw t) cover13

/-- An index of window 14's array is in point `t`'s block when its row is in the `t`-th run. -/
theorem mem_blk14 (t : Fin cfg0.N) (i : S1024x4096.Idx) :
    i ∈ ((cfg0.win 14).blk t).view.set ↔ t.val * 64 ≤ (i 0).val ∧ (i 0).val < t.val * 64 + 64 := by
  show i ∈ ((View.whole main_v32_5).slice (win0_14.rect t)).set ↔ _
  rw [View.set_slice_whole, Rect.mem_set_unit]
  have h1 : (i 1).val < 4096 := (i 1).isLt
  refine ⟨fun h => ?_, fun h a => ?_⟩
  · have h0 : win0_14.index t 0 * 64 ≤ (i 0).val ∧ (i 0).val < win0_14.index t 0 * 64 + 64 := h 0
    rwa [(idx14 t).1] at h0
  · match a with
    | ⟨0, _⟩ =>
      show win0_14.index t 0 * 64 ≤ (i 0).val ∧ (i 0).val < win0_14.index t 0 * 64 + 64
      rw [(idx14 t).1]; exact h
    | ⟨1, _⟩ =>
      show win0_14.index t 1 * 4096 ≤ (i 1).val ∧ (i 1).val < win0_14.index t 1 * 4096 + 4096
      rw [(idx14 t).2, Nat.zero_mul, Nat.zero_add]
      exact ⟨Nat.zero_le _, h1⟩

/-- The blocks cover window 14's array. -/
theorem cover14 (i : S1024x4096.Idx) : ∃ t : Fin cfg0.N, (cfg0.win 14).flush t = true ∧ i ∈ ((cfg0.win 14).blk t).view.set := by
  have h0 : (i 0).val < 1024 := (i 0).isLt
  have hN : cfg0.N = 16 := N_0
  refine ⟨⟨(i 0).val / 64, by rw [hN]; omega⟩, flush0_14 _, ?_⟩
  rw [mem_blk14]
  dsimp only
  omega

/-- Window 14's array ends holding the second weight. -/
theorem final14 (hg : ∀ k, Fin' (AG m c k)) (hw : ∀ k, Fin' (AW m c k)) : (dats m 0 c).arrAt 14 cfg0.N = R14 m c :=
  (dats m 0 c).arrAt_eq_of_cover 14 (R14 m c) (fun t _ => flushed_eq14 m c hg hw t) cover14

/-- An index of window 15's array is in point `t`'s block when its row is in the `t`-th run. -/
theorem mem_blk15 (t : Fin cfg0.N) (i : S4096x1024.Idx) :
    i ∈ ((cfg0.win 15).blk t).view.set ↔ t.val * 256 ≤ (i 0).val ∧ (i 0).val < t.val * 256 + 256 := by
  show i ∈ ((View.whole main_v32_6).slice (win0_15.rect t)).set ↔ _
  rw [View.set_slice_whole, Rect.mem_set_unit]
  have h1 : (i 1).val < 1024 := (i 1).isLt
  refine ⟨fun h => ?_, fun h a => ?_⟩
  · have h0 : win0_15.index t 0 * 256 ≤ (i 0).val ∧ (i 0).val < win0_15.index t 0 * 256 + 256 := h 0
    rwa [(idx15 t).1] at h0
  · match a with
    | ⟨0, _⟩ =>
      show win0_15.index t 0 * 256 ≤ (i 0).val ∧ (i 0).val < win0_15.index t 0 * 256 + 256
      rw [(idx15 t).1]; exact h
    | ⟨1, _⟩ =>
      show win0_15.index t 1 * 1024 ≤ (i 1).val ∧ (i 1).val < win0_15.index t 1 * 1024 + 1024
      rw [(idx15 t).2, Nat.zero_mul, Nat.zero_add]
      exact ⟨Nat.zero_le _, h1⟩

/-- The blocks cover window 15's array. -/
theorem cover15 (i : S4096x1024.Idx) : ∃ t : Fin cfg0.N, (cfg0.win 15).flush t = true ∧ i ∈ ((cfg0.win 15).blk t).view.set := by
  have h0 : (i 0).val < 4096 := (i 0).isLt
  have hN : cfg0.N = 16 := N_0
  refine ⟨⟨(i 0).val / 256, by rw [hN]; omega⟩, flush0_15 _, ?_⟩
  rw [mem_blk15]
  dsimp only
  omega

/-- Window 15's array ends holding the third weight. -/
theorem final15 (hg : ∀ k, Fin' (AG m c k)) (hw : ∀ k, Fin' (AW m c k)) : (dats m 0 c).arrAt 15 cfg0.N = R15 m c :=
  (dats m 0 c).arrAt_eq_of_cover 15 (R15 m c) (fun t _ => flushed_eq15 m c hg hw t) cover15

end Cert.MixIdeal.Arr

end
-- ==== Proof.MixRef.lean ====
/-
  The reference of the mixer's input, read at an index: the projection's columns, the rotary phases, the decays, the plain
  quadratic retention and its gated group norm.
-/
module

public import proofs.«01_k».proof.Proof.MixRow
public import proofs.«01_k».proof.Proof.Gen.MixRefIdeal.Read

@[expose] public section

set_option maxRecDepth 16384

noncomputable section

namespace Cert.MixRefIdeal.Rd

open Cert.MixRefIdeal Cert.MixRefIdeal.Read Idealize.ShloMosaic Idealize.ShloMosaic.TcCoe Idealize.ShloMosaic.ValueIdx Layer
open scoped BigOperators

/-- A small number read back as a signed one, as an extended real. -/
theorem toE (n : ℕ) (h : n < 2048) : (((BitVec.ofNat 32 n).toInt : ℝ) : EReal) = ((n : ℝ) : EReal) := by
  have e : (BitVec.ofNat 32 n).toInt = (n : ℤ) := by
    rw [BitVec.toInt_ofNat']
    simp only [Int.bmod_def]
    omega
  rw [e]; norm_cast

variable (x0 : (⟨S8x2048x1024, .f32⟩ : BufTy).Contents (Elt Ideal)) (x1 : (⟨S1x1024, .f32⟩ : BufTy).Contents (Elt Ideal)) (x2 : (⟨S1x1024x5632, .f32⟩ : BufTy).Contents (Elt Ideal))
  (x3 x4 : (⟨S1x1024x4096, .f32⟩ : BufTy).Contents (Elt Ideal)) (x5 : (⟨S1x4096x1024, .f32⟩ : BufTy).Contents (Elt Ideal))

/-- The logarithm of a head's decay. -/
theorem v8 (h : Fin 4) : val_main_v8 (F := Ideal) (ix1 h) = LG h := by
  simp only [val_main_v8_apply, val_main_v7_apply, val_main_v6_apply, val_main_v5_apply, val_main_v4_apply, val_main_v3_apply, val_main_v2_apply,
    val_main_cst_apply, val_main_cst_0_apply, val_main_cst_1_apply]
  show Ideal.log (one - Ideal.pow two (mfive - (((BitVec.ofNat 32 h.val).toInt : ℝ) : EReal))) = _
  rw [toE h.val (by omega)]
  rfl

/-- The norm at an index. -/
theorem v22 (b : Fin 8) (s : Fin 2048) (n : Fin 1024) :
    val_main_v22 (F := Ideal) x0 x1 (ix3 b s n) = rmsRow w1024 (fun k => x0 (ix3 b s k)) (fun k => x1 (ix2 0 k)) n := by
  simp only [val_main_v22_apply, val_main_v21_apply, val_main_v20_apply, val_main_v9_apply, val_main_v19_apply, val_main_v18_apply, val_main_v17_apply,
    val_main_v16_apply, val_main_v15_apply, val_main_v14_apply, val_main_v13_apply, val_main_v12_apply, val_main_v11_apply, val_main_v10_apply,
    val_main_cst_2_apply, val_main_cst_3_apply, val_main_cst_4_apply]
  have e1 : ∀ k, idx_main_v11 (idx_main_v12 (idx_main_v18 (ix3 b s n))) k = ix3 b s k := fun k => funext fun a => by
    match a with
    | ⟨0, _⟩ => rfl
    | ⟨1, _⟩ => rfl
    | ⟨2, _⟩ => rfl
  have e2 : idx_main_v9 (idx_main_v20 (idx_main_v21 (ix3 b s n))) = ix2 0 n := funext fun a => by
    match a with
    | ⟨0, _⟩ => rfl
    | ⟨1, _⟩ => exact Fin.ext (Nat.mod_eq_of_lt n.isLt)
  simp only [e1, e2]
  show x0 (ix3 b s n) * Ideal.rsqrt (Ideal.div (Ideal.ofBits .f32 0x00000000#32 + ∑ k, x0 (ix3 b s k) * x0 (ix3 b s k)) w1024 + eps) * x1 (ix2 0 n) = _
  rw [Ideal.ofBits_zero_f32, zero_add]
  rfl

/-- The input projection at an index. -/
theorem v24 (b : Fin 8) (s : Fin 2048) (j : Fin 5632) : val_main_v24 (F := Ideal) x0 x1 x2 (ix3 b s j) = proj x0 x1 x2 b s j := by
  rw [val_main_v24_apply]
  refine Finset.sum_congr rfl fun k _ => ?_
  rw [show lidx_main_v24 (ix3 b s j) k = ix3 b s k from funext fun a => by
      match a with
      | ⟨0, _⟩ => rfl
      | ⟨1, _⟩ => rfl
      | ⟨2, _⟩ => rfl, v22, val_main_v23_apply]
  refine congrArg (_ * x2 ·) (funext fun a => ?_)
  have hk := k.isLt
  have hj := j.isLt
  match a with
  | ⟨0, _⟩ => rfl
  | ⟨1, _⟩ => exact Fin.ext (by show (k.val * 5632 + j.val) / 5632 % 1024 = k.val; omega)
  | ⟨2, _⟩ => exact Fin.ext (by show (k.val * 5632 + j.val) % 5632 = j.val; omega)

/-- The columns of the attention's queries at an index. -/
theorem v25 (b : Fin 8) (s : Fin 2048) (j : Fin 512) : val_main_v25 (F := Ideal) x0 x1 x2 (ix3 b s j) = proj x0 x1 x2 b s ⟨0 + j.val, by omega⟩ := by
  rw [val_main_v25_apply, show idx_main_v25 (ix3 b s j) = ix3 b s ⟨0 + j.val, by omega⟩ from funext fun a => Fin.ext (by
      match a with
      | ⟨0, _⟩ => rfl
      | ⟨1, _⟩ => rfl
      | ⟨2, _⟩ => show j.val = 0 + j.val; omega), v24]

/-- The columns of the attention's keys at an index. -/
theorem v26 (b : Fin 8) (s : Fin 2048) (j : Fin 512) : val_main_v26 (F := Ideal) x0 x1 x2 (ix3 b s j) = proj x0 x1 x2 b s ⟨512 + j.val, by omega⟩ := by
  rw [val_main_v26_apply, show idx_main_v26 (ix3 b s j) = ix3 b s ⟨512 + j.val, by omega⟩ from funext fun a => Fin.ext (by
      match a with
      | ⟨0, _⟩ => rfl
      | ⟨1, _⟩ => rfl
      | ⟨2, _⟩ => rfl), v24]

/-- The columns of the attention's values at an index. -/
theorem v27 (b : Fin 8) (s : Fin 2048) (j : Fin 512) : val_main_v27 (F := Ideal) x0 x1 x2 (ix3 b s j) = proj x0 x1 x2 b s ⟨1024 + j.val, by omega⟩ := by
  rw [val_main_v27_apply, show idx_main_v27 (ix3 b s j) = ix3 b s ⟨1024 + j.val, by omega⟩ from funext fun a => Fin.ext (by
      match a with
      | ⟨0, _⟩ => rfl
      | ⟨1, _⟩ => rfl
      | ⟨2, _⟩ => rfl), v24]

/-- The columns of the retention's queries at an index. -/
theorem v28 (b : Fin 8) (s : Fin 2048) (j : Fin 512) : val_main_v28 (F := Ideal) x0 x1 x2 (ix3 b s j) = proj x0 x1 x2 b s ⟨1536 + j.val, by omega⟩ := by
  rw [val_main_v28_apply, show idx_main_v28 (ix3 b s j) = ix3 b s ⟨1536 + j.val, by omega⟩ from funext fun a => Fin.ext (by
      match a with
      | ⟨0, _⟩ => rfl
      | ⟨1, _⟩ => rfl
      | ⟨2, _⟩ => rfl), v24]

/-- The columns of the retention's keys at an index. -/
theorem v29 (b : Fin 8) (s : Fin 2048) (j : Fin 512) : val_main_v29 (F := Ideal) x0 x1 x2 (ix3 b s j) = proj x0 x1 x2 b s ⟨2048 + j.val, by omega⟩ := by
  rw [val_main_v29_apply, show idx_main_v29 (ix3 b s j) = ix3 b s ⟨2048 + j.val, by omega⟩ from funext fun a => Fin.ext (by
      match a with
      | ⟨0, _⟩ => rfl
      | ⟨1, _⟩ => rfl
      | ⟨2, _⟩ => rfl), v24]

/-- The columns of the retention's values at an index. -/
theorem v30 (b : Fin 8) (s : Fin 2048) (j : Fin 512) : val_main_v30 (F := Ideal) x0 x1 x2 (ix3 b s j) = proj x0 x1 x2 b s ⟨2560 + j.val, by omega⟩ := by
  rw [val_main_v30_apply, show idx_main_v30 (ix3 b s j) = ix3 b s ⟨2560 + j.val, by omega⟩ from funext fun a => Fin.ext (by
      match a with
      | ⟨0, _⟩ => rfl
      | ⟨1, _⟩ => rfl
      | ⟨2, _⟩ => rfl), v24]

/-- The columns of the retention's gates at an index. -/
theorem v31 (b : Fin 8) (s : Fin 2048) (j : Fin 512) : val_main_v31 (F := Ideal) x0 x1 x2 (ix3 b s j) = proj x0 x1 x2 b s ⟨3072 + j.val, by omega⟩ := by
  rw [val_main_v31_apply, show idx_main_v31 (ix3 b s j) = ix3 b s ⟨3072 + j.val, by omega⟩ from funext fun a => Fin.ext (by
      match a with
      | ⟨0, _⟩ => rfl
      | ⟨1, _⟩ => rfl
      | ⟨2, _⟩ => rfl), v24]

/-- The retention's queries by head at an index. -/
theorem v34 (b : Fin 8) (s : Fin 2048) (h : Fin 4) (d : Fin 128) :
    val_main_v34 (F := Ideal) x0 x1 x2 (ix4 b s h d) = proj x0 x1 x2 b s ⟨1536 + (128 * h.val + d.val), by omega⟩ := by
  have hb := b.isLt
  have hs := s.isLt
  have hh := h.isLt
  have hd := d.isLt
  rw [val_main_v34_apply, show idx_main_v34 (ix4 b s h d) = ix3 b s ⟨128 * h.val + d.val, by omega⟩ from funext fun a => Fin.ext (by
      match a with
      | ⟨0, _⟩ => show (((b.val * 2048 + s.val) * 4 + h.val) * 128 + d.val) / 1048576 = b.val; omega
      | ⟨1, _⟩ => show (((b.val * 2048 + s.val) * 4 + h.val) * 128 + d.val) / 512 % 2048 = s.val; omega
      | ⟨2, _⟩ => show (((b.val * 2048 + s.val) * 4 + h.val) * 128 + d.val) % 512 = 128 * h.val + d.val; omega), v28]

/-- The retention's keys by head at an index. -/
theorem v63 (b : Fin 8) (s : Fin 2048) (h : Fin 4) (d : Fin 128) :
    val_main_v63 (F := Ideal) x0 x1 x2 (ix4 b s h d) = proj x0 x1 x2 b s ⟨2048 + (128 * h.val + d.val), by omega⟩ := by
  have hb := b.isLt
  have hs := s.isLt
  have hh := h.isLt
  have hd := d.isLt
  rw [val_main_v63_apply, show idx_main_v63 (ix4 b s h d) = ix3 b s ⟨128 * h.val + d.val, by omega⟩ from funext fun a => Fin.ext (by
      match a with
      | ⟨0, _⟩ => show (((b.val * 2048 + s.val) * 4 + h.val) * 128 + d.val) / 1048576 = b.val; omega
      | ⟨1, _⟩ => show (((b.val * 2048 + s.val) * 4 + h.val) * 128 + d.val) / 512 % 2048 = s.val; omega
      | ⟨2, _⟩ => show (((b.val * 2048 + s.val) * 4 + h.val) * 128 + d.val) % 512 = 128 * h.val + d.val; omega), v29]

/-- The retention's values by head at an index. -/
theorem v94 (b : Fin 8) (s : Fin 2048) (h : Fin 4) (d : Fin 128) :
    val_main_v94 (F := Ideal) x0 x1 x2 (ix4 b s h d) = proj x0 x1 x2 b s ⟨2560 + (128 * h.val + d.val), by omega⟩ := by
  have hb := b.isLt
  have hs := s.isLt
  have hh := h.isLt
  have hd := d.isLt
  rw [val_main_v94_apply, show idx_main_v94 (ix4 b s h d) = ix3 b s ⟨128 * h.val + d.val, by omega⟩ from funext fun a => Fin.ext (by
      match a with
      | ⟨0, _⟩ => show (((b.val * 2048 + s.val) * 4 + h.val) * 128 + d.val) / 1048576 = b.val; omega
      | ⟨1, _⟩ => show (((b.val * 2048 + s.val) * 4 + h.val) * 128 + d.val) / 512 % 2048 = s.val; omega
      | ⟨2, _⟩ => show (((b.val * 2048 + s.val) * 4 + h.val) * 128 + d.val) % 512 = 128 * h.val + d.val; omega), v30]

/-- The phase of the retention's queries. -/
theorem v45 (s : Fin 2048) (d : Fin 64) : val_main_v45 (F := Ideal) (ix2 s d) = ANG s d := by
  simp only [val_main_v45_apply, val_main_v44_apply, val_main_v43_apply, val_main_v42_apply, val_main_v41_apply, val_main_v40_apply, val_main_v39_apply, val_main_v38_apply, val_main_v37_apply, val_main_v36_apply, val_main_cst_5_apply, val_main_cst_6_apply]
  show (((BitVec.ofNat 32 s.val).toInt : ℝ) : EReal) * Ideal.pow c1e4 (Ideal.div (-(((BitVec.ofNat 32 d.val).toInt : ℝ) : EReal)) c64) = _
  rw [toE s.val s.isLt, toE d.val (by omega)]
  rfl

/-- The cosines and sines of the retention's queries, spread over the heads. -/
theorem v52 (b : Fin 8) (s : Fin 2048) (h : Fin 4) (d : Fin 64) : val_main_v52 (F := Ideal) (ix4 b s h d) = COS s d := by
  rw [val_main_v52_apply, val_main_v47_apply, val_main_v46_apply, show idx_main_v47 (idx_main_v52 (ix4 b s h d)) = ix2 s d from funext fun a => by
      match a with
      | ⟨0, _⟩ => rfl
      | ⟨1, _⟩ => rfl, v45]
  rfl
theorem v59 (b : Fin 8) (s : Fin 2048) (h : Fin 4) (d : Fin 64) : val_main_v59 (F := Ideal) (ix4 b s h d) = COS s d := by
  rw [val_main_v59_apply, val_main_v47_apply, val_main_v46_apply, show idx_main_v47 (idx_main_v59 (ix4 b s h d)) = ix2 s d from funext fun a => by
      match a with
      | ⟨0, _⟩ => rfl
      | ⟨1, _⟩ => rfl, v45]
  rfl
theorem v54 (b : Fin 8) (s : Fin 2048) (h : Fin 4) (d : Fin 64) : val_main_v54 (F := Ideal) (ix4 b s h d) = SIN s d := by
  rw [val_main_v54_apply, val_main_v49_apply, val_main_v48_apply, show idx_main_v49 (idx_main_v54 (ix4 b s h d)) = ix2 s d from funext fun a => by
      match a with
      | ⟨0, _⟩ => rfl
      | ⟨1, _⟩ => rfl, v45]
  rfl
theorem v57 (b : Fin 8) (s : Fin 2048) (h : Fin 4) (d : Fin 64) : val_main_v57 (F := Ideal) (ix4 b s h d) = SIN s d := by
  rw [val_main_v57_apply, val_main_v49_apply, val_main_v48_apply, show idx_main_v49 (idx_main_v57 (ix4 b s h d)) = ix2 s d from funext fun a => by
      match a with
      | ⟨0, _⟩ => rfl
      | ⟨1, _⟩ => rfl, v45]
  rfl

/-- The two halves of the retention's queries. -/
theorem v50 (b : Fin 8) (s : Fin 2048) (h : Fin 4) (d : Fin 64) :
    val_main_v50 (F := Ideal) x0 x1 x2 (ix4 b s h d) = proj x0 x1 x2 b s ⟨1536 + (128 * h.val + d.val), by omega⟩ := by
  rw [val_main_v50_apply, show idx_main_v50 (ix4 b s h d) = ix4 b s h ⟨d.val, by omega⟩ from funext fun a => by
      match a with
      | ⟨0, _⟩ => rfl
      | ⟨1, _⟩ => rfl
      | ⟨2, _⟩ => rfl
      | ⟨3, _⟩ => rfl, v34]
theorem v51 (b : Fin 8) (s : Fin 2048) (h : Fin 4) (d : Fin 64) :
    val_main_v51 (F := Ideal) x0 x1 x2 (ix4 b s h d) = proj x0 x1 x2 b s ⟨1536 + (128 * h.val + (64 + d.val)), by omega⟩ := by
  rw [val_main_v51_apply, show idx_main_v51 (ix4 b s h d) = ix4 b s h ⟨64 + d.val, by omega⟩ from funext fun a => by
      match a with
      | ⟨0, _⟩ => rfl
      | ⟨1, _⟩ => rfl
      | ⟨2, _⟩ => rfl
      | ⟨3, _⟩ => rfl, v34]

/-- The rotated queries of the retention. -/
theorem v62 (b : Fin 8) (s : Fin 2048) (h : Fin 4) (d : Fin 128) :
    val_main_v62 (F := Ideal) x0 x1 x2 (ix4 b s h d) = rotE (fun d => proj x0 x1 x2 b s ⟨1536 + (128 * h.val + d.val), by omega⟩) s d := by
  have hd := d.isLt
  unfold val_main_v62 rotE
  by_cases hh : d.val < 64
  · rw [dif_pos hh]
    refine (concatenate_pair_apply_left (t := S8x2048x4x128) (s₁ := S8x2048x4x64) (s₂ := S8x2048x4x64) 3 _ _ _ (ix4 b s h d) rfl (ix4 b s h (⟨d.val, hh⟩ : Fin 64)) (fun a => ?_)).trans ?_
    · match a with
      | ⟨0, _⟩ => rfl
      | ⟨1, _⟩ => rfl
      | ⟨2, _⟩ => rfl
      | ⟨3, _⟩ => rfl
    rw [val_main_v56_apply, val_main_v55_apply, val_main_v53_apply, v50, v51, v52, v54]
    refine congrArg₂ (· - ·) rfl (congrArg₂ (· * ·) (congrArg (proj x0 x1 x2 b s) (Fin.ext ?_)) rfl)
    show 1536 + (128 * h.val + (64 + d.val)) = 1536 + (128 * h.val + (d.val + 64))
    omega
  · rw [dif_neg hh]
    refine (concatenate_pair_apply_right (t := S8x2048x4x128) (s₁ := S8x2048x4x64) (s₂ := S8x2048x4x64) 3 _ _ _ (ix4 b s h d) rfl rfl (ix4 b s h (⟨d.val - 64, by omega⟩ : Fin 64)) (fun a ha => ?_) ?_).trans ?_
    · match a with
      | ⟨0, _⟩ => rfl
      | ⟨1, _⟩ => rfl
      | ⟨2, _⟩ => rfl
      | ⟨3, _⟩ => exact absurd rfl ha
    · show d.val - 64 + 64 = d.val
      omega
    rw [val_main_v61_apply, val_main_v60_apply, val_main_v58_apply, v50, v51, v57, v59]
    refine congrArg₂ (· + ·) rfl (congrArg₂ (· * ·) (congrArg (proj x0 x1 x2 b s) (Fin.ext ?_)) rfl)
    show 1536 + (128 * h.val + (64 + (d.val - 64))) = 1536 + (128 * h.val + d.val)
    omega

/-- The phase of the retention's keys. -/
theorem v74 (s : Fin 2048) (d : Fin 64) : val_main_v74 (F := Ideal) (ix2 s d) = ANG s d := by
  simp only [val_main_v74_apply, val_main_v73_apply, val_main_v72_apply, val_main_v71_apply, val_main_v70_apply, val_main_v69_apply, val_main_v68_apply, val_main_v67_apply, val_main_v66_apply, val_main_v65_apply, val_main_cst_7_apply, val_main_cst_8_apply]
  show (((BitVec.ofNat 32 s.val).toInt : ℝ) : EReal) * Ideal.pow c1e4 (Ideal.div (-(((BitVec.ofNat 32 d.val).toInt : ℝ) : EReal)) c64) = _
  rw [toE s.val s.isLt, toE d.val (by omega)]
  rfl

/-- The cosines and sines of the retention's keys, spread over the heads. -/
theorem v81 (b : Fin 8) (s : Fin 2048) (h : Fin 4) (d : Fin 64) : val_main_v81 (F := Ideal) (ix4 b s h d) = COS s d := by
  rw [val_main_v81_apply, val_main_v76_apply, val_main_v75_apply, show idx_main_v76 (idx_main_v81 (ix4 b s h d)) = ix2 s d from funext fun a => by
      match a with
      | ⟨0, _⟩ => rfl
      | ⟨1, _⟩ => rfl, v74]
  rfl
theorem v88 (b : Fin 8) (s : Fin 2048) (h : Fin 4) (d : Fin 64) : val_main_v88 (F := Ideal) (ix4 b s h d) = COS s d := by
  rw [val_main_v88_apply, val_main_v76_apply, val_main_v75_apply, show idx_main_v76 (idx_main_v88 (ix4 b s h d)) = ix2 s d from funext fun a => by
      match a with
      | ⟨0, _⟩ => rfl
      | ⟨1, _⟩ => rfl, v74]
  rfl
theorem v83 (b : Fin 8) (s : Fin 2048) (h : Fin 4) (d : Fin 64) : val_main_v83 (F := Ideal) (ix4 b s h d) = SIN s d := by
  rw [val_main_v83_apply, val_main_v78_apply, val_main_v77_apply, show idx_main_v78 (idx_main_v83 (ix4 b s h d)) = ix2 s d from funext fun a => by
      match a with
      | ⟨0, _⟩ => rfl
      | ⟨1, _⟩ => rfl, v74]
  rfl
theorem v86 (b : Fin 8) (s : Fin 2048) (h : Fin 4) (d : Fin 64) : val_main_v86 (F := Ideal) (ix4 b s h d) = SIN s d := by
  rw [val_main_v86_apply, val_main_v78_apply, val_main_v77_apply, show idx_main_v78 (idx_main_v86 (ix4 b s h d)) = ix2 s d from funext fun a => by
      match a with
      | ⟨0, _⟩ => rfl
      | ⟨1, _⟩ => rfl, v74]
  rfl

/-- The two halves of the retention's keys. -/
theorem v79 (b : Fin 8) (s : Fin 2048) (h : Fin 4) (d : Fin 64) :
    val_main_v79 (F := Ideal) x0 x1 x2 (ix4 b s h d) = proj x0 x1 x2 b s ⟨2048 + (128 * h.val + d.val), by omega⟩ := by
  rw [val_main_v79_apply, show idx_main_v79 (ix4 b s h d) = ix4 b s h ⟨d.val, by omega⟩ from funext fun a => by
      match a with
      | ⟨0, _⟩ => rfl
      | ⟨1, _⟩ => rfl
      | ⟨2, _⟩ => rfl
      | ⟨3, _⟩ => rfl, v63]
theorem v80 (b : Fin 8) (s : Fin 2048) (h : Fin 4) (d : Fin 64) :
    val_main_v80 (F := Ideal) x0 x1 x2 (ix4 b s h d) = proj x0 x1 x2 b s ⟨2048 + (128 * h.val + (64 + d.val)), by omega⟩ := by
  rw [val_main_v80_apply, show idx_main_v80 (ix4 b s h d) = ix4 b s h ⟨64 + d.val, by omega⟩ from funext fun a => by
      match a with
      | ⟨0, _⟩ => rfl
      | ⟨1, _⟩ => rfl
      | ⟨2, _⟩ => rfl
      | ⟨3, _⟩ => rfl, v63]

/-- The rotated keys of the retention. -/
theorem v91 (b : Fin 8) (s : Fin 2048) (h : Fin 4) (d : Fin 128) :
    val_main_v91 (F := Ideal) x0 x1 x2 (ix4 b s h d) = rotE (fun d => proj x0 x1 x2 b s ⟨2048 + (128 * h.val + d.val), by omega⟩) s d := by
  have hd := d.isLt
  unfold val_main_v91 rotE
  by_cases hh : d.val < 64
  · rw [dif_pos hh]
    refine (concatenate_pair_apply_left (t := S8x2048x4x128) (s₁ := S8x2048x4x64) (s₂ := S8x2048x4x64) 3 _ _ _ (ix4 b s h d) rfl (ix4 b s h (⟨d.val, hh⟩ : Fin 64)) (fun a => ?_)).trans ?_
    · match a with
      | ⟨0, _⟩ => rfl
      | ⟨1, _⟩ => rfl
      | ⟨2, _⟩ => rfl
      | ⟨3, _⟩ => rfl
    rw [val_main_v85_apply, val_main_v84_apply, val_main_v82_apply, v79, v80, v81, v83]
    refine congrArg₂ (· - ·) rfl (congrArg₂ (· * ·) (congrArg (proj x0 x1 x2 b s) (Fin.ext ?_)) rfl)
    show 2048 + (128 * h.val + (64 + d.val)) = 2048 + (128 * h.val + (d.val + 64))
    omega
  · rw [dif_neg hh]
    refine (concatenate_pair_apply_right (t := S8x2048x4x128) (s₁ := S8x2048x4x64) (s₂ := S8x2048x4x64) 3 _ _ _ (ix4 b s h d) rfl rfl (ix4 b s h (⟨d.val - 64, by omega⟩ : Fin 64)) (fun a ha => ?_) ?_).trans ?_
    · match a with
      | ⟨0, _⟩ => rfl
      | ⟨1, _⟩ => rfl
      | ⟨2, _⟩ => rfl
      | ⟨3, _⟩ => exact absurd rfl ha
    · show d.val - 64 + 64 = d.val
      omega
    rw [val_main_v90_apply, val_main_v89_apply, val_main_v87_apply, v79, v80, v86, v88]
    refine congrArg₂ (· + ·) rfl (congrArg₂ (· * ·) (congrArg (proj x0 x1 x2 b s) (Fin.ext ?_)) rfl)
    show 2048 + (128 * h.val + (64 + (d.val - 64))) = 2048 + (128 * h.val + d.val)
    omega

/-- The scaled keys of the retention. -/
theorem v93 (b : Fin 8) (s : Fin 2048) (h : Fin 4) (d : Fin 128) : val_main_v93 (F := Ideal) x0 x1 x2 (ix4 b s h d) = kE x0 x1 x2 b s h d := by
  rw [val_main_v93_apply, val_main_v92_apply, val_main_cst_9_apply, v91]
  rfl

/-- The decay of a head between two positions. -/
theorem v112 (h : Fin 4) (t s : Fin 2048) : val_main_v112 (F := Ideal) (ix3 h t s) = decE h t.val s.val := by
  simp only [val_main_v112_apply, val_main_call0_v1_apply, val_main_call0_v2_apply, val_main_call0_v0_apply, val_main_cst_12_apply, val_main_v111_apply,
    val_main_v110_apply, val_main_v109_apply, val_main_v108_apply, val_main_v107_apply, val_main_v106_apply, val_main_v105_apply, val_main_v104_apply,
    val_main_v103_apply, val_main_v102_apply, val_main_v101_apply, val_main_v100_apply, val_main_v99_apply, val_main_v98_apply, val_main_v97_apply,
    val_main_v96_apply, val_main_cst_10_apply, val_main_cst_11_apply]
  rw [show idx_main_v107 (idx_main_v109 (ix3 h t s)) = ix1 h from funext fun a => by
      match a with
      | ⟨0, _⟩ => rfl, v8]
  show Scalar.select (Ideal.cmp .oge ((((BitVec.ofNat 32 t.val).toInt : ℝ) : EReal) - (((BitVec.ofNat 32 s.val).toInt : ℝ) : EReal)) (Ideal.ofBits .f32 0x00000000#32))
    (Ideal.exp (max ((((BitVec.ofNat 32 t.val).toInt : ℝ) : EReal) - (((BitVec.ofNat 32 s.val).toInt : ℝ) : EReal)) (Ideal.ofBits .f32 0x00000000#32) * LG h))
    (Ideal.ofBits .f32 0x00000000#32) = _
  rw [toE t.val t.isLt, toE s.val s.isLt, Ideal.ofBits_zero_f32]
  obtain ⟨l, hl⟩ := LG_fin h
  unfold decE decR
  rw [hl, EReal.toReal_coe, ← EReal.coe_sub]
  by_cases hc : s.val ≤ t.val
  · have hr : (0 : ℝ) ≤ (t.val : ℝ) - s.val := sub_nonneg.2 (Nat.cast_le.2 hc)
    have he : (0 : EReal) ≤ (((t.val : ℝ) - s.val : ℝ) : EReal) := EReal.coe_nonneg.2 hr
    rw [if_pos hc, max_eq_left he, ← EReal.coe_mul, Ideal.exp_coe,
      show Ideal.cmp .oge (((t.val : ℝ) - s.val : ℝ) : EReal) 0 = 1#1 from by
        show BitVec.ofBool (decide _) = _
        rw [decide_eq_true he]; rfl]
    rfl
  · have hr : (t.val : ℝ) - s.val < 0 := sub_neg.2 (Nat.cast_lt.2 (not_le.1 hc))
    have he : ¬ (0 : EReal) ≤ (((t.val : ℝ) - s.val : ℝ) : EReal) := fun h => absurd (EReal.coe_nonneg.1 h) (not_le.2 hr)
    rw [if_neg hc,
      show Ideal.cmp .oge (((t.val : ℝ) - s.val : ℝ) : EReal) 0 = 0#1 from by
        show BitVec.ofBool (decide _) = _
        rw [decide_eq_false he]; rfl]
    rfl

/-- The scores of the retention. -/
theorem v113 (b : Fin 8) (h : Fin 4) (t s : Fin 2048) :
    val_main_v113 (F := Ideal) x0 x1 x2 (ix4 b h t s) = ∑ d, qE x0 x1 x2 b t h d * kE x0 x1 x2 b s h d := by
  rw [val_main_v113_apply]
  refine Finset.sum_congr rfl fun k _ => ?_
  rw [show lidx_main_v113 (ix4 b h t s) k = ix4 b t h k from funext fun a => by
      match a with
      | ⟨0, _⟩ => rfl
      | ⟨1, _⟩ => rfl
      | ⟨2, _⟩ => rfl
      | ⟨3, _⟩ => rfl, show ridx_main_v113 (ix4 b h t s) k = ix4 b s h k from funext fun a => by
      match a with
      | ⟨0, _⟩ => rfl
      | ⟨1, _⟩ => rfl
      | ⟨2, _⟩ => rfl
      | ⟨3, _⟩ => rfl, v62, v93]
  rfl

/-- The weighted scores of the retention. -/
theorem v116 (b : Fin 8) (h : Fin 4) (t s : Fin 2048) :
    val_main_v116 (F := Ideal) x0 x1 x2 (ix4 b h t s) = (∑ d, qE x0 x1 x2 b t h d * kE x0 x1 x2 b s h d) * decE h t.val s.val := by
  rw [val_main_v116_apply, val_main_v115_apply, val_main_v114_apply, show idx_main_v114 (idx_main_v115 (ix4 b h t s)) = ix3 h t s from funext fun a => by
      match a with
      | ⟨0, _⟩ => rfl
      | ⟨1, _⟩ => rfl
      | ⟨2, _⟩ => rfl, v112, v113]
  rfl

/-- The retention at an index. -/
theorem v118 (b : Fin 8) (t : Fin 2048) (h : Fin 4) (e : Fin 128) : val_main_v118 (F := Ideal) x0 x1 x2 (ix4 b t h e) = retE x0 x1 x2 b t h e := by
  rw [val_main_v118_apply, show idx_main_v118 (ix4 b t h e) = ix4 b h e t from funext fun a => by
      match a with
      | ⟨0, _⟩ => rfl
      | ⟨1, _⟩ => rfl
      | ⟨2, _⟩ => rfl
      | ⟨3, _⟩ => rfl, val_main_v117_apply]
  refine Finset.sum_congr rfl fun k _ => ?_
  rw [show lidx_main_v117 (ix4 b h e t) k = ix4 b k h e from funext fun a => by
      match a with
      | ⟨0, _⟩ => rfl
      | ⟨1, _⟩ => rfl
      | ⟨2, _⟩ => rfl
      | ⟨3, _⟩ => rfl, show ridx_main_v117 (ix4 b h e t) k = ix4 b h t k from funext fun a => by
      match a with
      | ⟨0, _⟩ => rfl
      | ⟨1, _⟩ => rfl
      | ⟨2, _⟩ => rfl
      | ⟨3, _⟩ => rfl, v94, v116]
  rfl

/-- The mean of a head's row. -/
theorem v122 (b : Fin 8) (t : Fin 2048) (h : Fin 4) : val_main_v122 (F := Ideal) x0 x1 x2 (ix4 b t h 0) = meanE (retE x0 x1 x2 b t h) := by
  rw [val_main_v122_apply, val_main_v121_apply, val_main_cst_14_apply, val_main_v120_apply, val_main_v119_apply, val_main_cst_13_apply]
  simp only [show ∀ k, idx_main_v119 (idx_main_v120 (ix4 b t h 0)) k = ix4 b t h k from fun k => funext fun a => by
      match a with
      | ⟨0, _⟩ => rfl
      | ⟨1, _⟩ => rfl
      | ⟨2, _⟩ => rfl
      | ⟨3, _⟩ => rfl, v118]
  show Ideal.div (Ideal.ofBits .f32 0x00000000#32 + ∑ k, retE x0 x1 x2 b t h k) c128 = _
  rw [Ideal.ofBits_zero_f32, zero_add]
  rfl

/-- A head's row less its mean, as the reference has it twice. -/
theorem v124 (b : Fin 8) (t : Fin 2048) (h : Fin 4) (e : Fin 128) :
    val_main_v124 (F := Ideal) x0 x1 x2 (ix4 b t h e) = retE x0 x1 x2 b t h e - meanE (retE x0 x1 x2 b t h) := by
  rw [val_main_v124_apply, val_main_v123_apply, show idx_main_v123 (ix4 b t h e) = ix4 b t h 0 from funext fun a => by
      match a with
      | ⟨0, _⟩ => rfl
      | ⟨1, _⟩ => rfl
      | ⟨2, _⟩ => rfl
      | ⟨3, _⟩ => rfl, v118, v122]
  rfl
theorem v131 (b : Fin 8) (t : Fin 2048) (h : Fin 4) (e : Fin 128) :
    val_main_v131 (F := Ideal) x0 x1 x2 (ix4 b t h e) = retE x0 x1 x2 b t h e - meanE (retE x0 x1 x2 b t h) := by
  rw [val_main_v131_apply, val_main_v130_apply, show idx_main_v130 (ix4 b t h e) = ix4 b t h 0 from funext fun a => by
      match a with
      | ⟨0, _⟩ => rfl
      | ⟨1, _⟩ => rfl
      | ⟨2, _⟩ => rfl
      | ⟨3, _⟩ => rfl, v118, v122]
  rfl

/-- The reciprocal root of a head's variance. -/
theorem v134 (b : Fin 8) (t : Fin 2048) (h : Fin 4) :
    val_main_v134 (F := Ideal) x0 x1 x2 (ix4 b t h 0) = Ideal.rsqrt (meanE (fun e => (retE x0 x1 x2 b t h e - meanE (retE x0 x1 x2 b t h)) * (retE x0 x1 x2 b t h e - meanE (retE x0 x1 x2 b t h))) + gnEps) := by
  rw [val_main_v134_apply, val_main_v133_apply, val_main_v132_apply, val_main_cst_17_apply, val_main_v129_apply, val_main_v128_apply, val_main_cst_16_apply,
    val_main_v127_apply, val_main_v126_apply, val_main_cst_15_apply]
  simp only [show ∀ k, idx_main_v126 (idx_main_v127 (ix4 b t h 0)) k = ix4 b t h k from fun k => funext fun a => by
      match a with
      | ⟨0, _⟩ => rfl
      | ⟨1, _⟩ => rfl
      | ⟨2, _⟩ => rfl
      | ⟨3, _⟩ => rfl, val_main_v125_apply, v124]
  generalize retE x0 x1 x2 b t h = o
  show Ideal.rsqrt (Ideal.div (Ideal.ofBits .f32 0x00000000#32 + ∑ k, (o k - meanE o) * (o k - meanE o)) c128 + gnEps) = _
  rw [Ideal.ofBits_zero_f32, zero_add]
  rfl

/-- The normed row of a head. -/
theorem v136 (b : Fin 8) (t : Fin 2048) (h : Fin 4) (e : Fin 128) :
    val_main_v136 (F := Ideal) x0 x1 x2 (ix4 b t h e) = (retE x0 x1 x2 b t h e - meanE (retE x0 x1 x2 b t h)) * Ideal.rsqrt (meanE (fun e => (retE x0 x1 x2 b t h e - meanE (retE x0 x1 x2 b t h)) * (retE x0 x1 x2 b t h e - meanE (retE x0 x1 x2 b t h))) + gnEps) := by
  rw [val_main_v136_apply, val_main_v135_apply, show idx_main_v135 (ix4 b t h e) = ix4 b t h 0 from funext fun a => by
      match a with
      | ⟨0, _⟩ => rfl
      | ⟨1, _⟩ => rfl
      | ⟨2, _⟩ => rfl
      | ⟨3, _⟩ => rfl, v131, v134]
  rfl

/-- The gate of a row. -/
theorem v138 (b : Fin 8) (s : Fin 2048) (j : Fin 512) :
    val_main_v138 (F := Ideal) x0 x1 x2 (ix3 b s j) = proj x0 x1 x2 b s ⟨3072 + j.val, by omega⟩ * Ideal.logistic (proj x0 x1 x2 b s ⟨3072 + j.val, by omega⟩) := by
  simp only [val_main_v138_apply, val_main_call1_v5_apply, val_main_call1_v4_apply, val_main_call1_v3_apply, val_main_call1_v2_apply, val_main_call1_v1_apply,
    val_main_call1_v0_apply, val_main_call1_cst_apply, val_main_call1_cst_0_apply, v31]
  generalize proj x0 x1 x2 b s ⟨3072 + j.val, by omega⟩ = a
  show a * Ideal.div (Ideal.ofBits .f32 0x3F800000#32) (Ideal.ofBits .f32 0x3F800000#32 + Ideal.exp (-a)) = _
  rw [Ideal.ofBits_one_f32]
  rfl

/-- The gated group norm at an index. -/
theorem v139 (b : Fin 8) (s : Fin 2048) (j : Fin 512) :
    val_main_v139 (F := Ideal) x0 x1 x2 (ix3 b s j)
      = gnE (retE x0 x1 x2 b s ⟨j.val / 128, by omega⟩) (gE x0 x1 x2 b s ⟨j.val / 128, by omega⟩) ⟨j.val % 128, Nat.mod_lt _ (by norm_num)⟩ := by
  have hb := b.isLt
  have hs := s.isLt
  have hj := j.isLt
  rw [val_main_v139_apply, val_main_v137_apply, show idx_main_v137 (ix3 b s j) = ix4 b s ⟨j.val / 128, by omega⟩ ⟨j.val % 128, Nat.mod_lt _ (by norm_num)⟩ from funext fun a => Fin.ext (by
      match a with
      | ⟨0, _⟩ => show ((b.val * 2048 + s.val) * 512 + j.val) / 1048576 = b.val; omega
      | ⟨1, _⟩ => show ((b.val * 2048 + s.val) * 512 + j.val) / 512 % 2048 = s.val; omega
      | ⟨2, _⟩ => show ((b.val * 2048 + s.val) * 512 + j.val) / 128 % 4 = j.val / 128; omega
      | ⟨3, _⟩ => show ((b.val * 2048 + s.val) * 512 + j.val) % 128 = j.val % 128; omega), v136, v138]
  have e : (⟨3072 + j.val, by omega⟩ : Fin 5632) = ⟨3072 + (128 * (j.val / 128) + j.val % 128), by omega⟩ := Fin.ext (by
    show 3072 + j.val = 3072 + (128 * (j.val / 128) + j.val % 128)
    omega)
  rw [e]
  rfl

/-- The attention's scaled queries at an index. -/
theorem v141 (b : Fin 8) (s : Fin 2048) (j : Fin 512) : val_main_v141 (F := Ideal) x0 x1 x2 (ix3 b s j) = proj x0 x1 x2 b s ⟨0 + j.val, by omega⟩ * qScale := by
  rw [val_main_v141_apply, val_main_v140_apply, val_main_cst_18_apply, v25]
  rfl

/-- The reference's queries of the attention. -/
theorem v143 : val_main_v143 (F := Ideal) x0 x1 x2 = qArr x0 x1 x2 := by
  funext i
  have h0 : (i 0).val < 16384 := (i 0).isLt
  have h1 : (i 1).val < 512 := (i 1).isLt
  rw [val_main_v143_apply, val_main_v142_apply, show idx_main_v142 i = ix3 ⟨(i 0).val / 2048, by omega⟩ ⟨(i 0).val % 2048, by omega⟩ (i 1) from funext fun a => by
      match a with
      | ⟨0, _⟩ => exact Fin.ext (by show ((i 0).val * 512 + (i 1).val) / 1048576 = (i 0).val / 2048; omega)
      | ⟨1, _⟩ => exact Fin.ext (by show ((i 0).val * 512 + (i 1).val) / 512 % 2048 = (i 0).val % 2048; omega)
      | ⟨2, _⟩ => exact Fin.ext (by show ((i 0).val * 512 + (i 1).val) % 512 = (i 1).val; omega)]
  exact v141 x0 x1 x2 _ _ (i 1)

/-- The reference's keys of the attention. -/
theorem v145 : val_main_v145 (F := Ideal) x0 x1 x2 = colArr x0 x1 x2 512 (by norm_num) := by
  funext i
  have h0 : (i 0).val < 16384 := (i 0).isLt
  have h1 : (i 1).val < 512 := (i 1).isLt
  rw [val_main_v145_apply, val_main_v144_apply, show idx_main_v144 i = ix3 ⟨(i 0).val / 2048, by omega⟩ ⟨(i 0).val % 2048, by omega⟩ (i 1) from funext fun a => by
      match a with
      | ⟨0, _⟩ => exact Fin.ext (by show ((i 0).val * 512 + (i 1).val) / 1048576 = (i 0).val / 2048; omega)
      | ⟨1, _⟩ => exact Fin.ext (by show ((i 0).val * 512 + (i 1).val) / 512 % 2048 = (i 0).val % 2048; omega)
      | ⟨2, _⟩ => exact Fin.ext (by show ((i 0).val * 512 + (i 1).val) % 512 = (i 1).val; omega)]
  exact v26 x0 x1 x2 _ _ (i 1)

/-- The reference's values of the attention. -/
theorem v147 : val_main_v147 (F := Ideal) x0 x1 x2 = colArr x0 x1 x2 1024 (by norm_num) := by
  funext i
  have h0 : (i 0).val < 16384 := (i 0).isLt
  have h1 : (i 1).val < 512 := (i 1).isLt
  rw [val_main_v147_apply, val_main_v146_apply, show idx_main_v146 i = ix3 ⟨(i 0).val / 2048, by omega⟩ ⟨(i 0).val % 2048, by omega⟩ (i 1) from funext fun a => by
      match a with
      | ⟨0, _⟩ => exact Fin.ext (by show ((i 0).val * 512 + (i 1).val) / 1048576 = (i 0).val / 2048; omega)
      | ⟨1, _⟩ => exact Fin.ext (by show ((i 0).val * 512 + (i 1).val) / 512 % 2048 = (i 0).val % 2048; omega)
      | ⟨2, _⟩ => exact Fin.ext (by show ((i 0).val * 512 + (i 1).val) % 512 = (i 1).val; omega)]
  exact v27 x0 x1 x2 _ _ (i 1)

/-- The reference's rows of the retention. -/
theorem v149 : val_main_v149 (F := Ideal) x0 x1 x2 = orArr x0 x1 x2 := by
  funext i
  have h0 : (i 0).val < 16384 := (i 0).isLt
  have h1 : (i 1).val < 512 := (i 1).isLt
  rw [val_main_v149_apply, val_main_v148_apply, show idx_main_v148 i = ix3 ⟨(i 0).val / 2048, by omega⟩ ⟨(i 0).val % 2048, by omega⟩ (i 1) from funext fun a => by
      match a with
      | ⟨0, _⟩ => exact Fin.ext (by show ((i 0).val * 512 + (i 1).val) / 1048576 = (i 0).val / 2048; omega)
      | ⟨1, _⟩ => exact Fin.ext (by show ((i 0).val * 512 + (i 1).val) / 512 % 2048 = (i 0).val % 2048; omega)
      | ⟨2, _⟩ => exact Fin.ext (by show ((i 0).val * 512 + (i 1).val) % 512 = (i 1).val; omega)]
  exact v139 x0 x1 x2 _ _ (i 1)

/-- The reference's first weight. -/
theorem v151 : val_main_v151 (F := Ideal) x3 = plain2 x3 := by
  funext i
  have h0 : (i 0).val < 1024 := (i 0).isLt
  have h1 : (i 1).val < 4096 := (i 1).isLt
  rw [val_main_v151_apply, val_main_v150_apply, show idx_main_v150 i = ix3 0 (i 0) (i 1) from funext fun a => by
      match a with
      | ⟨0, _⟩ => rfl
      | ⟨1, _⟩ => exact Fin.ext (by show ((i 0).val * 4096 + (i 1).val) / 4096 % 1024 = (i 0).val; omega)
      | ⟨2, _⟩ => exact Fin.ext (by show ((i 0).val * 4096 + (i 1).val) % 4096 = (i 1).val; omega)]
  rfl

/-- The reference's second weight. -/
theorem v153 : val_main_v153 (F := Ideal) x4 = plain2 x4 := by
  funext i
  have h0 : (i 0).val < 1024 := (i 0).isLt
  have h1 : (i 1).val < 4096 := (i 1).isLt
  rw [val_main_v153_apply, val_main_v152_apply, show idx_main_v152 i = ix3 0 (i 0) (i 1) from funext fun a => by
      match a with
      | ⟨0, _⟩ => rfl
      | ⟨1, _⟩ => exact Fin.ext (by show ((i 0).val * 4096 + (i 1).val) / 4096 % 1024 = (i 0).val; omega)
      | ⟨2, _⟩ => exact Fin.ext (by show ((i 0).val * 4096 + (i 1).val) % 4096 = (i 1).val; omega)]
  rfl

/-- The reference's third weight. -/
theorem v155 : val_main_v155 (F := Ideal) x5 = plain2 x5 := by
  funext i
  have h0 : (i 0).val < 4096 := (i 0).isLt
  have h1 : (i 1).val < 1024 := (i 1).isLt
  rw [val_main_v155_apply, val_main_v154_apply, show idx_main_v154 i = ix3 0 (i 0) (i 1) from funext fun a => by
      match a with
      | ⟨0, _⟩ => rfl
      | ⟨1, _⟩ => exact Fin.ext (by show ((i 0).val * 1024 + (i 1).val) / 1024 % 4096 = (i 0).val; omega)
      | ⟨2, _⟩ => exact Fin.ext (by show ((i 0).val * 1024 + (i 1).val) % 1024 = (i 1).val; omega)]
  rfl

end Cert.MixRefIdeal.Rd

end
-- ==== Proof.MergeRow.lean ====
/-
  A row of the merge of the two branches on the extended reals, and the array of its rows.
-/
module

public import proofs.«01_k».proof.Proof.Rows

@[expose] public section

noncomputable section

namespace Layer

open Idealize.ShloMosaic Idealize.ShloMosaic.ValueIdx
open scoped BigOperators

/-- One coordinate of the merged branches: each branch's projection times the logistic of its gate product. -/
def merged {K J : ℕ} (h : Fin K → EReal) (os ot : Fin J → EReal) (gs gt : Fin K → Fin K → EReal) (ws wt : Fin J → Fin K → EReal)
    (j : Fin K) : EReal :=
  Ideal.logistic (∑ k, h k * gs k j) * (∑ k, os k * ws k j) + Ideal.logistic (∑ k, h k * gt k j) * ∑ k, ot k * wt k j

/-- A row after the mixer: the row plus the norm of the output projection of its merged branches. -/
def mergeRow {K J : ℕ} (c : EReal) (x gp gq : Fin K → EReal) (os ot : Fin J → EReal) (gs gt : Fin K → Fin K → EReal)
    (ws wt : Fin J → Fin K → EReal) (wo : Fin K → Fin K → EReal) (n : Fin K) : EReal :=
  x n + rmsRow c (fun n => ∑ j, merged (rmsRow c x gp) os ot gs gt ws wt j * wo j n) gq n

/-- The merge over a batch of 8 sequences of 2048 rows, its result laid out as 16384 rows; the two gates are the last two runs
    of 1024 columns of the input projection. -/
def mergeArr (x : (⟨3, ![8, 2048, 1024]⟩ : Shape).Idx → EReal) (os ot : (⟨3, ![8, 2048, 512]⟩ : Shape).Idx → EReal)
    (gp : (⟨2, ![1, 1024]⟩ : Shape).Idx → EReal) (wi : (⟨3, ![1, 1024, 5632]⟩ : Shape).Idx → EReal)
    (ws wt : (⟨3, ![1, 512, 1024]⟩ : Shape).Idx → EReal) (wo : (⟨3, ![1, 1024, 1024]⟩ : Shape).Idx → EReal)
    (gq : (⟨2, ![1, 1024]⟩ : Shape).Idx → EReal) : (⟨2, ![16384, 1024]⟩ : Shape).Idx → EReal := fun i =>
  have h : (i 0).val < 16384 := (i 0).isLt
  mergeRow w1024 (fun k => x (ix3 ⟨(i 0).val / 2048, by omega⟩ ⟨(i 0).val % 2048, by omega⟩ k)) (fun k => gp (ix2 0 k)) (fun k => gq (ix2 0 k))
    (fun k => os (ix3 ⟨(i 0).val / 2048, by omega⟩ ⟨(i 0).val % 2048, by omega⟩ k))
    (fun k => ot (ix3 ⟨(i 0).val / 2048, by omega⟩ ⟨(i 0).val % 2048, by omega⟩ k))
    (fun k j => wi (ix3 0 k ⟨3584 + j.val, by omega⟩)) (fun k j => wi (ix3 0 k ⟨4608 + j.val, by omega⟩))
    (fun k j => ws (ix3 0 k j)) (fun k j => wt (ix3 0 k j)) (fun k j => wo (ix3 0 k j)) (i 1)

end Layer

end
-- ==== Proof.MergeBlock.lean ====
/-
  One block of the merge kernel: every group of 256 rows that the body stores is the same function of its rows, whether the
  body has just filled the scratch or finds it filled, and that function is, row by row, the merge row.
-/
module

public import proofs.«01_k».proof.Proof.MergeRow
public import proofs.«01_k».proof.Proof.Gen.MergeIdeal.Value
public import Idealize.ShloMosaic.Lib.Pointwise.Tactic
public import Idealize.ShloMosaic.Lib.Pipeline.ValueKit
public import Idealize.ShloMosaic.Lib.Pipeline.ReadBack

@[expose] public section

set_option maxRecDepth 16384

noncomputable section

namespace Cert.MergeIdeal.Blk

open Idealize.ShloMosaic hiding ix1 ix2 ix3 ix4
open Cert.MergeIdeal Cert.MergeIdeal.Gen Idealize.ShloMosaic.TcCoe Idealize.ShloMosaic.ValueIdx Layer Idealize.SL.Sem
open Idealize.ShloMosaic.Tactic
open scoped BigOperators

/-- The norm of 256 rows. -/
def RMS (x : FVec Ideal S256x1024 .f32) (g : FVec Ideal S1x1024 .f32) : FVec Ideal S256x1024 .f32 :=
  rms w1024 x g reduces_S256x1024_S256 shapeCasts_S256_S256x1 broadcasts_S256x1_S256x1024 broadcasts_S1x1024_S256x1024

/-- A product of 256 rows with a square block. -/
def MM (h : FVec Ideal S256x1024 .bf16) (w : FVec Ideal S1024x1024 .bf16) : FVec Ideal S256x1024 .f32 :=
  matmul dot_S256x1024_S1024x1024_S256x1024_1_0_0_1_n_n none h w (constant S256x1024 .f32 0x00000000#32)

/-- A product of 256 rows of a branch with its projection. -/
def MP (h : FVec Ideal S256x512 .bf16) (w : FVec Ideal S512x1024 .bf16) : FVec Ideal S256x1024 .f32 :=
  matmul dot_S256x512_S512x1024_S256x1024_1_0_0_1_n_n none h w (constant S256x1024 .f32 0x00000000#32)

/-- The merged branches of 256 rows. -/
def MRG (h : FVec Ideal S256x1024 .bf16) (os ot : FVec Ideal S256x512 .bf16) (gs gt : FVec Ideal S1024x1024 .bf16)
    (ws wt : FVec Ideal S512x1024 .bf16) : FVec Ideal S256x1024 .f32 :=
  addf (mulf (logistic (MM h gs)) (MP os ws)) (mulf (logistic (MM h gt)) (MP ot wt))

/-- The rows of one group after the merge. -/
def PAY (x : FVec Ideal S256x1024 .f32) (os ot : FVec Ideal S256x512 .bf16) (gp gq : FVec Ideal S1x1024 .f32)
    (gs gt : FVec Ideal S1024x1024 .bf16) (ws wt : FVec Ideal S512x1024 .bf16) (wo : FVec Ideal S1024x1024 .bf16) : FVec Ideal S256x1024 .f32 :=
  addf x (RMS (MM (truncf .bf16 (MRG (truncf .bf16 (RMS x gp) bitsLt_bf16_f32) os ot gs gt ws wt) bitsLt_bf16_f32) wo) gq)

/-- The payload of a group from the windows' blocks and the scratch. -/
abbrev PAYr (r : FVec Ideal S256x1024 .f32) (os ot : FVec Ideal S256x512 .bf16) (x3 x11 : Vec Ideal S1x1024 .f32)
    (g : Vec Ideal S1024x2048 .bf16) (ws wt : Vec Ideal S512x1024 .bf16) (wo : Vec Ideal S1024x1024 .bf16) : FVec Ideal S256x1024 .f32 :=
  PAY r os ot x3 x11 (View.ld g (Rect.unit ![0, 0] ![1024, 1024] inb_S1024x2048_S1024x1024_0_0))
    (View.ld g (Rect.unit ![0, 1024] ![1024, 1024] inb_S1024x2048_S1024x1024_0_1024)) ws wt wo

/-- A block of the result: the payloads of its four groups of rows. -/
def OUT (x0 : Vec Ideal S1024x1024 .f32) (x1 x2 : Vec Ideal S1024x512 .bf16) (x3 x11 : Vec Ideal S1x1024 .f32)
    (g : Vec Ideal S1024x2048 .bf16) (ws wt : Vec Ideal S512x1024 .bf16) (wo : Vec Ideal S1024x1024 .bf16) : Vec Ideal S1024x1024 .f32 :=
  View.canon (Val := Elt Ideal) (e := .f32)
    [⟨Rect.unit ![768, 0] ![256, 1024] inb_S1024x1024_S256x1024_768_0, PAYr (View.ld x0 (Rect.unit ![768, 0] ![256, 1024] inb_S1024x1024_S256x1024_768_0))
      (View.ld x1 (Rect.unit ![768, 0] ![256, 512] inb_S1024x512_S256x512_768_0)) (View.ld x2 (Rect.unit ![768, 0] ![256, 512] inb_S1024x512_S256x512_768_0)) x3 x11 g ws wt wo⟩,
    ⟨Rect.unit ![512, 0] ![256, 1024] inb_S1024x1024_S256x1024_512_0, PAYr (View.ld x0 (Rect.unit ![512, 0] ![256, 1024] inb_S1024x1024_S256x1024_512_0))
      (View.ld x1 (Rect.unit ![512, 0] ![256, 512] inb_S1024x512_S256x512_512_0)) (View.ld x2 (Rect.unit ![512, 0] ![256, 512] inb_S1024x512_S256x512_512_0)) x3 x11 g ws wt wo⟩,
    ⟨Rect.unit ![256, 0] ![256, 1024] inb_S1024x1024_S256x1024_256_0, PAYr (View.ld x0 (Rect.unit ![256, 0] ![256, 1024] inb_S1024x1024_S256x1024_256_0))
      (View.ld x1 (Rect.unit ![256, 0] ![256, 512] inb_S1024x512_S256x512_256_0)) (View.ld x2 (Rect.unit ![256, 0] ![256, 512] inb_S1024x512_S256x512_256_0)) x3 x11 g ws wt wo⟩,
    ⟨Rect.unit ![0, 0] ![256, 1024] inb_S1024x1024_S256x1024_0_0, PAYr (View.ld x0 (Rect.unit ![0, 0] ![256, 1024] inb_S1024x1024_S256x1024_0_0))
      (View.ld x1 (Rect.unit ![0, 0] ![256, 512] inb_S1024x512_S256x512_0_0)) (View.ld x2 (Rect.unit ![0, 0] ![256, 512] inb_S1024x512_S256x512_0_0)) x3 x11 g ws wt wo⟩]

/-- The gate weights' scratch after the first point fills it from the four column blocks. -/
def W4 (a b d e : Vec Ideal S1024x512 .f32) : Vec Ideal S1024x2048 .bf16 :=
  View.canon (Val := Elt Ideal) (e := .bf16)
    [⟨Rect.unit ![0, 1536] ![1024, 512] inb_S1024x2048_S1024x512_0_1536, fun i => e i⟩,
    ⟨Rect.unit ![0, 1024] ![1024, 512] inb_S1024x2048_S1024x512_0_1024, fun i => d i⟩,
    ⟨Rect.unit ![0, 512] ![1024, 512] inb_S1024x2048_S1024x512_0_512, fun i => b i⟩,
    ⟨Rect.unit ![0, 0] ![1024, 512] inb_S1024x2048_S1024x512_0_0, fun i => a i⟩]

variable (m : (ℓ : Loc nD τ sig) → Buf (Elt Ideal) ℓ)

/-- The scratch buffers after the first point. -/
theorem scr_A (c : Dev nD) (t : Fin cfg0.N) (h0 : t.val % 16 = 0) :
    (outsAt0 m c t.val t.isLt).2 = (W4 (iblk m c 4 t) (iblk m c 5 t) (iblk m c 6 t) (iblk m c 7 t), (fun i => iblk m c 8 t i : Vec Ideal S512x1024 .bf16),
      (fun i => iblk m c 9 t i : Vec Ideal S512x1024 .bf16), (fun i => iblk m c 10 t i : Vec Ideal S1024x1024 .bf16)) := by
  rw [outsAt0_A m c t h0]
  dsimp only
  refine Prod.ext ?_ (Prod.ext ?_ (Prod.ext ?_ ?_)) <;> dsimp only <;> frame_out
  all_goals
    unfold_payloads
    simp only [shapeCast_self]
    rfl

/-- The scratch buffers after a later point are those after the point before. -/
theorem scr_B (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- The block a later point stores, over the scratch it finds. -/
theorem out_B (c : Dev nD) (t : Fin cfg0.N) (h0 : ¬t.val % 16 = 0) :
    (outsAt0 m c t.val t.isLt).1 = OUT (iblk m c 0 t) (iblk m c 1 t) (iblk m c 2 t) (iblk m c 3 t) (iblk m c 11 t)
      (outsAt0 m c (t.val - 1) (Nat.lt_of_le_of_lt (Nat.sub_le _ _) t.isLt)).2.1 (outsAt0 m c (t.val - 1) (Nat.lt_of_le_of_lt (Nat.sub_le _ _) t.isLt)).2.2.1
      (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h0]
  dsimp only
  frame_out
  simp only [read_unread_whole]
  unfold_payloads
  simp only [shapeCast_self]
  rfl

/-- The block the first point stores, over the scratch it has just filled. -/
theorem out_A (c : Dev nD) (t : Fin cfg0.N) (h0 : t.val % 16 = 0) :
    (outsAt0 m c t.val t.isLt).1 = OUT (iblk m c 0 t) (iblk m c 1 t) (iblk m c 2 t) (iblk m c 3 t) (iblk m c 11 t)
      (W4 (iblk m c 4 t) (iblk m c 5 t) (iblk m c 6 t) (iblk m c 7 t)) (fun i => iblk m c 8 t i) (fun i => iblk m c 9 t i) (fun i => iblk m c 10 t i) := by
  rw [outsAt0_A m c t h0]
  dsimp only
  frame_out
  simp only [View.readCov_eq_canon']
  unfold_payloads
  simp only [shapeCast_self]
  rfl

/-- A product at an index. -/
theorem MM_apply (h : FVec Ideal S256x1024 .bf16) (w : FVec Ideal S1024x1024 .bf16) (p : Fin 256) (n : Fin 1024) :
    MM h w (ix2 p n) = ∑ k : Fin 1024, h (ix2 p k) * w (ix2 k n) := mm_apply h w p n

/-- A projection at an index. -/
theorem MP_apply (h : FVec Ideal S256x512 .bf16) (w : FVec Ideal S512x1024 .bf16) (p : Fin 256) (n : Fin 1024) :
    MP h w (ix2 p n) = ∑ k : Fin 512, h (ix2 p k) * w (ix2 k n) := mm_apply h w p n

/-- The norm at an index. -/
theorem RMS_apply (x : FVec Ideal S256x1024 .f32) (g : FVec Ideal S1x1024 .f32) (p : Fin 256) (n : Fin 1024) :
    RMS x g (ix2 p n) = rmsRow w1024 (fun k => x (ix2 p k)) (fun k => g (ix2 0 k)) n :=
  rms_apply w1024 x g _ _ _ _ (by decide) (by decide) p n

/-- The merged branches at an index. -/
theorem MRG_apply (h : FVec Ideal S256x1024 .bf16) (os ot : FVec Ideal S256x512 .bf16) (gs gt : FVec Ideal S1024x1024 .bf16)
    (ws wt : FVec Ideal S512x1024 .bf16) (p : Fin 256) (n : Fin 1024) :
    MRG h os ot gs gt ws wt (ix2 p n) = merged (fun k => h (ix2 p k)) (fun k => os (ix2 p k)) (fun k => ot (ix2 p k)) (fun k j => gs (ix2 k j))
      (fun k j => gt (ix2 k j)) (fun k j => ws (ix2 k j)) (fun k j => wt (ix2 k j)) n := by
  show Ideal.logistic (MM h gs (ix2 p n)) * MP os ws (ix2 p n) + Ideal.logistic (MM h gt (ix2 p n)) * MP ot wt (ix2 p n) = _
  rw [MM_apply, MM_apply, MP_apply, MP_apply]
  rfl

/-- The payload of a group, row by row, is the merge row. -/
theorem PAY_apply (x : FVec Ideal S256x1024 .f32) (os ot : FVec Ideal S256x512 .bf16) (gp gq : FVec Ideal S1x1024 .f32)
    (gs gt : FVec Ideal S1024x1024 .bf16) (ws wt : FVec Ideal S512x1024 .bf16) (wo : FVec Ideal S1024x1024 .bf16) (p : Fin 256) (n : Fin 1024) :
    PAY x os ot gp gq gs gt ws wt wo (ix2 p n)
      = mergeRow w1024 (fun k => x (ix2 p k)) (fun k => gp (ix2 0 k)) (fun k => gq (ix2 0 k)) (fun k => os (ix2 p k)) (fun k => ot (ix2 p k))
          (fun k j => gs (ix2 k j)) (fun k j => gt (ix2 k j)) (fun k j => ws (ix2 k j)) (fun k j => wt (ix2 k j)) (fun k j => wo (ix2 k j)) n := by
  unfold PAY mergeRow
  show x (ix2 p n) + RMS _ _ (ix2 p n) = _
  rw [RMS_apply]
  refine congrArg (fun f => x (ix2 p n) + rmsRow w1024 f _ n) (funext fun k => ?_)
  rw [MM_apply]
  refine Finset.sum_congr rfl fun j _ => congrArg (· * _) ?_
  show MRG _ _ _ _ _ _ _ (ix2 p j) = _
  rw [MRG_apply]
  refine congrArg (fun f => merged f _ _ _ _ _ _ j) (funext fun k => ?_)
  exact RMS_apply x gp p k

/-- A square block of the gate weights, loaded at column offset `o`, at an index. -/
theorem ld_cols {φ : EltTy} (X : Vec Ideal S1024x2048 φ) (o : ℕ) (ho : o + 1024 ≤ 2048)
    (inb : ∀ a, (![0, o] : Fin 2 → ℕ) a + (![1024, 1024] : Fin 2 → ℕ) a ≤ S1024x2048.size a) (k j : Fin 1024) :
    View.ld X (Rect.unit (s := S1024x2048) ![0, o] ![1024, 1024] inb) (ix2 k j) = X (ix2 k ⟨o + j.val, by omega⟩) := by
  show X _ = X _
  refine congrArg X (funext fun a => Fin.ext ?_)
  match a with
  | ⟨0, _⟩ => show 0 + 1 * k.val = k.val; omega
  | ⟨1, _⟩ => show o + 1 * j.val = o + j.val; omega

/-- The four groups of rows cover a block. -/
theorem rows_cover (P0 P1 P2 P3 : FVec Ideal S256x1024 .f32) (y : S1024x1024.Idx) :
    ∃ pc ∈ ([⟨Rect.unit ![768, 0] ![256, 1024] inb_S1024x1024_S256x1024_768_0, P3⟩, ⟨Rect.unit ![512, 0] ![256, 1024] inb_S1024x1024_S256x1024_512_0, P2⟩,
      ⟨Rect.unit ![256, 0] ![256, 1024] inb_S1024x1024_S256x1024_256_0, P1⟩, ⟨Rect.unit ![0, 0] ![256, 1024] inb_S1024x1024_S256x1024_0_0, P0⟩] :
      List (View.Piece (Elt Ideal) S1024x1024 .f32)), y ∈ pc.1.set :=
  View.cover_of_tiledL (s := S1024x1024) _ ![256, 1024] (by sl_kernel_rfl) y

/-- A block of the result at an index: the merge row of that row of the block. -/
theorem OUT_apply (x0 : Vec Ideal S1024x1024 .f32) (x1 x2 : Vec Ideal S1024x512 .bf16) (x3 x11 : Vec Ideal S1x1024 .f32)
    (g : Vec Ideal S1024x2048 .bf16) (ws wt : Vec Ideal S512x1024 .bf16) (wo : Vec Ideal S1024x1024 .bf16) (y : S1024x1024.Idx) :
    OUT x0 x1 x2 x3 x11 g ws wt wo y
      = mergeRow w1024 (fun k => x0 (ix2 (y 0) k)) (fun k => x3 (ix2 0 k)) (fun k => x11 (ix2 0 k)) (fun k => x1 (ix2 (y 0) k)) (fun k => x2 (ix2 (y 0) k))
          (fun k (j : Fin 1024) => g (ix2 k ⟨j.val, by omega⟩)) (fun k (j : Fin 1024) => g (ix2 k ⟨1024 + j.val, by omega⟩)) (fun k j => ws (ix2 k j)) (fun k j => wt (ix2 k j))
          (fun k j => wo (ix2 k j)) (y 1) := by
  unfold OUT
  refine View.canon_apply_of_pieces (Val := Elt Ideal) (fun y : S1024x1024.Idx =>
    mergeRow w1024 (fun k => x0 (ix2 (y 0) k)) (fun k => x3 (ix2 0 k)) (fun k => x11 (ix2 0 k)) (fun k => x1 (ix2 (y 0) k)) (fun k => x2 (ix2 (y 0) k))
          (fun k (j : Fin 1024) => g (ix2 k ⟨j.val, by omega⟩)) (fun k (j : Fin 1024) => g (ix2 k ⟨1024 + j.val, by omega⟩)) (fun k j => ws (ix2 k j)) (fun k j => wt (ix2 k j))
          (fun k j => wo (ix2 k j)) (y 1)) _ ?_ y (rows_cover _ _ _ _ y)
  have key : ∀ (o : ℕ) (inb : ∀ a, (![o, 0] : Fin 2 → ℕ) a + S256x1024.size a ≤ S1024x1024.size a)
      (inb' : ∀ a, (![o, 0] : Fin 2 → ℕ) a + S256x512.size a ≤ S1024x512.size a) (x : S256x1024.Idx),
      PAYr (View.ld x0 (Rect.unit (s := S1024x1024) ![o, 0] S256x1024.size inb)) (View.ld x1 (Rect.unit (s := S1024x512) ![o, 0] S256x512.size inb'))
          (View.ld x2 (Rect.unit (s := S1024x512) ![o, 0] S256x512.size inb')) x3 x11 g ws wt wo x
        = (fun y : S1024x1024.Idx =>
    mergeRow w1024 (fun k => x0 (ix2 (y 0) k)) (fun k => x3 (ix2 0 k)) (fun k => x11 (ix2 0 k)) (fun k => x1 (ix2 (y 0) k)) (fun k => x2 (ix2 (y 0) k))
          (fun k (j : Fin 1024) => g (ix2 k ⟨j.val, by omega⟩)) (fun k (j : Fin 1024) => g (ix2 k ⟨1024 + j.val, by omega⟩)) (fun k j => ws (ix2 k j)) (fun k j => wt (ix2 k j))
          (fun k j => wo (ix2 k j)) (y 1)) ((Rect.unit (s := S1024x1024) ![o, 0] S256x1024.size inb).emb x) := fun o inb inb' x => by
    obtain ⟨p, n, rfl⟩ : ∃ (p : Fin 256) (n : Fin 1024), x = ix2 p n := ⟨x 0, x 1, ValueIdx.eq_ix2 x⟩
    refine (PAY_apply _ _ _ _ _ _ _ _ _ _ p n).trans ?_
    dsimp only
    have e1 : (Rect.unit (s := S1024x1024) ![o, 0] S256x1024.size inb).emb (ix2 p n) 1 = n :=
      Fin.ext (by show 0 + 1 * n.val = n.val; omega)
    rw [e1]
    have a0 : (fun k => View.ld x0 (Rect.unit (s := S1024x1024) ![o, 0] S256x1024.size inb) (ix2 p k))
        = fun k => x0 (ix2 ((Rect.unit (s := S1024x1024) ![o, 0] S256x1024.size inb).emb (ix2 p n) 0) k) := funext fun k => by
      show x0 _ = x0 _
      refine congrArg x0 (funext fun a => Fin.ext ?_)
      match a with
      | ⟨0, _⟩ => rfl
      | ⟨1, _⟩ => show 0 + 1 * k.val = k.val; omega
    have ar : ∀ X : Vec Ideal S1024x512 .bf16, (fun k => View.ld X (Rect.unit (s := S1024x512) ![o, 0] S256x512.size inb') (ix2 p k))
        = fun k => X (ix2 ((Rect.unit (s := S1024x1024) ![o, 0] S256x1024.size inb).emb (ix2 p n) 0) k) := fun X => funext fun k => by
      show X _ = X _
      refine congrArg X (funext fun a => Fin.ext ?_)
      match a with
      | ⟨0, _⟩ => rfl
      | ⟨1, _⟩ => show 0 + 1 * k.val = k.val; omega
    have g0 : (fun k j => View.ld g (Rect.unit (s := S1024x2048) ![0, 0] ![1024, 1024] inb_S1024x2048_S1024x1024_0_0) (ix2 k j))
        = fun k (j : Fin 1024) => g (ix2 k ⟨j.val, by omega⟩) := funext fun k => funext fun j => (ld_cols g 0 (by decide) _ k j).trans (by simp only [Nat.zero_add])
    have g1 : (fun k j => View.ld g (Rect.unit (s := S1024x2048) ![0, 1024] ![1024, 1024] inb_S1024x2048_S1024x1024_0_1024) (ix2 k j))
        = fun k (j : Fin 1024) => g (ix2 k ⟨1024 + j.val, by omega⟩) := funext fun k => funext fun j => ld_cols g 1024 (by decide) _ k j
    rw [a0, ar, ar, g0, g1]
  intro pc hpc x
  simp only [List.mem_cons, List.mem_nil_iff, or_false] at hpc
  rcases hpc with rfl | rfl | rfl | rfl
  · exact key 768 _ _ x
  · exact key 512 _ _ x
  · exact key 256 _ _ x
  · exact key 0 _ _ x

/-- The filled gate scratch at an index, where the four column blocks are the runs of 512 columns of one matrix. -/
theorem W4_apply (a b d e : Vec Ideal S1024x512 .f32) (f : Fin 1024 → Fin 2048 → EReal)
    (ha : ∀ (k : Fin 1024) (j : Fin 512), a (ix2 k j) = f k ⟨j.val, by omega⟩) (hb : ∀ (k : Fin 1024) (j : Fin 512), b (ix2 k j) = f k ⟨512 + j.val, by omega⟩)
    (hd : ∀ (k : Fin 1024) (j : Fin 512), d (ix2 k j) = f k ⟨1024 + j.val, by omega⟩) (he : ∀ (k : Fin 1024) (j : Fin 512), e (ix2 k j) = f k ⟨1536 + j.val, by omega⟩)
    (k : Fin 1024) (j : Fin 2048) : W4 a b d e (ix2 k j) = f k j := by
  unfold W4
  refine View.canon_apply_of_pieces (Val := Elt Ideal) (e := .bf16) (fun y : S1024x2048.Idx => f (y 0) (y 1)) _ ?_ (ix2 k j)
    (View.cover_of_tiledL (s := S1024x2048) _ ![1024, 512] (by sl_kernel_rfl) (ix2 k j))
  have key : ∀ (X : Vec Ideal S1024x512 .f32) (o : ℕ) (ho : o + 512 ≤ 2048) (inb : ∀ a, (![0, o] : Fin 2 → ℕ) a + S1024x512.size a ≤ S1024x2048.size a)
      (_ : ∀ (k : Fin 1024) (j : Fin 512), X (ix2 k j) = f k ⟨o + j.val, by omega⟩) (x : S1024x512.Idx),
      X x = f ((Rect.unit (s := S1024x2048) ![0, o] S1024x512.size inb).emb x 0) ((Rect.unit (s := S1024x2048) ![0, o] S1024x512.size inb).emb x 1) := by
    intro X o ho inb hX x
    obtain ⟨p, n, rfl⟩ : ∃ (p : Fin 1024) (n : Fin 512), x = ix2 p n := ⟨x 0, x 1, ValueIdx.eq_ix2 x⟩
    rw [hX]
    refine congrArg₂ f (Fin.ext ?_) (Fin.ext ?_)
    · show p.val = 0 + 1 * p.val; omega
    · show o + n.val = o + 1 * n.val; omega
  intro pc hpc x
  simp only [List.mem_cons, List.mem_nil_iff, or_false] at hpc
  rcases hpc with rfl | rfl | rfl | rfl
  · exact key e 1536 (by decide) inb_S1024x2048_S1024x512_0_1536 he x
  · exact key d 1024 (by decide) inb_S1024x2048_S1024x512_0_1024 hd x
  · exact key b 512 (by decide) inb_S1024x2048_S1024x512_0_512 hb x
  · exact key a 0 (by decide) inb_S1024x2048_S1024x512_0_0 (fun k j => (ha k j).trans (by simp only [Nat.zero_add])) x

end Cert.MergeIdeal.Blk

end
-- ==== Proof.MergeArray.lean ====
/-
  The merge kernel's result array: the scratch holds the weights from the first point on, what each grid point writes back is
  its block of one whole-array function of the arguments, and the blocks cover the array.
-/
module

public import proofs.«01_k».proof.Proof.MergeBlock
public import Idealize.ShloMosaic.Lib.StableHlo.ReadAt

@[expose] public section

set_option maxRecDepth 16384

noncomputable section

namespace Cert.MergeIdeal.Arr

open Idealize.ShloMosaic hiding ix1 ix2 ix3 ix4
open Cert.MergeIdeal Cert.MergeIdeal.Gen Cert.MergeIdeal.Blk Idealize.ShloMosaic.TcCoe Idealize.ShloMosaic.ValueIdx Layer Idealize.SL.Sem
open Idealize.ShloMosaic.Pipeline (Dat)
open scoped BigOperators

variable (m : (ℓ : Loc nD τ sig) → Buf (Elt Ideal) ℓ) (c : Dev nD)

/-- The activation as the region finds it: its two leading axes joined. -/
theorem V_x (r : Fin 16384) (k : Fin 1024) : V m c main_v0 (ix2 r k) = m ((c : Thread nD τ).loc main_arg0) (ix3 ⟨r.val / 2048, by omega⟩ ⟨r.val % 2048, by omega⟩ k) := by
  show StableHlo.after hostOps0 _ _ _ = _
  after_reads_at
  rfl

/-- The first branch as the region finds it. -/
theorem V_os (r : Fin 16384) (k : Fin 512) : V m c main_v2 (ix2 r k) = m ((c : Thread nD τ).loc main_arg1) (ix3 ⟨r.val / 2048, by omega⟩ ⟨r.val % 2048, by omega⟩ k) := by
  show StableHlo.after hostOps0 _ _ _ = _
  after_reads_at
  rfl

/-- The second branch as the region finds it. -/
theorem V_ot (r : Fin 16384) (k : Fin 512) : V m c main_v4 (ix2 r k) = m ((c : Thread nD τ).loc main_arg2) (ix3 ⟨r.val / 2048, by omega⟩ ⟨r.val % 2048, by omega⟩ k) := by
  show StableHlo.after hostOps0 _ _ _ = _
  after_reads_at
  rfl

/-- The first gain as the region finds it. -/
theorem V_gp (k : Fin 1024) : V m c main_v6 (ix2 0 k) = m ((c : Thread nD τ).loc main_arg3) (ix2 0 k) := by
  show StableHlo.after hostOps0 _ _ _ = _
  after_reads_at
  rfl

/-- The input projection as the region finds it. -/
theorem V_wi (k : Fin 1024) (j : Fin 5632) : V m c main_v7 (ix2 k j) = m ((c : Thread nD τ).loc main_arg4) (ix3 0 k j) := by
  show StableHlo.after hostOps0 _ _ _ = _
  after_reads_at
  rfl

/-- The first branch's projection as the region finds it. -/
theorem V_ws (k : Fin 512) (j : Fin 1024) : V m c main_v8 (ix2 k j) = m ((c : Thread nD τ).loc main_arg5) (ix3 0 k j) := by
  show StableHlo.after hostOps0 _ _ _ = _
  after_reads_at
  rfl

/-- The second branch's projection as the region finds it. -/
theorem V_wt (k : Fin 512) (j : Fin 1024) : V m c main_v9 (ix2 k j) = m ((c : Thread nD τ).loc main_arg6) (ix3 0 k j) := by
  show StableHlo.after hostOps0 _ _ _ = _
  after_reads_at
  rfl

/-- The output projection as the region finds it. -/
theorem V_wo (k : Fin 1024) (j : Fin 1024) : V m c main_v10 (ix2 k j) = m ((c : Thread nD τ).loc main_arg7) (ix3 0 k j) := by
  show StableHlo.after hostOps0 _ _ _ = _
  after_reads_at
  rfl

/-- The second gain as the region finds it. -/
theorem V_gq (k : Fin 1024) : V m c main_v12 (ix2 0 k) = m ((c : Thread nD τ).loc main_arg8) (ix2 0 k) := by
  show StableHlo.after hostOps0 _ _ _ = _
  after_reads_at
  rfl

/-- The merge array of device `c`'s arguments: what the result array is shown to hold. -/
abbrev G : S16384x1024.Idx → EReal := mergeArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The block of window 0 at point `t`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- The block of window 1 at point `t`. -/
theorem idx1 : ∀ t : Fin cfg0.N, win0_1.index t 0 = t.val ∧ win0_1.index t 1 = 0 :=
  (by decide +kernel : ∀ t : Fin grid0.N, win0_1.index t 0 = t.val ∧ win0_1.index t 1 = 0)

/-- The block of window 2 at point `t`. -/
theorem idx2 : ∀ t : Fin cfg0.N, win0_2.index t 0 = t.val ∧ win0_2.index t 1 = 0 :=
  (by decide +kernel : ∀ t : Fin grid0.N, win0_2.index t 0 = t.val ∧ win0_2.index t 1 = 0)

/-- The block of window 3 at point `t`. -/
theorem idx3 : ∀ t : Fin cfg0.N, win0_3.index t 0 = 0 ∧ win0_3.index t 1 = 0 :=
  (by decide +kernel : ∀ t : Fin grid0.N, win0_3.index t 0 = 0 ∧ win0_3.index t 1 = 0)

/-- The block of window 4 at point `t`. -/
theorem idx4 : ∀ t : Fin cfg0.N, win0_4.index t 0 = 0 ∧ win0_4.index t 1 = 7 :=
  (by decide +kernel : ∀ t : Fin grid0.N, win0_4.index t 0 = 0 ∧ win0_4.index t 1 = 7)

/-- The block of window 5 at point `t`. -/
theorem idx5 : ∀ t : Fin cfg0.N, win0_5.index t 0 = 0 ∧ win0_5.index t 1 = 8 :=
  (by decide +kernel : ∀ t : Fin grid0.N, win0_5.index t 0 = 0 ∧ win0_5.index t 1 = 8)

/-- The block of window 6 at point `t`. -/
theorem idx6 : ∀ t : Fin cfg0.N, win0_6.index t 0 = 0 ∧ win0_6.index t 1 = 9 :=
  (by decide +kernel : ∀ t : Fin grid0.N, win0_6.index t 0 = 0 ∧ win0_6.index t 1 = 9)

/-- The block of window 7 at point `t`. -/
theorem idx7 : ∀ t : Fin cfg0.N, win0_7.index t 0 = 0 ∧ win0_7.index t 1 = 10 :=
  (by decide +kernel : ∀ t : Fin grid0.N, win0_7.index t 0 = 0 ∧ win0_7.index t 1 = 10)

/-- The block of window 8 at point `t`. -/
theorem idx8 : ∀ t : Fin cfg0.N, win0_8.index t 0 = 0 ∧ win0_8.index t 1 = 0 :=
  (by decide +kernel : ∀ t : Fin grid0.N, win0_8.index t 0 = 0 ∧ win0_8.index t 1 = 0)

/-- The block of window 9 at point `t`. -/
theorem idx9 : ∀ t : Fin cfg0.N, win0_9.index t 0 = 0 ∧ win0_9.index t 1 = 0 :=
  (by decide +kernel : ∀ t : Fin grid0.N, win0_9.index t 0 = 0 ∧ win0_9.index t 1 = 0)

/-- The block of window 10 at point `t`. -/
theorem idx10 : ∀ t : Fin cfg0.N, win0_10.index t 0 = 0 ∧ win0_10.index t 1 = 0 :=
  (by decide +kernel : ∀ t : Fin grid0.N, win0_10.index t 0 = 0 ∧ win0_10.index t 1 = 0)

/-- The block of window 11 at point `t`. -/
theorem idx11 : ∀ t : Fin cfg0.N, win0_11.index t 0 = 0 ∧ win0_11.index t 1 = 0 :=
  (by decide +kernel : ∀ t : Fin grid0.N, win0_11.index t 0 = 0 ∧ win0_11.index t 1 = 0)

/-- The block of window 12 at point `t`. -/
theorem idx12 : ∀ t : Fin cfg0.N, win0_12.index t 0 = t.val ∧ win0_12.index t 1 = 0 :=
  (by decide +kernel : ∀ t : Fin grid0.N, win0_12.index t 0 = t.val ∧ win0_12.index t 1 = 0)

/-- Window 0's block at point `t`, at an index. -/
theorem blk0 (t : Fin cfg0.N) (p : Fin 1024) (k : Fin 1024) (h : t.val * 1024 + p.val < 16384) :
    iblk m c 0 t (ix2 p k) = V m c main_v0 (ix2 ⟨t.val * 1024 + p.val, h⟩ k) := by
  show V m c main_v0 _ = V m c main_v0 _
  refine congrArg (V m c main_v0) (funext fun a => Fin.ext ?_)
  match a with
  | ⟨0, _⟩ => show win0_0.index t 0 * 1024 + 1 * p.val = t.val * 1024 + p.val; rw [(idx0 t).1]; omega
  | ⟨1, _⟩ => show win0_0.index t 1 * 1024 + 1 * k.val = k.val; rw [(idx0 t).2]; omega

/-- Window 1's block at point `t`, at an index. -/
theorem blk1 (t : Fin cfg0.N) (p : Fin 1024) (k : Fin 512) (h : t.val * 1024 + p.val < 16384) :
    iblk m c 1 t (ix2 p k) = V m c main_v2 (ix2 ⟨t.val * 1024 + p.val, h⟩ k) := by
  show V m c main_v2 _ = V m c main_v2 _
  refine congrArg (V m c main_v2) (funext fun a => Fin.ext ?_)
  match a with
  | ⟨0, _⟩ => show win0_1.index t 0 * 1024 + 1 * p.val = t.val * 1024 + p.val; rw [(idx1 t).1]; omega
  | ⟨1, _⟩ => show win0_1.index t 1 * 512 + 1 * k.val = k.val; rw [(idx1 t).2]; omega

/-- Window 2's block at point `t`, at an index. -/
theorem blk2 (t : Fin cfg0.N) (p : Fin 1024) (k : Fin 512) (h : t.val * 1024 + p.val < 16384) :
    iblk m c 2 t (ix2 p k) = V m c main_v4 (ix2 ⟨t.val * 1024 + p.val, h⟩ k) := by
  show V m c main_v4 _ = V m c main_v4 _
  refine congrArg (V m c main_v4) (funext fun a => Fin.ext ?_)
  match a with
  | ⟨0, _⟩ => show win0_2.index t 0 * 1024 + 1 * p.val = t.val * 1024 + p.val; rw [(idx2 t).1]; omega
  | ⟨1, _⟩ => show win0_2.index t 1 * 512 + 1 * k.val = k.val; rw [(idx2 t).2]; omega

/-- Window 3's block is the whole gain. -/
theorem blk3 (t : Fin cfg0.N) (k : Fin 1024) : iblk m c 3 t (ix2 0 k) = V m c main_v6 (ix2 0 k) := by
  show V m c main_v6 _ = V m c main_v6 _
  refine congrArg (V m c main_v6) (funext fun a => Fin.ext ?_)
  match a with
  | ⟨0, _⟩ => show win0_3.index t 0 * 1 + 1 * 0 = 0; rw [(idx3 t).1]
  | ⟨1, _⟩ => show win0_3.index t 1 * 1024 + 1 * k.val = k.val; rw [(idx3 t).2]; omega

/-- Window 4's block is the columns of the projection from 3584 on. -/
theorem blk4 (t : Fin cfg0.N) (k : Fin 1024) (j : Fin 512) : iblk m c 4 t (ix2 k j) = V m c main_v7 (ix2 k ⟨3584 + j.val, by omega⟩) := by
  show V m c main_v7 _ = V m c main_v7 _
  refine congrArg (V m c main_v7) (funext fun a => Fin.ext ?_)
  match a with
  | ⟨0, _⟩ => show win0_4.index t 0 * 1024 + 1 * k.val = k.val; rw [(idx4 t).1]; omega
  | ⟨1, _⟩ => show win0_4.index t 1 * 512 + 1 * j.val = 3584 + j.val; rw [(idx4 t).2]; omega

/-- Window 5's block is the columns of the projection from 4096 on. -/
theorem blk5 (t : Fin cfg0.N) (k : Fin 1024) (j : Fin 512) : iblk m c 5 t (ix2 k j) = V m c main_v7 (ix2 k ⟨4096 + j.val, by omega⟩) := by
  show V m c main_v7 _ = V m c main_v7 _
  refine congrArg (V m c main_v7) (funext fun a => Fin.ext ?_)
  match a with
  | ⟨0, _⟩ => show win0_5.index t 0 * 1024 + 1 * k.val = k.val; rw [(idx5 t).1]; omega
  | ⟨1, _⟩ => show win0_5.index t 1 * 512 + 1 * j.val = 4096 + j.val; rw [(idx5 t).2]; omega

/-- Window 6's block is the columns of the projection from 4608 on. -/
theorem blk6 (t : Fin cfg0.N) (k : Fin 1024) (j : Fin 512) : iblk m c 6 t (ix2 k j) = V m c main_v7 (ix2 k ⟨4608 + j.val, by omega⟩) := by
  show V m c main_v7 _ = V m c main_v7 _
  refine congrArg (V m c main_v7) (funext fun a => Fin.ext ?_)
  match a with
  | ⟨0, _⟩ => show win0_6.index t 0 * 1024 + 1 * k.val = k.val; rw [(idx6 t).1]; omega
  | ⟨1, _⟩ => show win0_6.index t 1 * 512 + 1 * j.val = 4608 + j.val; rw [(idx6 t).2]; omega

/-- Window 7's block is the columns of the projection from 5120 on. -/
theorem blk7 (t : Fin cfg0.N) (k : Fin 1024) (j : Fin 512) : iblk m c 7 t (ix2 k j) = V m c main_v7 (ix2 k ⟨5120 + j.val, by omega⟩) := by
  show V m c main_v7 _ = V m c main_v7 _
  refine congrArg (V m c main_v7) (funext fun a => Fin.ext ?_)
  match a with
  | ⟨0, _⟩ => show win0_7.index t 0 * 1024 + 1 * k.val = k.val; rw [(idx7 t).1]; omega
  | ⟨1, _⟩ => show win0_7.index t 1 * 512 + 1 * j.val = 5120 + j.val; rw [(idx7 t).2]; omega

/-- Window 8's block is the whole matrix. -/
theorem blk8 (t : Fin cfg0.N) (k : Fin 512) (j : Fin 1024) : iblk m c 8 t (ix2 k j) = V m c main_v8 (ix2 k j) := by
  show V m c main_v8 _ = V m c main_v8 _
  refine congrArg (V m c main_v8) (funext fun a => Fin.ext ?_)
  match a with
  | ⟨0, _⟩ => show win0_8.index t 0 * 512 + 1 * k.val = k.val; rw [(idx8 t).1]; omega
  | ⟨1, _⟩ => show win0_8.index t 1 * 1024 + 1 * j.val = j.val; rw [(idx8 t).2]; omega

/-- Window 9's block is the whole matrix. -/
theorem blk9 (t : Fin cfg0.N) (k : Fin 512) (j : Fin 1024) : iblk m c 9 t (ix2 k j) = V m c main_v9 (ix2 k j) := by
  show V m c main_v9 _ = V m c main_v9 _
  refine congrArg (V m c main_v9) (funext fun a => Fin.ext ?_)
  match a with
  | ⟨0, _⟩ => show win0_9.index t 0 * 512 + 1 * k.val = k.val; rw [(idx9 t).1]; omega
  | ⟨1, _⟩ => show win0_9.index t 1 * 1024 + 1 * j.val = j.val; rw [(idx9 t).2]; omega

/-- Window 10's block is the whole matrix. -/
theorem blk10 (t : Fin cfg0.N) (k : Fin 1024) (j : Fin 1024) : iblk m c 10 t (ix2 k j) = V m c main_v10 (ix2 k j) := by
  show V m c main_v10 _ = V m c main_v10 _
  refine congrArg (V m c main_v10) (funext fun a => Fin.ext ?_)
  match a with
  | ⟨0, _⟩ => show win0_10.index t 0 * 1024 + 1 * k.val = k.val; rw [(idx10 t).1]; omega
  | ⟨1, _⟩ => show win0_10.index t 1 * 1024 + 1 * j.val = j.val; rw [(idx10 t).2]; omega

/-- Window 11's block is the whole gain. -/
theorem blk11 (t : Fin cfg0.N) (k : Fin 1024) : iblk m c 11 t (ix2 0 k) = V m c main_v12 (ix2 0 k) := by
  show V m c main_v12 _ = V m c main_v12 _
  refine congrArg (V m c main_v12) (funext fun a => Fin.ext ?_)
  match a with
  | ⟨0, _⟩ => show win0_11.index t 0 * 1 + 1 * 0 = 0; rw [(idx11 t).1]
  | ⟨1, _⟩ => show win0_11.index t 1 * 1024 + 1 * k.val = k.val; rw [(idx11 t).2]; omega

/-- What the four scratch buffers hold: the gate columns of the input projection, the two branch projections, the output projection. -/
structure Scr (g : Vec Ideal S1024x2048 .bf16) (ws wt : Vec Ideal S512x1024 .bf16) (wo : Vec Ideal S1024x1024 .bf16) : Prop where
  gate : ∀ (k : Fin 1024) (j : Fin 2048), g (ix2 k j) = m ((c : Thread nD τ).loc main_arg4) (ix3 0 k ⟨3584 + j.val, by omega⟩)
  ps : ∀ (k : Fin 512) (j : Fin 1024), ws (ix2 k j) = m ((c : Thread nD τ).loc main_arg5) (ix3 0 k j)
  pt : ∀ (k : Fin 512) (j : Fin 1024), wt (ix2 k j) = m ((c : Thread nD τ).loc main_arg6) (ix3 0 k j)
  po : ∀ (k j : Fin 1024), wo (ix2 k j) = m ((c : Thread nD τ).loc main_arg7) (ix3 0 k j)

/-- The gate columns as one matrix. -/
def gates (k : Fin 1024) (j : Fin 2048) : EReal := m ((c : Thread nD τ).loc main_arg4) (ix3 0 k ⟨3584 + j.val, by omega⟩)

/-- Window 4's block as columns of the gates. -/
theorem gate4 (t : Fin cfg0.N) (k : Fin 1024) (j : Fin 512) : iblk m c 4 t (ix2 k j) = gates m c k ⟨j.val, by omega⟩ :=
  (blk4 m c t k j).trans (V_wi m c k _)
theorem gate5 (t : Fin cfg0.N) (k : Fin 1024) (j : Fin 512) : iblk m c 5 t (ix2 k j) = gates m c k ⟨512 + j.val, by omega⟩ :=
  (blk5 m c t k j).trans ((V_wi m c k _).trans (congrArg (fun q => m ((c : Thread nD τ).loc main_arg4) (ix3 0 k q)) (Fin.ext (by show 4096 + j.val = 3584 + (512 + j.val); omega))))
theorem gate6 (t : Fin cfg0.N) (k : Fin 1024) (j : Fin 512) : iblk m c 6 t (ix2 k j) = gates m c k ⟨1024 + j.val, by omega⟩ :=
  (blk6 m c t k j).trans ((V_wi m c k _).trans (congrArg (fun q => m ((c : Thread nD τ).loc main_arg4) (ix3 0 k q)) (Fin.ext (by show 4608 + j.val = 3584 + (1024 + j.val); omega))))
theorem gate7 (t : Fin cfg0.N) (k : Fin 1024) (j : Fin 512) : iblk m c 7 t (ix2 k j) = gates m c k ⟨1536 + j.val, by omega⟩ :=
  (blk7 m c t k j).trans ((V_wi m c k _).trans (congrArg (fun q => m ((c : Thread nD τ).loc main_arg4) (ix3 0 k q)) (Fin.ext (by show 5120 + j.val = 3584 + (1536 + j.val); omega))))

/-- The values the first point's fill puts into the scratch. -/
theorem Scr_fill (t : Fin cfg0.N) : Scr m c (W4 (iblk m c 4 t) (iblk m c 5 t) (iblk m c 6 t) (iblk m c 7 t)) (fun i => iblk m c 8 t i)
      (fun i => iblk m c 9 t i) (fun i => iblk m c 10 t i) where
  gate k j := W4_apply (iblk m c 4 t) (iblk m c 5 t) (iblk m c 6 t) (iblk m c 7 t) (gates m c) (gate4 m c t) (gate5 m c t) (gate6 m c t) (gate7 m c t) k j
  ps k j := (blk8 m c t k j).trans (V_ws m c k j)
  pt k j := (blk9 m c t k j).trans (V_wt m c k j)
  po k j := (blk10 m c t k j).trans (V_wo m c k j)

/-- The scratch as a tuple. -/
abbrev ScrT (s : Vec Ideal S1024x2048 .bf16 × Vec Ideal S512x1024 .bf16 × Vec Ideal S512x1024 .bf16 × Vec Ideal S1024x1024 .bf16) : Prop :=
  Scr m c s.1 s.2.1 s.2.2.1 s.2.2.2

/-- Equal scratch holds the same. -/
theorem scr_eq {s s' : Vec Ideal S1024x2048 .bf16 × Vec Ideal S512x1024 .bf16 × Vec Ideal S512x1024 .bf16 × Vec Ideal S1024x1024 .bf16} (e : s = s')
    (h : ScrT m c s') : ScrT m c s := by
  rw [e]; exact h

/-- At a point that fills the scratch it holds the weights. -/
theorem scr_fill (t : Fin cfg0.N) (h0 : t.val % 16 = 0) : ScrT m c (outsAt0 m c t.val t.isLt).2 :=
 by
  have h := Scr_fill m c t
  have e := scr_A m c t h0
  generalize W4 (iblk m c 4 t) (iblk m c 5 t) (iblk m c 6 t) (iblk m c 7 t) = g at h e
  generalize (fun i => iblk m c 8 t i : Vec Ideal S512x1024 .bf16) = ws at h e
  generalize (fun i => iblk m c 9 t i : Vec Ideal S512x1024 .bf16) = wt at h e
  generalize (fun i => iblk m c 10 t i : Vec Ideal S1024x1024 .bf16) = wo at h e
  exact scr_eq m c e h

/-- At a later point it holds what it held before. -/
theorem scr_keep (t : Fin cfg0.N) (h0 : ¬t.val % 16 = 0) (h : ScrT m c (outsAt0 m c (t.val - 1) (Nat.lt_of_le_of_lt (Nat.sub_le _ _) t.isLt)).2) :
    ScrT m c (outsAt0 m c t.val t.isLt).2 :=
  scr_eq m c (scr_B m c t h0) h

/-- After every point the scratch holds the weights. -/
theorem scr (n : ℕ) : ∀ hn : n < cfg0.N, ScrT m c (outsAt0 m c n hn).2 := by
  induction n with
  | zero => exact fun hn => scr_fill m c ⟨0, hn⟩ (Nat.zero_mod _)
  | succ n ih =>
    intro hn
    by_cases h0 : (n + 1) % 16 = 0
    · exact scr_fill m c ⟨n + 1, hn⟩ h0
    · exact scr_keep m c ⟨n + 1, hn⟩ h0 (ih _)

/-- Every point stores the one block function over a scratch that holds the weights. -/
theorem out_point (t : Fin cfg0.N) : ∃ g ws wt wo, Scr m c g ws wt wo ∧ (outsAt0 m c t.val t.isLt).1
    = OUT (iblk m c 0 t) (iblk m c 1 t) (iblk m c 2 t) (iblk m c 3 t) (iblk m c 11 t) g ws wt wo := by
  by_cases h0 : t.val % 16 = 0
  · exact ⟨_, _, _, _, Scr_fill m c t, out_A m c t h0⟩
  · exact ⟨_, _, _, _, scr m c (t.val - 1) _, out_B m c t h0⟩

/-- What point `t` writes back is block `t` of the merge array. -/
theorem flushed_eq (t : Fin cfg0.N) : (dats m 0 c).flushed 12 t = (win0_12.blk t).view.read (Elt Ideal) (G m c) := by
  rw [Value.flushed12]
  funext y
  obtain ⟨p, n, rfl⟩ : ∃ (p : Fin 1024) (n : Fin 1024), y = ix2 p n := ⟨y 0, y 1, ValueIdx.eq_ix2 y⟩
  have hN : cfg0.N = 16 := N_0
  have ht : t.val < 16 := hN ▸ t.isLt
  have h : t.val * 1024 + p.val < 16384 := by omega
  have e : (win0_12.blk t).view.read (Elt Ideal) (G m c) (ix2 p n) = G m c (ix2 ⟨t.val * 1024 + p.val, h⟩ n) := by
    show G m c _ = G m c _
    refine congrArg (G m c) (funext fun a => Fin.ext ?_)
    match a with
    | ⟨0, _⟩ => show win0_12.index t 0 * 1024 + 1 * p.val = t.val * 1024 + p.val; rw [(idx12 t).1]; omega
    | ⟨1, _⟩ => show win0_12.index t 1 * 1024 + 1 * n.val = n.val; rw [(idx12 t).2]; omega
  rw [e]
  obtain ⟨sg, ss, st, so, ⟨hg, hs, ht', ho⟩, eo⟩ := out_point m c t
  rw [eo]
  show OUT _ _ _ _ _ _ _ _ _ (ix2 p n) = _
  rw [OUT_apply]
  show mergeRow w1024 (fun k => iblk m c 0 t (ix2 p k)) (fun k => iblk m c 3 t (ix2 0 k)) (fun k => iblk m c 11 t (ix2 0 k))
    (fun k => iblk m c 1 t (ix2 p k)) (fun k => iblk m c 2 t (ix2 p k)) (fun k (j : Fin 1024) => sg (ix2 k ⟨j.val, by omega⟩))
    (fun k (j : Fin 1024) => sg (ix2 k ⟨1024 + j.val, by omega⟩)) (fun k j => ss (ix2 k j)) (fun k j => st (ix2 k j)) (fun k j => so (ix2 k j)) n = _
  rw [show (fun k => iblk m c 0 t (ix2 p k)) = _ from funext fun k => (blk0 m c t p k h).trans (V_x m c _ k),
    show (fun k => iblk m c 1 t (ix2 p k)) = _ from funext fun k => (blk1 m c t p k h).trans (V_os m c _ k),
    show (fun k => iblk m c 2 t (ix2 p k)) = _ from funext fun k => (blk2 m c t p k h).trans (V_ot m c _ k),
    show (fun k => iblk m c 3 t (ix2 0 k)) = _ from funext fun k => (blk3 m c t k).trans (V_gp m c k),
    show (fun k => iblk m c 11 t (ix2 0 k)) = _ from funext fun k => (blk11 m c t k).trans (V_gq m c k),
    show (fun k (j : Fin 1024) => sg (ix2 k ⟨j.val, by omega⟩)) = _ from funext fun k => funext fun j => hg k _,
    show (fun k (j : Fin 1024) => sg (ix2 k ⟨1024 + j.val, by omega⟩)) = fun k (j : Fin 1024) => m ((c : Thread nD τ).loc main_arg4) (ix3 0 k ⟨4608 + j.val, by omega⟩) from
      funext fun k => funext fun j => (hg k _).trans (congrArg (fun q => m ((c : Thread nD τ).loc main_arg4) (ix3 0 k q)) (Fin.ext (by show 3584 + (1024 + j.val) = 4608 + j.val; omega))),
    show (fun k j => ss (ix2 k j)) = _ from funext fun k => funext fun j => hs k j,
    show (fun k j => st (ix2 k j)) = _ from funext fun k => funext fun j => ht' k j,
    show (fun k j => so (ix2 k j)) = _ from funext fun k => funext fun j => ho k j]
  rfl

/-- An index of the result array is in point `t`'s block when its row is in the `t`-th run. -/
theorem mem_blk (t : Fin cfg0.N) (i : S16384x1024.Idx) :
    i ∈ ((cfg0.win 12).blk t).view.set ↔ t.val * 1024 ≤ (i 0).val ∧ (i 0).val < t.val * 1024 + 1024 := by
  show i ∈ ((View.whole main_v13).slice (win0_12.rect t)).set ↔ _
  rw [View.set_slice_whole, Rect.mem_set_unit]
  have h1 : (i 1).val < 1024 := (i 1).isLt
  refine ⟨fun h => ?_, fun h a => ?_⟩
  · have h0 : win0_12.index t 0 * 1024 ≤ (i 0).val ∧ (i 0).val < win0_12.index t 0 * 1024 + 1024 := h 0
    rwa [(idx12 t).1] at h0
  · match a with
    | ⟨0, _⟩ =>
      show win0_12.index t 0 * 1024 ≤ (i 0).val ∧ (i 0).val < win0_12.index t 0 * 1024 + 1024
      rw [(idx12 t).1]; exact h
    | ⟨1, _⟩ =>
      show win0_12.index t 1 * 1024 ≤ (i 1).val ∧ (i 1).val < win0_12.index t 1 * 1024 + 1024
      rw [(idx12 t).2, Nat.zero_mul, Nat.zero_add]
      exact ⟨Nat.zero_le _, h1⟩

/-- The blocks cover the result array. -/
theorem cover (i : S16384x1024.Idx) : ∃ t : Fin cfg0.N, (cfg0.win 12).flush t = true ∧ i ∈ ((cfg0.win 12).blk t).view.set := by
  have h0 : (i 0).val < 16384 := (i 0).isLt
  have hN : cfg0.N = 16 := N_0
  refine ⟨⟨(i 0).val / 1024, by rw [hN]; omega⟩, flush0_12 _, ?_⟩
  rw [mem_blk]
  dsimp only
  omega

/-- The result array ends holding the merge array. -/
theorem final : (dats m 0 c).arrAt 12 cfg0.N = G m c :=
  (dats m 0 c).arrAt_eq_of_cover 12 (G m c) (fun t _ => flushed_eq m c t) cover

end Cert.MergeIdeal.Arr

end
-- ==== Proof.MergeRef.lean ====
/-
  The reference of the merge, read at an index: row by row the merge row.
-/
module

public import proofs.«01_k».proof.Proof.MergeRow
public import proofs.«01_k».proof.Proof.Gen.MergeRefIdeal.Read

@[expose] public section

set_option maxRecDepth 16384

noncomputable section

namespace Cert.MergeRefIdeal.Rd

open Cert.MergeRefIdeal Cert.MergeRefIdeal.Read Idealize.ShloMosaic Idealize.ShloMosaic.TcCoe Idealize.ShloMosaic.ValueIdx Layer
open scoped BigOperators

variable (x0 : (⟨S8x2048x1024, .f32⟩ : BufTy).Contents (Elt Ideal)) (x1 x2 : (⟨S8x2048x512, .f32⟩ : BufTy).Contents (Elt Ideal)) (x3 : (⟨S1x1024, .f32⟩ : BufTy).Contents (Elt Ideal)) (x4 : (⟨S1x1024x5632, .f32⟩ : BufTy).Contents (Elt Ideal))
  (x5 x6 : (⟨S1x512x1024, .f32⟩ : BufTy).Contents (Elt Ideal)) (x7 : (⟨S1x1024x1024, .f32⟩ : BufTy).Contents (Elt Ideal)) (x8 : (⟨S1x1024, .f32⟩ : BufTy).Contents (Elt Ideal))

/-- The first norm at an index. -/
theorem v13 (b : Fin 8) (s : Fin 2048) (n : Fin 1024) :
    val_main_v13 (F := Ideal) x0 x3 (ix3 b s n) = rmsRow w1024 (fun k => x0 (ix3 b s k)) (fun k => x3 (ix2 0 k)) n := by
  simp only [val_main_v13_apply, val_main_v12_apply, val_main_v11_apply, val_main_v0_apply, val_main_v10_apply, val_main_v9_apply, val_main_v8_apply,
    val_main_v7_apply, val_main_v6_apply, val_main_v5_apply, val_main_v4_apply, val_main_v3_apply, val_main_v2_apply, val_main_v1_apply,
    val_main_cst_apply, val_main_cst_0_apply, val_main_cst_1_apply]
  have e1 : ∀ k, idx_main_v2 (idx_main_v3 (idx_main_v9 (ix3 b s n))) k = ix3 b s k := fun k => funext fun a => by
    match a with
    | ⟨0, _⟩ => rfl
    | ⟨1, _⟩ => rfl
    | ⟨2, _⟩ => rfl
  have e2 : idx_main_v0 (idx_main_v11 (idx_main_v12 (ix3 b s n))) = ix2 0 n := funext fun a => by
    match a with
    | ⟨0, _⟩ => rfl
    | ⟨1, _⟩ => exact Fin.ext (Nat.mod_eq_of_lt n.isLt)
  simp only [e1, e2]
  show x0 (ix3 b s n) * Ideal.rsqrt (Ideal.div (Ideal.ofBits .f32 0x00000000#32 + ∑ k, x0 (ix3 b s k) * x0 (ix3 b s k)) w1024 + eps) * x3 (ix2 0 n) = _
  rw [Ideal.ofBits_zero_f32, zero_add]
  rfl

/-- The input projection at an index. -/
theorem v15 (b : Fin 8) (s : Fin 2048) (j : Fin 5632) :
    val_main_v15 (F := Ideal) x0 x3 x4 (ix3 b s j) = ∑ k : Fin 1024, rmsRow w1024 (fun k => x0 (ix3 b s k)) (fun k => x3 (ix2 0 k)) k * x4 (ix3 0 k j) := by
  rw [val_main_v15_apply]
  refine Finset.sum_congr rfl fun k _ => ?_
  rw [show lidx_main_v15 (ix3 b s j) k = ix3 b s k from funext fun a => by
      match a with
      | ⟨0, _⟩ => rfl
      | ⟨1, _⟩ => rfl
      | ⟨2, _⟩ => rfl, v13, val_main_v14_apply]
  refine congrArg (_ * x4 ·) (funext fun a => ?_)
  have hk := k.isLt
  have hj := j.isLt
  match a with
  | ⟨0, _⟩ => rfl
  | ⟨1, _⟩ => exact Fin.ext (by show (k.val * 5632 + j.val) / 5632 % 1024 = k.val; omega)
  | ⟨2, _⟩ => exact Fin.ext (by show (k.val * 5632 + j.val) % 5632 = j.val; omega)

/-- The first branch's projection at an index. -/
theorem v26 (b : Fin 8) (s : Fin 2048) (j : Fin 1024) :
    val_main_v26 (F := Ideal) x1 x5 (ix3 b s j) = ∑ k : Fin 512, x1 (ix3 b s k) * x5 (ix3 0 k j) := by
  rw [val_main_v26_apply]
  refine Finset.sum_congr rfl fun k _ => ?_
  rw [show lidx_main_v26 (ix3 b s j) k = ix3 b s k from funext fun a => by
      match a with
      | ⟨0, _⟩ => rfl
      | ⟨1, _⟩ => rfl
      | ⟨2, _⟩ => rfl, val_main_v25_apply]
  refine congrArg (_ * x5 ·) (funext fun a => ?_)
  have hk := k.isLt
  have hj := j.isLt
  match a with
  | ⟨0, _⟩ => rfl
  | ⟨1, _⟩ => exact Fin.ext (by show (k.val * 1024 + j.val) / 1024 % 512 = k.val; omega)
  | ⟨2, _⟩ => exact Fin.ext (by show (k.val * 1024 + j.val) % 1024 = j.val; omega)

/-- The second branch's projection at an index. -/
theorem v35 (b : Fin 8) (s : Fin 2048) (j : Fin 1024) :
    val_main_v35 (F := Ideal) x2 x6 (ix3 b s j) = ∑ k : Fin 512, x2 (ix3 b s k) * x6 (ix3 0 k j) := by
  rw [val_main_v35_apply]
  refine Finset.sum_congr rfl fun k _ => ?_
  rw [show lidx_main_v35 (ix3 b s j) k = ix3 b s k from funext fun a => by
      match a with
      | ⟨0, _⟩ => rfl
      | ⟨1, _⟩ => rfl
      | ⟨2, _⟩ => rfl, val_main_v34_apply]
  refine congrArg (_ * x6 ·) (funext fun a => ?_)
  have hk := k.isLt
  have hj := j.isLt
  match a with
  | ⟨0, _⟩ => rfl
  | ⟨1, _⟩ => exact Fin.ext (by show (k.val * 1024 + j.val) / 1024 % 512 = k.val; omega)
  | ⟨2, _⟩ => exact Fin.ext (by show (k.val * 1024 + j.val) % 1024 = j.val; omega)

/-- The first gate's product at an index. -/
theorem v17 (b : Fin 8) (s : Fin 2048) (j : Fin 1024) :
    val_main_v17 (F := Ideal) x0 x3 x4 (ix3 b s j) = ∑ k : Fin 1024, rmsRow w1024 (fun k => x0 (ix3 b s k)) (fun k => x3 (ix2 0 k)) k * x4 (ix3 0 k ⟨3584 + j.val, by omega⟩) := by
  rw [val_main_v17_apply, val_main_v16_apply, show idx_main_v16 (idx_main_v17 (ix3 b s j)) = ix3 b s ⟨3584 + j.val, by omega⟩ from funext fun a => Fin.ext (by
      match a with
      | ⟨0, _⟩ => rfl
      | ⟨1, _⟩ => rfl
      | ⟨2, _⟩ => rfl), v15]

/-- The second gate's product at an index. -/
theorem v18 (b : Fin 8) (s : Fin 2048) (j : Fin 1024) :
    val_main_v18 (F := Ideal) x0 x3 x4 (ix3 b s j) = ∑ k : Fin 1024, rmsRow w1024 (fun k => x0 (ix3 b s k)) (fun k => x3 (ix2 0 k)) k * x4 (ix3 0 k ⟨4608 + j.val, by omega⟩) := by
  rw [val_main_v18_apply, val_main_v16_apply, show idx_main_v16 (idx_main_v18 (ix3 b s j)) = ix3 b s ⟨4608 + j.val, by omega⟩ from funext fun a => Fin.ext (by
      match a with
      | ⟨0, _⟩ => rfl
      | ⟨1, _⟩ => rfl
      | ⟨2, _⟩ => show 3584 + (1024 + j.val) = 4608 + j.val; omega), v15]

/-- The merged branches at an index. -/
theorem v37 (b : Fin 8) (s : Fin 2048) (j : Fin 1024) :
    val_main_v37 (F := Ideal) x0 x1 x2 x3 x4 x5 x6 (ix3 b s j) = merged (rmsRow w1024 (fun k => x0 (ix3 b s k)) (fun k => x3 (ix2 0 k))) (fun k => x1 (ix3 b s k)) (fun k => x2 (ix3 b s k)) (fun k (j : Fin 1024) => x4 (ix3 0 k ⟨3584 + j.val, by omega⟩)) (fun k (j : Fin 1024) => x4 (ix3 0 k ⟨4608 + j.val, by omega⟩)) (fun k j => x5 (ix3 0 k j)) (fun k j => x6 (ix3 0 k j)) j := by
  simp only [val_main_v37_apply, val_main_v36_apply, val_main_v33_apply, val_main_v32_apply, val_main_v31_apply, val_main_v30_apply, val_main_v29_apply,
    val_main_v28_apply, val_main_v27_apply, val_main_v24_apply, val_main_v23_apply, val_main_v22_apply, val_main_v21_apply, val_main_v20_apply,
    val_main_v19_apply, val_main_cst_2_apply, val_main_cst_3_apply, val_main_cst_4_apply, val_main_cst_5_apply, v17, v18, v26, v35]
  unfold merged
  generalize (∑ k : Fin 1024, rmsRow w1024 (fun k => x0 (ix3 b s k)) (fun k => x3 (ix2 0 k)) k * x4 (ix3 0 k ⟨3584 + j.val, by omega⟩)) = a
  generalize (∑ k : Fin 1024, rmsRow w1024 (fun k => x0 (ix3 b s k)) (fun k => x3 (ix2 0 k)) k * x4 (ix3 0 k ⟨4608 + j.val, by omega⟩)) = d
  show Ideal.div (Ideal.ofBits .f32 0x3F800000#32) (Ideal.ofBits .f32 0x3F800000#32 + Ideal.exp (-a)) * _
    + Ideal.div (Ideal.ofBits .f32 0x3F800000#32) (Ideal.ofBits .f32 0x3F800000#32 + Ideal.exp (-d)) * _ = _
  rw [Ideal.ofBits_one_f32]
  rfl

/-- The output projection at an index. -/
theorem v39 (b : Fin 8) (s : Fin 2048) (j : Fin 1024) :
    val_main_v39 (F := Ideal) x0 x1 x2 x3 x4 x5 x6 x7 (ix3 b s j) = ∑ k : Fin 1024, merged (rmsRow w1024 (fun k => x0 (ix3 b s k)) (fun k => x3 (ix2 0 k))) (fun k => x1 (ix3 b s k)) (fun k => x2 (ix3 b s k)) (fun k (j : Fin 1024) => x4 (ix3 0 k ⟨3584 + j.val, by omega⟩)) (fun k (j : Fin 1024) => x4 (ix3 0 k ⟨4608 + j.val, by omega⟩)) (fun k j => x5 (ix3 0 k j)) (fun k j => x6 (ix3 0 k j)) k * x7 (ix3 0 k j) := by
  rw [val_main_v39_apply]
  refine Finset.sum_congr rfl fun k _ => ?_
  rw [show lidx_main_v39 (ix3 b s j) k = ix3 b s k from funext fun a => by
      match a with
      | ⟨0, _⟩ => rfl
      | ⟨1, _⟩ => rfl
      | ⟨2, _⟩ => rfl, v37, val_main_v38_apply]
  refine congrArg (_ * x7 ·) (funext fun a => ?_)
  have hk := k.isLt
  have hj := j.isLt
  match a with
  | ⟨0, _⟩ => rfl
  | ⟨1, _⟩ => exact Fin.ext (by show (k.val * 1024 + j.val) / 1024 % 1024 = k.val; omega)
  | ⟨2, _⟩ => exact Fin.ext (by show (k.val * 1024 + j.val) % 1024 = j.val; omega)

/-- The second norm at an index, over the output projection. -/
theorem v53 (b : Fin 8) (s : Fin 2048) (n : Fin 1024) :
    val_main_v53 (F := Ideal) x0 x1 x2 x3 x4 x5 x6 x7 x8 (ix3 b s n)
      = rmsRow w1024 (fun k => val_main_v39 (F := Ideal) x0 x1 x2 x3 x4 x5 x6 x7 (ix3 b s k)) (fun k => x8 (ix2 0 k)) n := by
  simp only [val_main_v53_apply, val_main_v52_apply, val_main_v51_apply, val_main_v40_apply, val_main_v50_apply, val_main_v49_apply, val_main_v48_apply,
    val_main_v47_apply, val_main_v46_apply, val_main_v45_apply, val_main_v44_apply, val_main_v43_apply, val_main_v42_apply, val_main_v41_apply,
    val_main_cst_6_apply, val_main_cst_7_apply, val_main_cst_8_apply]
  have e1 : ∀ k, idx_main_v42 (idx_main_v43 (idx_main_v49 (ix3 b s n))) k = ix3 b s k := fun k => funext fun a => by
    match a with
    | ⟨0, _⟩ => rfl
    | ⟨1, _⟩ => rfl
    | ⟨2, _⟩ => rfl
  have e2 : idx_main_v40 (idx_main_v51 (idx_main_v52 (ix3 b s n))) = ix2 0 n := funext fun a => by
    match a with
    | ⟨0, _⟩ => rfl
    | ⟨1, _⟩ => exact Fin.ext (Nat.mod_eq_of_lt n.isLt)
  simp only [e1, e2]
  generalize val_main_v39 (F := Ideal) x0 x1 x2 x3 x4 x5 x6 x7 = y
  show y (ix3 b s n) * Ideal.rsqrt (Ideal.div (Ideal.ofBits .f32 0x00000000#32 + ∑ k, y (ix3 b s k) * y (ix3 b s k)) w1024 + eps) * x8 (ix2 0 n) = _
  rw [Ideal.ofBits_zero_f32, zero_add]
  rfl

/-- The result before its last reshape, at an index. -/
theorem v54 (b : Fin 8) (s : Fin 2048) (n : Fin 1024) :
    val_main_v54 (F := Ideal) x0 x1 x2 x3 x4 x5 x6 x7 x8 (ix3 b s n) = mergeRow w1024 (fun k => x0 (ix3 b s k)) (fun k => x3 (ix2 0 k)) (fun k => x8 (ix2 0 k)) (fun k => x1 (ix3 b s k)) (fun k => x2 (ix3 b s k)) (fun k (j : Fin 1024) => x4 (ix3 0 k ⟨3584 + j.val, by omega⟩)) (fun k (j : Fin 1024) => x4 (ix3 0 k ⟨4608 + j.val, by omega⟩)) (fun k j => x5 (ix3 0 k j)) (fun k j => x6 (ix3 0 k j)) (fun k j => x7 (ix3 0 k j)) n := by
  rw [val_main_v54_apply, v53]
  simp only [v39]
  rfl

/-- The reference's result is the merge array of its arguments. -/
theorem v55 : val_main_v55 (F := Ideal) x0 x1 x2 x3 x4 x5 x6 x7 x8 = mergeArr x0 x1 x2 x3 x4 x5 x6 x7 x8 := by
  funext i
  have h0 : (i 0).val < 16384 := (i 0).isLt
  have h1 : (i 1).val < 1024 := (i 1).isLt
  rw [val_main_v55_apply, show idx_main_v55 i = ix3 ⟨(i 0).val / 2048, by omega⟩ ⟨(i 0).val % 2048, by omega⟩ (i 1) from funext fun a => by
      match a with
      | ⟨0, _⟩ => exact Fin.ext (by show ((i 0).val * 1024 + (i 1).val) / 2097152 = (i 0).val / 2048; omega)
      | ⟨1, _⟩ => exact Fin.ext (by show ((i 0).val * 1024 + (i 1).val) / 1024 % 2048 = (i 0).val % 2048; omega)
      | ⟨2, _⟩ => exact Fin.ext (by show ((i 0).val * 1024 + (i 1).val) % 1024 = (i 1).val; omega)]
  exact v54 x0 x1 x2 x3 x4 x5 x6 x7 x8 _ _ (i 1)

end Cert.MergeRefIdeal.Rd

end
-- ==== Proof.FfnBlock.lean ====
/-
  One block of the feed-forward kernel: every group of 256 rows that the body stores is the same function of its rows,
  and that function is, row by row, the feed-forward row.
-/
module

public import proofs.«01_k».proof.Proof.Rows
public import proofs.«01_k».proof.Proof.Gen.FfnIdeal.Value
public import Idealize.ShloMosaic.Lib.Pointwise.Tactic

@[expose] public section

set_option maxRecDepth 16384

noncomputable section

namespace Cert.FfnIdeal.Blk

open Idealize.ShloMosaic hiding ix1 ix2 ix3 ix4
open Cert.FfnIdeal Cert.FfnIdeal.Gen Idealize.ShloMosaic.TcCoe Idealize.ShloMosaic.ValueIdx Layer
open scoped BigOperators

/-- The norm of 256 rows. -/
def RMS (x : FVec Ideal S256x1024 .f32) (g : FVec Ideal S1x1024 .f32) : FVec Ideal S256x1024 .f32 :=
  rms w1024 x g reduces_S256x1024_S256 shapeCasts_S256_S256x1 broadcasts_S256x1_S256x1024 broadcasts_S1x1024_S256x1024

/-- A product of 256 rows with a square block. -/
def MM (h : FVec Ideal S256x1024 .bf16) (w : FVec Ideal S1024x1024 .bf16) : FVec Ideal S256x1024 .f32 :=
  matmul dot_S256x1024_S1024x1024_S256x1024_1_0_0_1_n_n none h w (constant S256x1024 .f32 0x00000000#32)

/-- What 1024 hidden coordinates contribute to 256 rows. -/
def COL (h : FVec Ideal S256x1024 .bf16) (wg wu wd : FVec Ideal S1024x1024 .bf16) : FVec Ideal S256x1024 .f32 :=
  MM (truncf .bf16 (mulf (mulf (MM h wg) (logistic (MM h wg))) (MM h wu)) bitsLt_bf16_f32) wd

/-- The rows of one group after the block. -/
def PAY (x : FVec Ideal S256x1024 .f32) (gp gq : FVec Ideal S1x1024 .f32)
    (wg0 wu0 wd0 wg1 wu1 wd1 wg2 wu2 wd2 wg3 wu3 wd3 : FVec Ideal S1024x1024 .bf16) : FVec Ideal S256x1024 .f32 :=
  addf x (mulf (broadcast S256x1024 half) (RMS
    (addf (addf (addf (COL (truncf .bf16 (RMS x gp) bitsLt_bf16_f32) wg0 wu0 wd0) (COL (truncf .bf16 (RMS x gp) bitsLt_bf16_f32) wg1 wu1 wd1))
      (COL (truncf .bf16 (RMS x gp) bitsLt_bf16_f32) wg2 wu2 wd2)) (COL (truncf .bf16 (RMS x gp) bitsLt_bf16_f32) wg3 wu3 wd3)) gq))

/-- The payload of a group from the six windows' blocks. -/
abbrev PAYr (r : FVec Ideal S256x1024 .f32) (x1 x2 : Vec Ideal S1x1024 .f32) (x3 x4 : Vec Ideal S1024x4096 .bf16) (x5 : Vec Ideal S4096x1024 .bf16) :
    FVec Ideal S256x1024 .f32 :=
  PAY r (View.ld x1 r0_4) (View.ld x2 r0_4) (View.ld x3 r0_5) (View.ld x4 r0_5) (View.ld x5 r0_6) (View.ld x3 r0_7) (View.ld x4 r0_7)
    (View.ld x5 r0_8) (View.ld x3 r0_9) (View.ld x4 r0_9) (View.ld x5 r0_10) (View.ld x3 r0_11) (View.ld x4 r0_11) (View.ld x5 r0_12)

/-- The body's four stores are the one payload of the four groups of rows. -/
theorem out_eq (x0 : Vec Ideal S1024x1024 .f32) (x1 x2 : Vec Ideal S1x1024 .f32) (x3 x4 : Vec Ideal S1024x4096 .bf16) (x5 : Vec Ideal S4096x1024 .bf16) :
    out0_6 x0 x1 x2 x3 x4 x5 = View.canon [⟨r0_3, PAYr (View.ld x0 r0_3) x1 x2 x3 x4 x5⟩, ⟨r0_2, PAYr (View.ld x0 r0_2) x1 x2 x3 x4 x5⟩,
      ⟨r0_1, PAYr (View.ld x0 r0_1) x1 x2 x3 x4 x5⟩, ⟨r0_0, PAYr (View.ld x0 r0_0) x1 x2 x3 x4 x5⟩] := by
  unfold_out out0_6
  unfold_payloads
  simp only [shapeCast_self]
  rfl

/-- A product at an index. -/
theorem MM_apply (h : FVec Ideal S256x1024 .bf16) (w : FVec Ideal S1024x1024 .bf16) (p : Fin 256) (n : Fin 1024) :
    MM h w (ix2 p n) = ∑ k : Fin 1024, h (ix2 p k) * w (ix2 k n) := mm_apply h w p n

/-- The norm at an index. -/
theorem RMS_apply (x : FVec Ideal S256x1024 .f32) (g : FVec Ideal S1x1024 .f32) (p : Fin 256) (n : Fin 1024) :
    RMS x g (ix2 p n) = rmsRow w1024 (fun k => x (ix2 p k)) (fun k => g (ix2 0 k)) n :=
  rms_apply w1024 x g _ _ _ _ (by decide) (by decide) p n

/-- A contribution at an index. -/
theorem COL_apply (h : FVec Ideal S256x1024 .bf16) (wg wu wd : FVec Ideal S1024x1024 .bf16) (p : Fin 256) (n : Fin 1024) :
    COL h wg wu wd (ix2 p n)
      = ∑ j : Fin 1024, gated (fun k => h (ix2 p k)) (fun k j => wg (ix2 k j)) (fun k j => wu (ix2 k j)) j * wd (ix2 j n) := by
  unfold COL
  rw [MM_apply]
  refine Finset.sum_congr rfl fun j _ => congrArg (· * _) ?_
  show MM h wg (ix2 p j) * Ideal.logistic (MM h wg (ix2 p j)) * MM h wu (ix2 p j) = _
  rw [MM_apply, MM_apply]
  rfl

/-- A column block of a wide matrix, loaded at column offset `o`, at an index. -/
theorem ld_cols {φ : EltTy} (X : Vec Ideal S1024x4096 φ) (o : ℕ) (ho : o + 1024 ≤ 4096)
    (inb : ∀ a, (![0, o] : Fin 2 → ℕ) a + S1024x1024.size a ≤ S1024x4096.size a) (k j : Fin 1024) :
    View.ld X (Rect.unit (s := S1024x4096) ![0, o] S1024x1024.size inb) (ix2 k j) = X (ix2 k ⟨o + j.val, by omega⟩) := by
  show X _ = X _
  refine congrArg X (funext fun a => Fin.ext ?_)
  match a with
  | ⟨0, _⟩ => show 0 + 1 * k.val = k.val; omega
  | ⟨1, _⟩ => show o + 1 * j.val = o + j.val; omega

/-- A row block of a tall matrix, loaded at row offset `o`, at an index. -/
theorem ld_rows {φ : EltTy} (X : Vec Ideal S4096x1024 φ) (o : ℕ) (ho : o + 1024 ≤ 4096)
    (inb : ∀ a, (![o, 0] : Fin 2 → ℕ) a + S1024x1024.size a ≤ S4096x1024.size a) (j n : Fin 1024) :
    View.ld X (Rect.unit (s := S4096x1024) ![o, 0] S1024x1024.size inb) (ix2 j n) = X (ix2 ⟨o + j.val, by omega⟩ n) := by
  show X _ = X _
  refine congrArg X (funext fun a => Fin.ext ?_)
  match a with
  | ⟨0, _⟩ => show o + 1 * j.val = o + j.val; omega
  | ⟨1, _⟩ => show 0 + 1 * n.val = n.val; omega

/-- A hidden coordinate read from the column blocks at offset `o` is the one `o` further on of the whole matrices. -/
theorem gated_cols (h : Fin 1024 → EReal) (X Y : Vec Ideal S1024x4096 .bf16) (o : ℕ) (ho : o + 1024 ≤ 4096)
    (inb : ∀ a, (![0, o] : Fin 2 → ℕ) a + S1024x1024.size a ≤ S1024x4096.size a) (j : Fin 1024) :
    gated h (fun k j => View.ld X (Rect.unit (s := S1024x4096) ![0, o] S1024x1024.size inb) (ix2 k j))
        (fun k j => View.ld Y (Rect.unit (s := S1024x4096) ![0, o] S1024x1024.size inb) (ix2 k j)) j
      = gated h (fun k j => X (ix2 k j)) (fun k j => Y (ix2 k j)) ⟨o + j.val, by omega⟩ :=
  congrArg₂ (fun a b => swish a * b) (Finset.sum_congr rfl fun k _ => congrArg (h k * ·) (ld_cols X o ho inb k j))
    (Finset.sum_congr rfl fun k _ => congrArg (h k * ·) (ld_cols Y o ho inb k j))

/-- Zero offsets of a matrix. -/
theorem z2 : (![0, 0] : Fin 2 → ℕ) = fun _ => 0 := funext fun a => by
  match a with
  | ⟨0, _⟩ => rfl
  | ⟨1, _⟩ => rfl

/-- The payload of a group, row by row, is the feed-forward row. -/
theorem PAYr_apply (r : FVec Ideal S256x1024 .f32) (x1 x2 : Vec Ideal S1x1024 .f32) (x3 x4 : Vec Ideal S1024x4096 .bf16)
    (x5 : Vec Ideal S4096x1024 .bf16) (p : Fin 256) (n : Fin 1024) :
    PAYr r x1 x2 x3 x4 x5 (ix2 p n)
      = ffnRow w1024 (fun k => r (ix2 p k)) (fun k => x1 (ix2 0 k)) (fun k => x2 (ix2 0 k)) (fun k j => x3 (ix2 k j))
          (fun k j => x4 (ix2 k j)) (fun j k => x5 (ix2 j k)) n := by
  unfold PAYr PAY ffnRow
  rw [View.ld_unit_zero z2, View.ld_unit_zero z2]
  show r (ix2 p n) + half * RMS _ _ (ix2 p n) = _
  rw [RMS_apply]
  refine congrArg (fun f => r (ix2 p n) + half * rmsRow w1024 f _ n) (funext fun k => ?_)
  show COL _ _ _ _ (ix2 p k) + COL _ _ _ _ (ix2 p k) + COL _ _ _ _ (ix2 p k) + COL _ _ _ _ (ix2 p k) = _
  have hh : (fun k => (truncf .bf16 (RMS r x1) bitsLt_bf16_f32 : FVec Ideal S256x1024 .bf16) (ix2 p k))
      = rmsRow w1024 (fun k => r (ix2 p k)) (fun k => x1 (ix2 0 k)) := funext fun k => RMS_apply r x1 p k
  rw [COL_apply, COL_apply, COL_apply, COL_apply, hh, sum4]
  refine congrArg₂ (· + ·) (congrArg₂ (· + ·) (congrArg₂ (· + ·) ?_ ?_) ?_) ?_ <;>
    refine Finset.sum_congr rfl fun j _ => ?_
  · rw [ld_rows x5 0 (by decide), gated_cols _ x3 x4 0 (by decide)]; simp only [Nat.zero_add]
  · rw [ld_rows x5 1024 (by decide), gated_cols _ x3 x4 1024 (by decide)]
  · rw [ld_rows x5 2048 (by decide), gated_cols _ x3 x4 2048 (by decide)]
  · rw [ld_rows x5 3072 (by decide), gated_cols _ x3 x4 3072 (by decide)]

/-- A block of the result at an index: the feed-forward row of that row of the block. -/
theorem out_apply (x0 : Vec Ideal S1024x1024 .f32) (x1 x2 : Vec Ideal S1x1024 .f32) (x3 x4 : Vec Ideal S1024x4096 .bf16)
    (x5 : Vec Ideal S4096x1024 .bf16) (y : S1024x1024.Idx) :
    out0_6 x0 x1 x2 x3 x4 x5 y
      = ffnRow w1024 (fun k => x0 (ix2 (y 0) k)) (fun k => x1 (ix2 0 k)) (fun k => x2 (ix2 0 k)) (fun k j => x3 (ix2 k j))
          (fun k j => x4 (ix2 k j)) (fun j k => x5 (ix2 j k)) (y 1) := by
  rw [out_eq]
  refine View.canon_apply_of_pieces (Val := Elt Ideal) (fun y : S1024x1024.Idx => ffnRow w1024 (fun k => x0 (ix2 (y 0) k)) (fun k => x1 (ix2 0 k))
    (fun k => x2 (ix2 0 k)) (fun k j => x3 (ix2 k j)) (fun k j => x4 (ix2 k j)) (fun j k => x5 (ix2 j k)) (y 1)) _ ?_ y (cover0_6 _ _ _ _ y)
  have key : ∀ (o : ℕ) (inb : ∀ a, (![o, 0] : Fin 2 → ℕ) a + S256x1024.size a ≤ S1024x1024.size a) (x : S256x1024.Idx),
      PAYr (View.ld x0 (Rect.unit (s := S1024x1024) ![o, 0] S256x1024.size inb)) x1 x2 x3 x4 x5 x
        = ffnRow w1024 (fun k => x0 (ix2 ((Rect.unit (s := S1024x1024) ![o, 0] S256x1024.size inb).emb x 0) k)) (fun k => x1 (ix2 0 k))
            (fun k => x2 (ix2 0 k)) (fun k j => x3 (ix2 k j)) (fun k j => x4 (ix2 k j)) (fun j k => x5 (ix2 j k))
            ((Rect.unit (s := S1024x1024) ![o, 0] S256x1024.size inb).emb x 1) := fun o inb x => by
    obtain ⟨p, n, rfl⟩ : ∃ (p : Fin 256) (n : Fin 1024), x = ix2 p n := ⟨x 0, x 1, ValueIdx.eq_ix2 x⟩
    rw [PAYr_apply]
    have e1 : (Rect.unit (s := S1024x1024) ![o, 0] S256x1024.size inb).emb (ix2 p n) 1 = n :=
      Fin.ext (by show 0 + 1 * n.val = n.val; omega)
    rw [e1]
    refine congrArg (fun f => ffnRow w1024 f _ _ _ _ _ n) (funext fun k => ?_)
    show x0 _ = x0 _
    refine congrArg x0 (funext fun a => Fin.ext ?_)
    match a with
    | ⟨0, _⟩ => rfl
    | ⟨1, _⟩ => show 0 + 1 * k.val = k.val; omega
  intro pc hpc x
  simp only [List.mem_cons, List.mem_nil_iff, or_false] at hpc
  rcases hpc with rfl | rfl | rfl | rfl
  · exact key 768 _ x
  · exact key 512 _ x
  · exact key 256 _ x
  · exact key 0 _ x

end Cert.FfnIdeal.Blk

end
-- ==== Proof.FfnArray.lean ====
/-
  The feed-forward kernel's result array: what each grid point writes back is its block of one whole-array function of
  the arguments, and the blocks cover the array.
-/
module

public import proofs.«01_k».proof.Proof.FfnBlock
public import Idealize.ShloMosaic.Lib.StableHlo.ReadAt

@[expose] public section

set_option maxRecDepth 16384

noncomputable section

namespace Cert.FfnIdeal.Arr

open Idealize.ShloMosaic hiding ix1 ix2 ix3 ix4
open Cert.FfnIdeal Cert.FfnIdeal.Gen Cert.FfnIdeal.Blk Idealize.ShloMosaic.TcCoe Idealize.ShloMosaic.ValueIdx Layer Idealize.SL.Sem
open Idealize.ShloMosaic.Pipeline (Dat)
open scoped BigOperators

variable (m : (ℓ : Loc nD τ sig) → Buf (Elt Ideal) ℓ) (c : Dev nD)

/-- The activation as the region finds it: the argument with its two leading axes joined. -/
theorem V_x (r : Fin 16384) (k : Fin 1024) :
    V m c main_v0 (ix2 r k) = m ((c : Thread nD τ).loc main_arg0) (ix3 ⟨r.val / 2048, by omega⟩ ⟨r.val % 2048, by omega⟩ k) := by
  show StableHlo.after hostOps0 _ _ _ = _
  after_reads_at
  rfl
/-- The first gain as the region finds it. -/
theorem V_gp (k : Fin 1024) : V m c main_v2 (ix2 0 k) = m ((c : Thread nD τ).loc main_arg1) (ix2 0 k) := by
  show StableHlo.after hostOps0 _ _ _ = _
  after_reads_at
  rfl
/-- The second gain as the region finds it. -/
theorem V_gq (k : Fin 1024) : V m c main_v4 (ix2 0 k) = m ((c : Thread nD τ).loc main_arg2) (ix2 0 k) := by
  show StableHlo.after hostOps0 _ _ _ = _
  after_reads_at
  rfl
/-- The gate weights as the region finds them. -/
theorem V_wg (k : Fin 1024) (j : Fin 4096) : V m c main_v6 (ix2 k j) = m ((c : Thread nD τ).loc main_arg3) (ix3 0 k j) := by
  show StableHlo.after hostOps0 _ _ _ = _
  after_reads_at
  rfl
/-- The up weights as the region finds them. -/
theorem V_wu (k : Fin 1024) (j : Fin 4096) : V m c main_v8 (ix2 k j) = m ((c : Thread nD τ).loc main_arg4) (ix3 0 k j) := by
  show StableHlo.after hostOps0 _ _ _ = _
  after_reads_at
  rfl
/-- The down weights as the region finds them. -/
theorem V_wd (j : Fin 4096) (k : Fin 1024) : V m c main_v10 (ix2 j k) = m ((c : Thread nD τ).loc main_arg5) (ix3 0 j k) := by
  show StableHlo.after hostOps0 _ _ _ = _
  after_reads_at
  rfl

/-- The feed-forward array of device `c`'s arguments: what the result array is shown to hold. -/
abbrev G : S16384x1024.Idx → EReal :=
  ffnArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The activation's and the result's block at point `t` is the `t`-th run of 1024 rows. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
/-- The other windows stay at block zero. -/
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)

/-- The activation's block at point `t`, at an index. -/
theorem blk0 (t : Fin cfg0.N) (p : Fin 1024) (k : Fin 1024) (h : t.val * 1024 + p.val < 16384) :
    iblk m c 0 t (ix2 p k) = V m c main_v0 (ix2 ⟨t.val * 1024 + p.val, h⟩ k) := by
  show V m c main_v0 _ = V m c main_v0 _
  refine congrArg (V m c main_v0) (funext fun a => Fin.ext ?_)
  match a with
  | ⟨0, _⟩ => show win0_0.index t 0 * 1024 + 1 * p.val = t.val * 1024 + p.val; rw [(idx0 t).1]; omega
  | ⟨1, _⟩ => show win0_0.index t 1 * 1024 + 1 * k.val = k.val; rw [(idx0 t).2]; omega
/-- The first gain's block is the whole gain. -/
theorem blk1 (t : Fin cfg0.N) (k : Fin 1024) : iblk m c 1 t (ix2 0 k) = V m c main_v2 (ix2 0 k) := by
  show V m c main_v2 _ = V m c main_v2 _
  refine congrArg (V m c main_v2) (funext fun a => Fin.ext ?_)
  match a with
  | ⟨0, _⟩ => show win0_1.index t 0 * 1 + 1 * 0 = 0; rw [(idx1 t).1]
  | ⟨1, _⟩ => show win0_1.index t 1 * 1024 + 1 * k.val = k.val; rw [(idx1 t).2]; omega
/-- The second gain's block is the whole gain. -/
theorem blk2 (t : Fin cfg0.N) (k : Fin 1024) : iblk m c 2 t (ix2 0 k) = V m c main_v4 (ix2 0 k) := by
  show V m c main_v4 _ = V m c main_v4 _
  refine congrArg (V m c main_v4) (funext fun a => Fin.ext ?_)
  match a with
  | ⟨0, _⟩ => show win0_2.index t 0 * 1 + 1 * 0 = 0; rw [(idx2 t).1]
  | ⟨1, _⟩ => show win0_2.index t 1 * 1024 + 1 * k.val = k.val; rw [(idx2 t).2]; omega
/-- The gate weights' block is the whole matrix. -/
theorem blk3 (t : Fin cfg0.N) (k : Fin 1024) (j : Fin 4096) : iblk m c 3 t (ix2 k j) = V m c main_v6 (ix2 k j) := by
  show V m c main_v6 _ = V m c main_v6 _
  refine congrArg (V m c main_v6) (funext fun a => Fin.ext ?_)
  match a with
  | ⟨0, _⟩ => show win0_3.index t 0 * 1024 + 1 * k.val = k.val; rw [(idx3 t).1]; omega
  | ⟨1, _⟩ => show win0_3.index t 1 * 4096 + 1 * j.val = j.val; rw [(idx3 t).2]; omega
/-- The up weights' block is the whole matrix. -/
theorem blk4 (t : Fin cfg0.N) (k : Fin 1024) (j : Fin 4096) : iblk m c 4 t (ix2 k j) = V m c main_v8 (ix2 k j) := by
  show V m c main_v8 _ = V m c main_v8 _
  refine congrArg (V m c main_v8) (funext fun a => Fin.ext ?_)
  match a with
  | ⟨0, _⟩ => show win0_4.index t 0 * 1024 + 1 * k.val = k.val; rw [(idx4 t).1]; omega
  | ⟨1, _⟩ => show win0_4.index t 1 * 4096 + 1 * j.val = j.val; rw [(idx4 t).2]; omega
/-- The down weights' block is the whole matrix. -/
theorem blk5 (t : Fin cfg0.N) (j : Fin 4096) (k : Fin 1024) : iblk m c 5 t (ix2 j k) = V m c main_v10 (ix2 j k) := by
  show V m c main_v10 _ = V m c main_v10 _
  refine congrArg (V m c main_v10) (funext fun a => Fin.ext ?_)
  match a with
  | ⟨0, _⟩ => show win0_5.index t 0 * 4096 + 1 * j.val = j.val; rw [(idx5 t).1]; omega
  | ⟨1, _⟩ => show win0_5.index t 1 * 1024 + 1 * k.val = k.val; rw [(idx5 t).2]; omega

/-- What point `t` writes back is block `t` of the feed-forward array. -/
theorem flushed_eq (t : Fin cfg0.N) : (dats m 0 c).flushed 6 t = (win0_6.blk t).view.read (Elt Ideal) (G m c) := by
  rw [Value.flushed6]
  funext y
  obtain ⟨p, n, rfl⟩ : ∃ (p : Fin 1024) (n : Fin 1024), y = ix2 p n := ⟨y 0, y 1, ValueIdx.eq_ix2 y⟩
  have hN : cfg0.N = 16 := N_0
  have ht : t.val < 16 := hN ▸ t.isLt
  have h : t.val * 1024 + p.val < 16384 := by omega
  have e : (win0_6.blk t).view.read (Elt Ideal) (G m c) (ix2 p n) = G m c (ix2 ⟨t.val * 1024 + p.val, h⟩ n) := by
    show G m c _ = G m c _
    refine congrArg (G m c) (funext fun a => Fin.ext ?_)
    match a with
    | ⟨0, _⟩ => show win0_6.index t 0 * 1024 + 1 * p.val = t.val * 1024 + p.val; rw [(idx6 t).1]; omega
    | ⟨1, _⟩ => show win0_6.index t 1 * 1024 + 1 * n.val = n.val; rw [(idx6 t).2]; omega
  rw [e]
  show out0_6 _ _ _ _ _ _ (ix2 p n) = _
  rw [out_apply]
  show ffnRow w1024 (fun k => iblk m c 0 t (ix2 p k)) (fun k => iblk m c 1 t (ix2 0 k)) (fun k => iblk m c 2 t (ix2 0 k))
    (fun k j => iblk m c 3 t (ix2 k j)) (fun k j => iblk m c 4 t (ix2 k j)) (fun j k => iblk m c 5 t (ix2 j k)) n = _
  rw [show (fun k => iblk m c 0 t (ix2 p k)) = _ from funext fun k => (blk0 m c t p k h).trans (V_x m c _ k),
    show (fun k => iblk m c 1 t (ix2 0 k)) = _ from funext fun k => (blk1 m c t k).trans (V_gp m c k),
    show (fun k => iblk m c 2 t (ix2 0 k)) = _ from funext fun k => (blk2 m c t k).trans (V_gq m c k),
    show (fun k j => iblk m c 3 t (ix2 k j)) = _ from funext fun k => funext fun j => (blk3 m c t k j).trans (V_wg m c k j),
    show (fun k j => iblk m c 4 t (ix2 k j)) = _ from funext fun k => funext fun j => (blk4 m c t k j).trans (V_wu m c k j),
    show (fun j k => iblk m c 5 t (ix2 j k)) = _ from funext fun j => funext fun k => (blk5 m c t j k).trans (V_wd m c j k)]
  rfl

/-- An index of the result array is in point `t`'s block when its row is in the `t`-th run. -/
theorem mem_blk (t : Fin cfg0.N) (i : S16384x1024.Idx) :
    i ∈ ((cfg0.win 6).blk t).view.set ↔ t.val * 1024 ≤ (i 0).val ∧ (i 0).val < t.val * 1024 + 1024 := by
  show i ∈ ((View.whole main_v11).slice (win0_6.rect t)).set ↔ _
  rw [View.set_slice_whole, Rect.mem_set_unit]
  have h1 : (i 1).val < 1024 := (i 1).isLt
  refine ⟨fun h => ?_, fun h a => ?_⟩
  · have h0 : win0_6.index t 0 * 1024 ≤ (i 0).val ∧ (i 0).val < win0_6.index t 0 * 1024 + 1024 := h 0
    rwa [(idx6 t).1] at h0
  · match a with
    | ⟨0, _⟩ =>
      show win0_6.index t 0 * 1024 ≤ (i 0).val ∧ (i 0).val < win0_6.index t 0 * 1024 + 1024
      rw [(idx6 t).1]; exact h
    | ⟨1, _⟩ =>
      show win0_6.index t 1 * 1024 ≤ (i 1).val ∧ (i 1).val < win0_6.index t 1 * 1024 + 1024
      rw [(idx6 t).2, Nat.zero_mul, Nat.zero_add]
      exact ⟨Nat.zero_le _, h1⟩

/-- The blocks cover the result array. -/
theorem cover (i : S16384x1024.Idx) : ∃ t : Fin cfg0.N, (cfg0.win 6).flush t = true ∧ i ∈ ((cfg0.win 6).blk t).view.set := by
  have h0 : (i 0).val < 16384 := (i 0).isLt
  have hN : cfg0.N = 16 := N_0
  refine ⟨⟨(i 0).val / 1024, by rw [hN]; omega⟩, flush0_6 _, ?_⟩
  rw [mem_blk]
  dsimp only
  omega

/-- The result array ends holding the feed-forward array. -/
theorem final : (dats m 0 c).arrAt 6 cfg0.N = G m c :=
  (dats m 0 c).arrAt_eq_of_cover 6 (G m c) (fun t _ => flushed_eq m c t) cover

end Cert.FfnIdeal.Arr

end
-- ==== Proof.FfnRef.lean ====
/-
  The reference of the feed-forward block, read at an index: row by row the feed-forward row.
-/
module

public import proofs.«01_k».proof.Proof.Rows
public import proofs.«01_k».proof.Proof.Gen.FfnRefIdeal.Read

@[expose] public section

set_option maxRecDepth 16384

noncomputable section

namespace Cert.FfnRefIdeal.Rd

open Cert.FfnRefIdeal Cert.FfnRefIdeal.Read Idealize.ShloMosaic Idealize.ShloMosaic.TcCoe Idealize.ShloMosaic.ValueIdx Layer
open scoped BigOperators

variable (x0 : (⟨S8x2048x1024, .f32⟩ : BufTy).Contents (Elt Ideal)) (x1 x2 : (⟨S1x1024, .f32⟩ : BufTy).Contents (Elt Ideal))
  (x3 x4 : (⟨S1x1024x4096, .f32⟩ : BufTy).Contents (Elt Ideal)) (x5 : (⟨S1x4096x1024, .f32⟩ : BufTy).Contents (Elt Ideal))

/-- The first norm at an index. -/
theorem v13 (b : Fin 8) (s : Fin 2048) (n : Fin 1024) :
    val_main_v13 (F := Ideal) x0 x1 (ix3 b s n) = rmsRow w1024 (fun k => x0 (ix3 b s k)) (fun k => x1 (ix2 0 k)) n := by
  simp only [val_main_v13_apply, val_main_v12_apply, val_main_v11_apply, val_main_v0_apply, val_main_v10_apply, val_main_v9_apply, val_main_v8_apply,
    val_main_v7_apply, val_main_v6_apply, val_main_v5_apply, val_main_v4_apply, val_main_v3_apply, val_main_v2_apply, val_main_v1_apply,
    val_main_cst_apply, val_main_cst_0_apply, val_main_cst_1_apply]
  have e1 : ∀ k, idx_main_v2 (idx_main_v3 (idx_main_v9 (ix3 b s n))) k = ix3 b s k := fun k => funext fun a => by
    match a with
    | ⟨0, _⟩ => rfl
    | ⟨1, _⟩ => rfl
    | ⟨2, _⟩ => rfl
  have e2 : idx_main_v0 (idx_main_v11 (idx_main_v12 (ix3 b s n))) = ix2 0 n := funext fun a => by
    match a with
    | ⟨0, _⟩ => rfl
    | ⟨1, _⟩ => exact Fin.ext (Nat.mod_eq_of_lt n.isLt)
  simp only [e1, e2]
  show x0 (ix3 b s n) * Ideal.rsqrt (Ideal.div (Ideal.ofBits .f32 0x00000000#32 + ∑ k, x0 (ix3 b s k) * x0 (ix3 b s k)) w1024 + eps) * x1 (ix2 0 n) = _
  rw [Ideal.ofBits_zero_f32, zero_add]
  rfl

/-- The gate product at an index. -/
theorem v17 (b : Fin 8) (s : Fin 2048) (j : Fin 4096) :
    val_main_v17 (F := Ideal) x0 x1 x3 (ix3 b s j)
      = ∑ k, rmsRow w1024 (fun k => x0 (ix3 b s k)) (fun k => x1 (ix2 0 k)) k * x3 (ix3 0 k j) := by
  rw [val_main_v17_apply]
  refine Finset.sum_congr rfl fun k _ => ?_
  rw [show lidx_main_v17 (ix3 b s j) k = ix3 b s k from funext fun a => by
      match a with
      | ⟨0, _⟩ => rfl
      | ⟨1, _⟩ => rfl
      | ⟨2, _⟩ => rfl, v13, val_main_v14_apply]
  refine congrArg (_ * x3 ·) (funext fun a => ?_)
  have hk := k.isLt
  have hj := j.isLt
  match a with
  | ⟨0, _⟩ => rfl
  | ⟨1, _⟩ => exact Fin.ext (by show (k.val * 4096 + j.val) / 4096 % 1024 = k.val; omega)
  | ⟨2, _⟩ => exact Fin.ext (by show (k.val * 4096 + j.val) % 4096 = j.val; omega)

/-- The up product at an index. -/
theorem v19 (b : Fin 8) (s : Fin 2048) (j : Fin 4096) :
    val_main_v19 (F := Ideal) x0 x1 x4 (ix3 b s j)
      = ∑ k, rmsRow w1024 (fun k => x0 (ix3 b s k)) (fun k => x1 (ix2 0 k)) k * x4 (ix3 0 k j) := by
  rw [val_main_v19_apply]
  refine Finset.sum_congr rfl fun k _ => ?_
  rw [show lidx_main_v19 (ix3 b s j) k = ix3 b s k from funext fun a => by
      match a with
      | ⟨0, _⟩ => rfl
      | ⟨1, _⟩ => rfl
      | ⟨2, _⟩ => rfl, v13, val_main_v15_apply]
  refine congrArg (_ * x4 ·) (funext fun a => ?_)
  have hk := k.isLt
  have hj := j.isLt
  match a with
  | ⟨0, _⟩ => rfl
  | ⟨1, _⟩ => exact Fin.ext (by show (k.val * 4096 + j.val) / 4096 % 1024 = k.val; omega)
  | ⟨2, _⟩ => exact Fin.ext (by show (k.val * 4096 + j.val) % 4096 = j.val; omega)

/-- The gated hidden coordinate at an index. -/
theorem v20 (b : Fin 8) (s : Fin 2048) (j : Fin 4096) :
    val_main_v20 (F := Ideal) x0 x1 x3 x4 (ix3 b s j)
      = gated (rmsRow w1024 (fun k => x0 (ix3 b s k)) (fun k => x1 (ix2 0 k))) (fun k j => x3 (ix3 0 k j)) (fun k j => x4 (ix3 0 k j)) j := by
  simp only [val_main_v20_apply, val_main_v18_apply, val_main_call0_v5_apply, val_main_call0_v4_apply, val_main_call0_v3_apply, val_main_call0_v2_apply,
    val_main_call0_v1_apply, val_main_call0_v0_apply, val_main_call0_cst_apply, val_main_call0_cst_0_apply, v17, v19]
  unfold gated
  generalize (∑ k, rmsRow w1024 (fun k => x0 (ix3 b s k)) (fun k => x1 (ix2 0 k)) k * x3 (ix3 0 k j)) = a
  show a * Ideal.div (Ideal.ofBits .f32 0x3F800000#32) (Ideal.ofBits .f32 0x3F800000#32 + Ideal.exp (-a)) * _ = _
  rw [Ideal.ofBits_one_f32]
  rfl

/-- The network's output at an index. -/
theorem v21 (b : Fin 8) (s : Fin 2048) (n : Fin 1024) :
    val_main_v21 (F := Ideal) x0 x1 x3 x4 x5 (ix3 b s n)
      = ∑ j, gated (rmsRow w1024 (fun k => x0 (ix3 b s k)) (fun k => x1 (ix2 0 k))) (fun k j => x3 (ix3 0 k j)) (fun k j => x4 (ix3 0 k j)) j
          * x5 (ix3 0 j n) := by
  rw [val_main_v21_apply]
  refine Finset.sum_congr rfl fun j _ => ?_
  rw [show lidx_main_v21 (ix3 b s n) j = ix3 b s j from funext fun a => by
      match a with
      | ⟨0, _⟩ => rfl
      | ⟨1, _⟩ => rfl
      | ⟨2, _⟩ => rfl, v20, val_main_v16_apply]
  refine congrArg (_ * x5 ·) (funext fun a => ?_)
  have hn := n.isLt
  have hj := j.isLt
  match a with
  | ⟨0, _⟩ => rfl
  | ⟨1, _⟩ => exact Fin.ext (by show (j.val * 1024 + n.val) / 1024 % 4096 = j.val; omega)
  | ⟨2, _⟩ => exact Fin.ext (by show (j.val * 1024 + n.val) % 1024 = n.val; omega)

/-- The second norm at an index, over the network's output. -/
theorem v35 (b : Fin 8) (s : Fin 2048) (n : Fin 1024) :
    val_main_v35 (F := Ideal) x0 x1 x2 x3 x4 x5 (ix3 b s n)
      = rmsRow w1024 (fun k => val_main_v21 (F := Ideal) x0 x1 x3 x4 x5 (ix3 b s k)) (fun k => x2 (ix2 0 k)) n := by
  simp only [val_main_v35_apply, val_main_v34_apply, val_main_v33_apply, val_main_v22_apply, val_main_v32_apply, val_main_v31_apply, val_main_v30_apply,
    val_main_v29_apply, val_main_v28_apply, val_main_v27_apply, val_main_v26_apply, val_main_v25_apply, val_main_v24_apply, val_main_v23_apply,
    val_main_cst_2_apply, val_main_cst_3_apply, val_main_cst_4_apply]
  have e1 : ∀ k, idx_main_v24 (idx_main_v25 (idx_main_v31 (ix3 b s n))) k = ix3 b s k := fun k => funext fun a => by
    match a with
    | ⟨0, _⟩ => rfl
    | ⟨1, _⟩ => rfl
    | ⟨2, _⟩ => rfl
  have e2 : idx_main_v22 (idx_main_v33 (idx_main_v34 (ix3 b s n))) = ix2 0 n := funext fun a => by
    match a with
    | ⟨0, _⟩ => rfl
    | ⟨1, _⟩ => exact Fin.ext (Nat.mod_eq_of_lt n.isLt)
  simp only [e1, e2]
  generalize val_main_v21 (F := Ideal) x0 x1 x3 x4 x5 = y
  show y (ix3 b s n) * Ideal.rsqrt (Ideal.div (Ideal.ofBits .f32 0x00000000#32 + ∑ k, y (ix3 b s k) * y (ix3 b s k)) w1024 + eps) * x2 (ix2 0 n) = _
  rw [Ideal.ofBits_zero_f32, zero_add]
  rfl

/-- The result before its last reshape, at an index. -/
theorem v38 (b : Fin 8) (s : Fin 2048) (n : Fin 1024) :
    val_main_v38 (F := Ideal) x0 x1 x2 x3 x4 x5 (ix3 b s n)
      = ffnRow w1024 (fun k => x0 (ix3 b s k)) (fun k => x1 (ix2 0 k)) (fun k => x2 (ix2 0 k)) (fun k j => x3 (ix3 0 k j))
          (fun k j => x4 (ix3 0 k j)) (fun j k => x5 (ix3 0 j k)) n := by
  simp only [val_main_v38_apply, val_main_v37_apply, val_main_v36_apply, val_main_cst_5_apply, v35, v21]
  rfl

/-- The reference's result is the feed-forward array of its arguments. -/
theorem v39 : val_main_v39 (F := Ideal) x0 x1 x2 x3 x4 x5 = ffnArr x0 x1 x2 x3 x4 x5 := by
  funext i
  have h0 : (i 0).val < 16384 := (i 0).isLt
  have h1 : (i 1).val < 1024 := (i 1).isLt
  rw [val_main_v39_apply, show idx_main_v39 i = ix3 ⟨(i 0).val / 2048, by omega⟩ ⟨(i 0).val % 2048, by omega⟩ (i 1) from funext fun a => by
      match a with
      | ⟨0, _⟩ => exact Fin.ext (by show ((i 0).val * 1024 + (i 1).val) / 2097152 = (i 0).val / 2048; omega)
      | ⟨1, _⟩ => exact Fin.ext (by show ((i 0).val * 1024 + (i 1).val) / 1024 % 2048 = (i 0).val % 2048; omega)
      | ⟨2, _⟩ => exact Fin.ext (by show ((i 0).val * 1024 + (i 1).val) % 1024 = (i 1).val; omega)]
  exact v38 x0 x1 x2 x3 x4 x5 _ _ (i 1)

end Cert.FfnRefIdeal.Rd

end
-- ==== Proof.lean ====
/-
  The proof of `Cert.Claim`: the generated frames, and the kernels' value runs set beside the references' runs.
-/
module

public import proofs.«01_k».proof.Proof.Gen.Merge.Frame
public import proofs.«01_k».proof.Proof.Gen.MergeIdeal.Value
public import proofs.«01_k».proof.Proof.Gen.MergeRefIdeal.Read
public import proofs.«01_k».proof.Proof.Gen.Mix.Frame
public import proofs.«01_k».proof.Proof.Gen.MixIdeal.Value
public import proofs.«01_k».proof.Proof.Gen.MixRefIdeal.Read
public import proofs.«01_k».proof.Proof.Gen.Pre_finite
public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.MixFinal
public import proofs.«01_k».proof.Proof.MixRef
public import proofs.«01_k».proof.Proof.MergeArray
public import proofs.«01_k».proof.Proof.MergeRef
public import proofs.«01_k».proof.Proof.FfnArray
public import proofs.«01_k».proof.Proof.FfnRef
public import Idealize.ShloMosaic.Adequacy
public import Idealize.ShloMosaic.Init

@[expose] public section

noncomputable section

namespace Cert.Proof

open Idealize.ShloMosaic Idealize.SL.Sem Idealize.ShloMosaic.TcCoe

/-- The feed-forward kernel on the extended reals computes its reference. -/
theorem ffn_algebraic : Cert.algebraic_FfnIdeal_FfnRefIdeal := by
  intro m ρ m' ρ' _ hag
  refine ⟨fun c => Cert.FfnIdeal.Arr.G m c, ?_, ?_⟩
  · exact (θ_run Cert.FfnIdeal.defs _ _).mono (fun _ h c => ⟨(h c).1.trans (Cert.FfnIdeal.Arr.final m c), (h c).2⟩)
      (Cert.FfnIdeal.Value.run_blocks m ρ)
  · refine (θ_run Cert.FfnRefIdeal.defs _ _).mono (fun _ h c => ⟨(h c).1.trans ?_, (h c).2⟩) (Cert.FfnRefIdeal.Value.run (F := Ideal) m' ρ')
    obtain ⟨e0, e1, e2, e3, e4, e5⟩ := hag c
    rw [Cert.FfnRefIdeal.Read.val_main_v39_eq, Cert.FfnRefIdeal.Rd.v39]
    rw [e0, e1, e2, e3, e4, e5]

/-- The merge kernel on the extended reals computes its reference. -/
theorem merge_algebraic : Cert.algebraic_MergeIdeal_MergeRefIdeal := by
  intro m ρ m' ρ' _ hag
  refine ⟨fun c => Cert.MergeIdeal.Arr.G m c, ?_, ?_⟩
  · exact (θ_run Cert.MergeIdeal.defs _ _).mono (fun _ h c => ⟨(h c).1.trans (Cert.MergeIdeal.Arr.final m c), (h c).2⟩)
      (Cert.MergeIdeal.Value.run_blocks m ρ)
  · refine (θ_run Cert.MergeRefIdeal.defs _ _).mono (fun _ h c => ⟨(h c).1.trans ?_, (h c).2⟩) (Cert.MergeRefIdeal.Value.run (F := Ideal) m' ρ')
    obtain ⟨e0, e1, e2, e3, e4, e5, e6, e7, e8⟩ := hag c
    rw [Cert.MergeRefIdeal.Read.val_main_v55_eq, Cert.MergeRefIdeal.Rd.v55]
    rw [e0, e1, e2, e3, e4, e5, e6, e7, e8]

/-- An extended real whose absolute value is below the top is a real. -/
theorem fin_of (x : EReal) (h : Ideal.cmp .olt (max x (-x)) (Ideal.ofBits .f32 0x7F800000#32) = 1#1) : Layer.Fin' x := by
  have e : Ideal.ofBits .f32 0x7F800000#32 = (⊤ : EReal) := by
    simp [Ideal.ofBits, Ideal.ieee]
  rw [e] at h
  have hl : max x (-x) < ⊤ := by
    by_contra hn
    have hz : Ideal.cmp .olt (max x (-x)) ⊤ = 0#1 := by
      show BitVec.ofBool (decide _) = _
      rw [decide_eq_false hn]; rfl
    rw [hz] at h
    exact absurd h (by decide)
  induction x using EReal.rec with
  | bot => exact absurd hl (by simp)
  | coe r => exact ⟨r, rfl⟩
  | top => exact absurd hl (by simp)

/-- Where the gain and the projection are finite, the mixer's input kernel on the extended reals computes its reference. -/
theorem mix_algebraic : Cert.algebraic_MixIdeal_MixRefIdeal_pre_finite (hPre_finite := Cert.Pre_finite.Gen.facts) := by
  intro m ρ m' ρ' hp hag
  have hg : ∀ c k, Layer.Fin' (Cert.MixIdeal.Arr.AG m c k) := fun c k => fin_of _ (congrFun (hp c).1 k)
  have hw : ∀ c k, Layer.Fin' (Cert.MixIdeal.Arr.AW m c k) := fun c k => fin_of _ (congrFun (hp c).2 k)
  refine ⟨fun c => Cert.MixIdeal.Arr.R9 m c, fun c => Cert.MixIdeal.Arr.R10 m c, fun c => Cert.MixIdeal.Arr.R11 m c, fun c => Cert.MixIdeal.Arr.R12 m c,
    fun c => Cert.MixIdeal.Arr.R13 m c, fun c => Cert.MixIdeal.Arr.R14 m c, fun c => Cert.MixIdeal.Arr.R15 m c, ?_, ?_⟩
  · refine (θ_run Cert.MixIdeal.defs _ _).mono (fun _ h c => ?_) (Cert.MixIdeal.Value.run_blocks m ρ)
    obtain ⟨h0, h1, h2, h3, h4, h5, h6, ha⟩ := h c
    exact ⟨h0.trans (Cert.MixIdeal.Arr.final9 m c (hg c) (hw c)), h1.trans (Cert.MixIdeal.Arr.final10 m c (hg c) (hw c)),
      h2.trans (Cert.MixIdeal.Arr.final11 m c (hg c) (hw c)), h3.trans (Cert.MixIdeal.Arr.final12 m c (hg c) (hw c)),
      h4.trans (Cert.MixIdeal.Arr.final13 m c (hg c) (hw c)), h5.trans (Cert.MixIdeal.Arr.final14 m c (hg c) (hw c)),
      h6.trans (Cert.MixIdeal.Arr.final15 m c (hg c) (hw c)), ha⟩
  · refine (θ_run Cert.MixRefIdeal.defs _ _).mono (fun _ h c => ?_) (Cert.MixRefIdeal.Value.run (F := Ideal) m' ρ')
    obtain ⟨h0, h1, h2, h3, h4, h5, h6, ha⟩ := h c
    obtain ⟨e0, e1, e2, e3, e4, e5⟩ := hag c
    refine ⟨h0.trans ?_, h1.trans ?_, h2.trans ?_, h3.trans ?_, h4.trans ?_, h5.trans ?_, h6.trans ?_, ha⟩ <;> clear h h0 h1 h2 h3 h4 h5 h6 ha hg hw hp hag
    · rw [Cert.MixRefIdeal.Read.val_main_v143_eq, Cert.MixRefIdeal.Rd.v143]
      exact congr (congr (congrArg Layer.qArr e0) e1) e2
    · rw [Cert.MixRefIdeal.Read.val_main_v145_eq, Cert.MixRefIdeal.Rd.v145]
      exact congrFun (congrFun (congr (congr (congrArg Layer.colArr e0) e1) e2) 512) _
    · rw [Cert.MixRefIdeal.Read.val_main_v147_eq, Cert.MixRefIdeal.Rd.v147]
      exact congrFun (congrFun (congr (congr (congrArg Layer.colArr e0) e1) e2) 1024) _
    · rw [Cert.MixRefIdeal.Read.val_main_v149_eq, Cert.MixRefIdeal.Rd.v149]
      exact congr (congr (congrArg Layer.orArr e0) e1) e2
    · rw [Cert.MixRefIdeal.Read.val_main_v151_eq, Cert.MixRefIdeal.Rd.v151]
      exact congrArg Layer.plain2 e3
    · rw [Cert.MixRefIdeal.Read.val_main_v153_eq, Cert.MixRefIdeal.Rd.v153]
      exact congrArg Layer.plain2 e4
    · rw [Cert.MixRefIdeal.Read.val_main_v155_eq, Cert.MixRefIdeal.Rd.v155]
      exact congrArg Layer.plain2 e5

/-- The programs' facts, their frames and the value claims together. -/
theorem claim : Cert.Claim := ⟨Cert.Ffn.Gen.facts, Cert.FfnIdeal.Gen.facts, Cert.FfnRefIdeal.Gen.facts,
  Cert.Merge.Gen.facts, Cert.MergeIdeal.Gen.facts, Cert.MergeRefIdeal.Gen.facts,
  Cert.Mix.Gen.facts, Cert.MixIdeal.Gen.facts, Cert.MixRefIdeal.Gen.facts, Cert.Pre_finite.Gen.facts,
  fun m ρ _ => Cert.Ffn.Gen.frame m ρ, fun m ρ _ => Cert.FfnIdeal.Gen.frame m ρ,
  fun m ρ _ => (θ_run Cert.FfnRefIdeal.defs _ _).mono (fun r h => ⟨fun c => (h c).2,
    Idealize.ShloMosaic.sem_eq_zero_of_no_sems (by decide) r.2⟩) (Cert.FfnRefIdeal.Value.run (F := Ideal) m ρ),
  fun m ρ _ => Cert.Merge.Gen.frame m ρ, fun m ρ _ => Cert.MergeIdeal.Gen.frame m ρ,
  fun m ρ _ => (θ_run Cert.MergeRefIdeal.defs _ _).mono (fun r h => ⟨fun c => (h c).2,
    Idealize.ShloMosaic.sem_eq_zero_of_no_sems (by decide) r.2⟩) (Cert.MergeRefIdeal.Value.run (F := Ideal) m ρ),
  fun m ρ _ => Cert.Mix.Gen.frame m ρ, fun m ρ _ => Cert.MixIdeal.Gen.frame m ρ,
  fun m ρ _ => Cert.MixIdeal.Gen.frame m ρ,
  fun m ρ _ => (θ_run Cert.MixRefIdeal.defs _ _).mono (fun r h => ⟨fun c => (h c).2.2.2.2.2.2.2,
    Idealize.ShloMosaic.sem_eq_zero_of_no_sems (by decide) r.2⟩) (Cert.MixRefIdeal.Value.run (F := Ideal) m ρ),
  fun m ρ _ => (θ_run Cert.MixRefIdeal.defs _ _).mono (fun r h => ⟨fun c => (h c).2.2.2.2.2.2.2,
    Idealize.ShloMosaic.sem_eq_zero_of_no_sems (by decide) r.2⟩) (Cert.MixRefIdeal.Value.run (F := Ideal) m ρ),
  trivial, ffn_algebraic, trivial, merge_algebraic, trivial, mix_algebraic⟩

end Cert.Proof

end
